-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "q_scale" .f32 0x3E38AA3B#32 (((Real.log 2)⁻¹ * (Real.sqrt 64)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)) (v5 : (c : Dev Cert.Kernel2Ideal.nD) → Buf (Elt Ideal) ((c.tc : Thread Cert.Kernel2Ideal.nD Cert.Kernel2Ideal.τ).loc Cert.Kernel2Ideal.main_v26_5)) (v6 : (c : Dev Cert.Kernel2Ideal.nD) → Buf (Elt Ideal) ((c.tc : Thread Cert.Kernel2Ideal.nD Cert.Kernel2Ideal.τ).loc Cert.Kernel2Ideal.main_v26_6)) (v7 : (c : Dev Cert.Kernel2Ideal.nD) → Buf (Elt Ideal) ((c.tc : Thread Cert.Kernel2Ideal.nD Cert.Kernel2Ideal.τ).loc Cert.Kernel2Ideal.main_v26_7)) (v8 : (c : Dev Cert.Kernel2Ideal.nD) → Buf (Elt Ideal) ((c.tc : Thread Cert.Kernel2Ideal.nD Cert.Kernel2Ideal.τ).loc Cert.Kernel2Ideal.main_v26_8)) (v9 : (c : Dev Cert.Kernel2Ideal.nD) → Buf (Elt Ideal) ((c.tc : Thread Cert.Kernel2Ideal.nD Cert.Kernel2Ideal.τ).loc Cert.Kernel2Ideal.main_v26_9)) (v10 : (c : Dev Cert.Kernel2Ideal.nD) → Buf (Elt Ideal) ((c.tc : Thread Cert.Kernel2Ideal.nD Cert.Kernel2Ideal.τ).loc Cert.Kernel2Ideal.main_v26_10)) (v11 : (c : Dev Cert.Kernel2Ideal.nD) → Buf (Elt Ideal) ((c.tc : Thread Cert.Kernel2Ideal.nD Cert.Kernel2Ideal.τ).loc Cert.Kernel2Ideal.main_v26_11)) (v12 : (c : Dev Cert.Kernel2Ideal.nD) → Buf (Elt Ideal) ((c.tc : Thread Cert.Kernel2Ideal.nD Cert.Kernel2Ideal.τ).loc Cert.Kernel2Ideal.main_v26_12)) (v13 : (c : Dev Cert.Kernel2Ideal.nD) → Buf (Elt Ideal) ((c.tc : Thread Cert.Kernel2Ideal.nD Cert.Kernel2Ideal.τ).loc Cert.Kernel2Ideal.main_v26_13)) (v14 : (c : Dev Cert.Kernel2Ideal.nD) → Buf (Elt Ideal) ((c.tc : Thread Cert.Kernel2Ideal.nD Cert.Kernel2Ideal.τ).loc Cert.Kernel2Ideal.main_v26_14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_v26_5) = v5 c
          ∧ r.2.mem ((c.tc : Thread Cert.Kernel2Ideal.nD Cert.Kernel2Ideal.τ).loc Cert.Kernel2Ideal.main_v26_6) = v6 c
          ∧ r.2.mem ((c.tc : Thread Cert.Kernel2Ideal.nD Cert.Kernel2Ideal.τ).loc Cert.Kernel2Ideal.main_v26_7) = v7 c
          ∧ r.2.mem ((c.tc : Thread Cert.Kernel2Ideal.nD Cert.Kernel2Ideal.τ).loc Cert.Kernel2Ideal.main_v26_8) = v8 c
          ∧ r.2.mem ((c.tc : Thread Cert.Kernel2Ideal.nD Cert.Kernel2Ideal.τ).loc Cert.Kernel2Ideal.main_v26_9) = v9 c
          ∧ r.2.mem ((c.tc : Thread Cert.Kernel2Ideal.nD Cert.Kernel2Ideal.τ).loc Cert.Kernel2Ideal.main_v26_10) = v10 c
          ∧ r.2.mem ((c.tc : Thread Cert.Kernel2Ideal.nD Cert.Kernel2Ideal.τ).loc Cert.Kernel2Ideal.main_v26_11) = v11 c
          ∧ r.2.mem ((c.tc : Thread Cert.Kernel2Ideal.nD Cert.Kernel2Ideal.τ).loc Cert.Kernel2Ideal.main_v26_12) = v12 c
          ∧ r.2.mem ((c.tc : Thread Cert.Kernel2Ideal.nD Cert.Kernel2Ideal.τ).loc Cert.Kernel2Ideal.main_v26_13) = v13 c
          ∧ r.2.mem ((c.tc : Thread Cert.Kernel2Ideal.nD Cert.Kernel2Ideal.τ).loc Cert.Kernel2Ideal.main_v26_14) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v168) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v169) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_v170) = v4 c
          ∧ r.2.mem ((c.tc : Thread Cert.Reference2Ideal.nD Cert.Reference2Ideal.τ).loc Cert.Reference2Ideal.main_v17) = v5 c
          ∧ r.2.mem ((c.tc : Thread Cert.Reference2Ideal.nD Cert.Reference2Ideal.τ).loc Cert.Reference2Ideal.main_v206) = v6 c
          ∧ r.2.mem ((c.tc : Thread Cert.Reference2Ideal.nD Cert.Reference2Ideal.τ).loc Cert.Reference2Ideal.main_v96) = v7 c
          ∧ r.2.mem ((c.tc : Thread Cert.Reference2Ideal.nD Cert.Reference2Ideal.τ).loc Cert.Reference2Ideal.main_v207) = v8 c
          ∧ r.2.mem ((c.tc : Thread Cert.Reference2Ideal.nD Cert.Reference2Ideal.τ).loc Cert.Reference2Ideal.main_v20) = v9 c
          ∧ r.2.mem ((c.tc : Thread Cert.Reference2Ideal.nD Cert.Reference2Ideal.τ).loc Cert.Reference2Ideal.main_v208) = v10 c
          ∧ r.2.mem ((c.tc : Thread Cert.Reference2Ideal.nD Cert.Reference2Ideal.τ).loc Cert.Reference2Ideal.main_v21) = v11 c
          ∧ r.2.mem ((c.tc : Thread Cert.Reference2Ideal.nD Cert.Reference2Ideal.τ).loc Cert.Reference2Ideal.main_v244) = v12 c
          ∧ r.2.mem ((c.tc : Thread Cert.Reference2Ideal.nD Cert.Reference2Ideal.τ).loc Cert.Reference2Ideal.main_v132) = v13 c
          ∧ r.2.mem ((c.tc : Thread Cert.Reference2Ideal.nD Cert.Reference2Ideal.τ).loc Cert.Reference2Ideal.main_v245) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)) (v2 : (c : Dev Cert.Kernel4Ideal.nD) → Buf (Elt Ideal) ((c.tc : Thread Cert.Kernel4Ideal.nD Cert.Kernel4Ideal.τ).loc Cert.Kernel4Ideal.main_v31_2)) (v3 : (c : Dev Cert.Kernel4Ideal.nD) → Buf (Elt Ideal) ((c.tc : Thread Cert.Kernel4Ideal.nD Cert.Kernel4Ideal.τ).loc Cert.Kernel4Ideal.main_v31_3)) (v4 : (c : Dev Cert.Kernel4Ideal.nD) → Buf (Elt Ideal) ((c.tc : Thread Cert.Kernel4Ideal.nD Cert.Kernel4Ideal.τ).loc Cert.Kernel4Ideal.main_v31_4)) (v5 : (c : Dev Cert.Kernel4Ideal.nD) → Buf (Elt Ideal) ((c.tc : Thread Cert.Kernel4Ideal.nD Cert.Kernel4Ideal.τ).loc Cert.Kernel4Ideal.main_v31_5)) (v6 : (c : Dev Cert.Kernel4Ideal.nD) → Buf (Elt Ideal) ((c.tc : Thread Cert.Kernel4Ideal.nD Cert.Kernel4Ideal.τ).loc Cert.Kernel4Ideal.main_v31_6)) (v7 : (c : Dev Cert.Kernel4Ideal.nD) → Buf (Elt Ideal) ((c.tc : Thread Cert.Kernel4Ideal.nD Cert.Kernel4Ideal.τ).loc Cert.Kernel4Ideal.main_v31_7)) (v8 : (c : Dev Cert.Kernel4Ideal.nD) → Buf (Elt Ideal) ((c.tc : Thread Cert.Kernel4Ideal.nD Cert.Kernel4Ideal.τ).loc Cert.Kernel4Ideal.main_v31_8)) (v9 : (c : Dev Cert.Kernel4Ideal.nD) → Buf (Elt Ideal) ((c.tc : Thread Cert.Kernel4Ideal.nD Cert.Kernel4Ideal.τ).loc Cert.Kernel4Ideal.main_v31_9)) (v10 : (c : Dev Cert.Kernel4Ideal.nD) → Buf (Elt Ideal) ((c.tc : Thread Cert.Kernel4Ideal.nD Cert.Kernel4Ideal.τ).loc Cert.Kernel4Ideal.main_v31_10)) (v11 : (c : Dev Cert.Kernel4Ideal.nD) → Buf (Elt Ideal) ((c.tc : Thread Cert.Kernel4Ideal.nD Cert.Kernel4Ideal.τ).loc Cert.Kernel4Ideal.main_v31_11)) (v12 : (c : Dev Cert.Kernel4Ideal.nD) → Buf (Elt Ideal) ((c.tc : Thread Cert.Kernel4Ideal.nD Cert.Kernel4Ideal.τ).loc Cert.Kernel4Ideal.main_v31_12)) (v13 : (c : Dev Cert.Kernel4Ideal.nD) → Buf (Elt Ideal) ((c.tc : Thread Cert.Kernel4Ideal.nD Cert.Kernel4Ideal.τ).loc Cert.Kernel4Ideal.main_v31_13)) (v14 : (c : Dev Cert.Kernel4Ideal.nD) → Buf (Elt Ideal) ((c.tc : Thread Cert.Kernel4Ideal.nD Cert.Kernel4Ideal.τ).loc Cert.Kernel4Ideal.main_v31_14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_v31_2) = v2 c
          ∧ r.2.mem ((c.tc : Thread Cert.Kernel4Ideal.nD Cert.Kernel4Ideal.τ).loc Cert.Kernel4Ideal.main_v31_3) = v3 c
          ∧ r.2.mem ((c.tc : Thread Cert.Kernel4Ideal.nD Cert.Kernel4Ideal.τ).loc Cert.Kernel4Ideal.main_v31_4) = v4 c
          ∧ r.2.mem ((c.tc : Thread Cert.Kernel4Ideal.nD Cert.Kernel4Ideal.τ).loc Cert.Kernel4Ideal.main_v31_5) = v5 c
          ∧ r.2.mem ((c.tc : Thread Cert.Kernel4Ideal.nD Cert.Kernel4Ideal.τ).loc Cert.Kernel4Ideal.main_v31_6) = v6 c
          ∧ r.2.mem ((c.tc : Thread Cert.Kernel4Ideal.nD Cert.Kernel4Ideal.τ).loc Cert.Kernel4Ideal.main_v31_7) = v7 c
          ∧ r.2.mem ((c.tc : Thread Cert.Kernel4Ideal.nD Cert.Kernel4Ideal.τ).loc Cert.Kernel4Ideal.main_v31_8) = v8 c
          ∧ r.2.mem ((c.tc : Thread Cert.Kernel4Ideal.nD Cert.Kernel4Ideal.τ).loc Cert.Kernel4Ideal.main_v31_9) = v9 c
          ∧ r.2.mem ((c.tc : Thread Cert.Kernel4Ideal.nD Cert.Kernel4Ideal.τ).loc Cert.Kernel4Ideal.main_v31_10) = v10 c
          ∧ r.2.mem ((c.tc : Thread Cert.Kernel4Ideal.nD Cert.Kernel4Ideal.τ).loc Cert.Kernel4Ideal.main_v31_11) = v11 c
          ∧ r.2.mem ((c.tc : Thread Cert.Kernel4Ideal.nD Cert.Kernel4Ideal.τ).loc Cert.Kernel4Ideal.main_v31_12) = v12 c
          ∧ r.2.mem ((c.tc : Thread Cert.Kernel4Ideal.nD Cert.Kernel4Ideal.τ).loc Cert.Kernel4Ideal.main_v31_13) = v13 c
          ∧ r.2.mem ((c.tc : Thread Cert.Kernel4Ideal.nD Cert.Kernel4Ideal.τ).loc Cert.Kernel4Ideal.main_v31_14) = v14 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v188) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v189) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_v190) = v4 c
          ∧ r.2.mem ((c.tc : Thread Cert.Reference4Ideal.nD Cert.Reference4Ideal.τ).loc Cert.Reference4Ideal.main_v17) = v5 c
          ∧ r.2.mem ((c.tc : Thread Cert.Reference4Ideal.nD Cert.Reference4Ideal.τ).loc Cert.Reference4Ideal.main_v231) = v6 c
          ∧ r.2.mem ((c.tc : Thread Cert.Reference4Ideal.nD Cert.Reference4Ideal.τ).loc Cert.Reference4Ideal.main_v106) = v7 c
          ∧ r.2.mem ((c.tc : Thread Cert.Reference4Ideal.nD Cert.Reference4Ideal.τ).loc Cert.Reference4Ideal.main_v232) = v8 c
          ∧ r.2.mem ((c.tc : Thread Cert.Reference4Ideal.nD Cert.Reference4Ideal.τ).loc Cert.Reference4Ideal.main_v20) = v9 c
          ∧ r.2.mem ((c.tc : Thread Cert.Reference4Ideal.nD Cert.Reference4Ideal.τ).loc Cert.Reference4Ideal.main_v233) = v10 c
          ∧ r.2.mem ((c.tc : Thread Cert.Reference4Ideal.nD Cert.Reference4Ideal.τ).loc Cert.Reference4Ideal.main_v21) = v11 c
          ∧ r.2.mem ((c.tc : Thread Cert.Reference4Ideal.nD Cert.Reference4Ideal.τ).loc Cert.Reference4Ideal.main_v274) = v12 c
          ∧ r.2.mem ((c.tc : Thread Cert.Reference4Ideal.nD Cert.Reference4Ideal.τ).loc Cert.Reference4Ideal.main_v147) = v13 c
          ∧ r.2.mem ((c.tc : Thread Cert.Reference4Ideal.nD Cert.Reference4Ideal.τ).loc Cert.Reference4Ideal.main_v275) = v14 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v25_3)) (v4 : (c : Dev Cert.Kernel5Ideal.nD) → Buf (Elt Ideal) ((c.tc : Thread Cert.Kernel5Ideal.nD Cert.Kernel5Ideal.τ).loc Cert.Kernel5Ideal.main_v25_4)) (v5 : (c : Dev Cert.Kernel5Ideal.nD) → Buf (Elt Ideal) ((c.tc : Thread Cert.Kernel5Ideal.nD Cert.Kernel5Ideal.τ).loc Cert.Kernel5Ideal.main_v25_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_v25_3) = v3 c
          ∧ r.2.mem ((c.tc : Thread Cert.Kernel5Ideal.nD Cert.Kernel5Ideal.τ).loc Cert.Kernel5Ideal.main_v25_4) = v4 c
          ∧ r.2.mem ((c.tc : Thread Cert.Kernel5Ideal.nD Cert.Kernel5Ideal.τ).loc Cert.Kernel5Ideal.main_v25_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v90) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v17) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)) (v3 : (c : Dev Cert.Kernel6Ideal.nD) → Buf (Elt Ideal) ((c.tc : Thread Cert.Kernel6Ideal.nD Cert.Kernel6Ideal.τ).loc Cert.Kernel6Ideal.main_v30_3)) (v4 : (c : Dev Cert.Kernel6Ideal.nD) → Buf (Elt Ideal) ((c.tc : Thread Cert.Kernel6Ideal.nD Cert.Kernel6Ideal.τ).loc Cert.Kernel6Ideal.main_v30_4)) (v5 : (c : Dev Cert.Kernel6Ideal.nD) → Buf (Elt Ideal) ((c.tc : Thread Cert.Kernel6Ideal.nD Cert.Kernel6Ideal.τ).loc Cert.Kernel6Ideal.main_v30_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_v30_3) = v3 c
          ∧ r.2.mem ((c.tc : Thread Cert.Kernel6Ideal.nD Cert.Kernel6Ideal.τ).loc Cert.Kernel6Ideal.main_v30_4) = v4 c
          ∧ r.2.mem ((c.tc : Thread Cert.Kernel6Ideal.nD Cert.Kernel6Ideal.τ).loc Cert.Kernel6Ideal.main_v30_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v99) = v0 c
          ∧ r.2.mem ((c.tc : Thread Cert.Reference6Ideal.nD Cert.Reference6Ideal.τ).loc Cert.Reference6Ideal.main_v58) = v1 c
          ∧ r.2.mem ((c.tc : Thread Cert.Reference6Ideal.nD Cert.Reference6Ideal.τ).loc Cert.Reference6Ideal.main_v100) = v2 c
          ∧ r.2.mem ((c.tc : Thread Cert.Reference6Ideal.nD Cert.Reference6Ideal.τ).loc Cert.Reference6Ideal.main_v16) = v3 c
          ∧ r.2.mem ((c.tc : Thread Cert.Reference6Ideal.nD Cert.Reference6Ideal.τ).loc Cert.Reference6Ideal.main_v101) = v4 c
          ∧ r.2.mem ((c.tc : Thread Cert.Reference6Ideal.nD Cert.Reference6Ideal.τ).loc Cert.Reference6Ideal.main_v17) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x1024 : Shape := ⟨2, ![16384, 1024]⟩
abbrev S1x1 : Shape := ⟨2, ![1, 1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v15 : IVec S_ 1) (main_v16 : FVec F S1x1 .f32) (main_cst_4 : FVec F S_ .f32) : IVec S_ 1 :=
  let main_v17 : FVec F S1x1 .f32 := broadcastInDim S1x1 ![] bcast_S_S1x1 main_cst_4
  let main_v18 : IVec S1x1 1 := cmpf .olt main_v16 main_v17
  let main_c_5 : IVec S_ 1 := constantI S_ 1 1#1
  let main_v19 : IVec S_ 1 := (fun x v => Host.reduce IntOp.andi x v reducesTo_S1x1_S_d0_1 h_S_) main_v18 main_c_5
  let main_v20 : IVec S_ 1 := andi main_v15 main_v19
  main_v20

def fn {F : FTy → Type} [FloatOps F] (main_arg0 : FVec F S16384x1024 .f32) (main_arg1 : FVec F S16384x1024 .bf16) (main_arg2 : FVec F S16384x1024 .bf16) (main_arg3 : FVec F S1x1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v3 main_v8
  let main_v10 : FVec F S16384x1024 .f32 := (extf .f32 · bitsLt_bf16_f32) main_arg2
  let main_v11 : FVec F S16384x1024 .f32 := Host.absf main_v10
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v9 main_v14
  let main_v16 : FVec F S1x1 .f32 := Host.absf main_arg3
  let main_cst_4 : FVec F S_ .f32 := constant S_ .f32 0x7F800000#32
  fn_part1 (F := F) main_v15 main_v16 main_cst_4
-- ==== Kernel.lean ====
abbrev S16384x1024 : Shape := ⟨2, ![16384, 1024]⟩
abbrev S1x1 : Shape := ⟨2, ![1, 1]⟩
abbrev S512x1024 : Shape := ⟨2, ![512, 1024]⟩
abbrev S1024x1024 : Shape := ⟨2, ![1024, 1024]⟩
abbrev S16x512x128 : Shape := ⟨3, ![16, 512, 128]⟩
abbrev S512x128 : Shape := ⟨2, ![512, 128]⟩
abbrev S1024x128 : Shape := ⟨2, ![1024, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 5
  | .vmem => 11
  | .smem => 1
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S1x1, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S16x512x128, .f32⟩
  | .local _ .vmem, ⟨9, _⟩ => ⟨S16x512x128, .f32⟩
  | .local _ .vmem, ⟨10, _⟩ => ⟨S16x512x128, .f32⟩
  | .local _ .smem, ⟨0, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

def k0_cond4 (i : grid0.Coords) : BitVec 1 :=
  let arg1 : BitVec 32 := BitVec.ofNat 32 (i 1).val
  let c15_i32 : BitVec 32 := 15#32
  let v52 : BitVec 1 := Scalar.cmpi .eq arg1 c15_i32
  let v53 : BitVec 32 := Scalar.extui v52
  let c0_i32_18 : BitVec 32 := 0#32
  let v54 : BitVec 1 := Scalar.cmpi .ne v53 c0_i32_18
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg1 v19
  let c0_i32_6 : BitVec 32 := 0#32
  let c0_i32_7 : BitVec 32 := 0#32
  ![v20.toNat, c0_i32_6.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg1 v19
  let c0_i32_6 : BitVec 32 := 0#32
  let c0_i32_7 : BitVec 32 := 0#32
  ![v20.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "mask" => some ⊥
  | "q_scale" => some (((Real.log 2)⁻¹ * (Real.sqrt 64)⁻¹ : ℝ) : EReal)
  | _ => none
-- ==== ReferenceIdeal.lean ====
abbrev S16384x1024 : Shape := ⟨2, ![16384, 1024]⟩
abbrev S1x1 : Shape := ⟨2, ![1, 1]⟩
abbrev S16384x8x2x64 : Shape := ⟨4, ![16384, 8, 2, 64]⟩
abbrev S16384x8x128 : Shape := ⟨3, ![16384, 8, 128]⟩
abbrev S16384 : Shape := ⟨1, ![16384]⟩
abbrev S8x2x16384x16384 : Shape := ⟨4, ![8, 2, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x2x16384 : Shape := ⟨3, ![8, 2, 16384]⟩
abbrev S8x2x16384x1 : Shape := ⟨4, ![8, 2, 16384, 1]⟩
abbrev S8x1x16384x16384 : Shape := ⟨4, ![8, 1, 16384, 16384]⟩
abbrev S8x16384x16384 : Shape := ⟨3, ![8, 16384, 16384]⟩
abbrev S8x128x16384 : Shape := ⟨3, ![8, 128, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S1x1, .f32⟩
  | .hbm, ⟨4, _⟩ => ⟨S16384x8x2x64, .f32⟩
  | .hbm, ⟨5, _⟩ => ⟨S16384x1024, .f32⟩
  | .hbm, ⟨6, _⟩ => ⟨S16384x8x2x64, .f32⟩
  | .hbm, ⟨7, _⟩ => ⟨S16384x1024, .f32⟩
  | .hbm, ⟨8, _⟩ => ⟨S16384x8x128, .f32⟩
  | .hbm, ⟨9, _⟩ => ⟨S16384, .i32⟩
  | .hbm, ⟨10, _⟩ => ⟨S8x2x16384x16384, .f32⟩
  | .hbm, ⟨11, _⟩ => ⟨S_, .f32⟩
  | .hbm, ⟨12, _⟩ => ⟨S8x2x16384x16384, .f32⟩
  | .hbm, ⟨13, _⟩ => ⟨S8x2x16384x16384, .f32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S8x2x16384x16384, .i1⟩
  | .hbm, ⟨22, _⟩ => ⟨S8x2x16384x16384, .f32⟩
  | .hbm, ⟨23, _⟩ => ⟨S8x2x16384x16384, .f32⟩
  | .hbm, ⟨24, _⟩ => ⟨S_, .f32⟩
  | .hbm, ⟨25, _⟩ => ⟨S8x2x16384, .f32⟩
  | .hbm, ⟨26, _⟩ => ⟨S_, .f32⟩
  | .hbm, ⟨27, _⟩ => ⟨S8x2x16384, .f32⟩
  | .hbm, ⟨28, _⟩ => ⟨S8x2x16384, .f32⟩
  | .hbm, ⟨29, _⟩ => ⟨S8x2x16384x1, .f32⟩
  | .hbm, ⟨30, _⟩ => ⟨S8x2x16384x16384, .f32⟩
  | .hbm, ⟨31, _⟩ => ⟨S8x2x16384x16384, .f32⟩
  | .hbm, ⟨32, _⟩ => ⟨S8x2x16384x16384, .f32⟩
  | .hbm, ⟨33, _⟩ => ⟨S_, .f32⟩
  | .hbm, ⟨34, _⟩ => ⟨S8x2x16384, .f32⟩
  | .hbm, ⟨35, _⟩ => ⟨S8x2x16384x1, .f32⟩
  | .hbm, ⟨36, _⟩ => ⟨S8x2x16384x16384, .f32⟩
  | .hbm, ⟨37, _⟩ => ⟨S8x2x16384x16384, .f32⟩
  | .hbm, ⟨38, _⟩ => ⟨S8x1x16384x16384, .f32⟩
  | .hbm, ⟨39, _⟩ => ⟨S8x16384x16384, .f32⟩
  | .hbm, ⟨40, _⟩ => ⟨S_, .f32⟩
  | .hbm, ⟨41, _⟩ => ⟨S8x1x16384x16384, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S8x16384x16384, .f32⟩
  | .hbm, ⟨46, _⟩ => ⟨S8x128x16384, .f32⟩
  | .hbm, ⟨47, _⟩ => ⟨S16384x8x128, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4680 : Shape := ⟨2, ![1024, 4680]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1024x4736 : Shape := ⟨2, ![1024, 4736]⟩
abbrev S1x1024 : Shape := ⟨2, ![1, 1024]⟩
abbrev S16384x512 : Shape := ⟨2, ![16384, 512]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩

abbrev nBuf : Space → Nat
  | .hbm => 50
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4680, .f32⟩
  | .hbm, ⟨3, _⟩ => ⟨S16384, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16384, .f32⟩
  | .hbm, ⟨19, _⟩ => ⟨S16384x1, .f32⟩
  | .hbm, ⟨20, _⟩ => ⟨S1x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x128, .f32⟩
  | .hbm, ⟨27, _⟩ => ⟨S16384x32, .f32⟩
  | .hbm, ⟨28, _⟩ => ⟨S16384x32, .f32⟩
  | .hbm, ⟨29, _⟩ => ⟨S16384x128, .f32⟩
  | .hbm, ⟨30, _⟩ => ⟨S_, .i32⟩
  | .hbm, ⟨31, _⟩ => ⟨S_, .f32⟩
  | .hbm, ⟨32, _⟩ => ⟨S1024x4736, .f32⟩
  | .hbm, ⟨33, _⟩ => ⟨S1024x4736, .bf16⟩
  | .hbm, ⟨34, _⟩ => ⟨S1x1024, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S16384x512, .f32⟩
  | .hbm, ⟨39, _⟩ => ⟨S16384x512, .bf16⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .bf16⟩
  | .hbm, ⟨44, _⟩ => ⟨S16384x512, .f32⟩
  | .hbm, ⟨45, _⟩ => ⟨S16384x512, .bf16⟩
  | .hbm, ⟨46, _⟩ => ⟨S16384x512, .f32⟩
  | .hbm, ⟨47, _⟩ => ⟨S16384x512, .f32⟩
  | .hbm, ⟨48, _⟩ => ⟨S16384x128, .f32⟩
  | .hbm, ⟨49, _⟩ => ⟨S16384x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4736, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x128, .f32⟩
  | .local _ .vmem, ⟨35, _⟩ => ⟨S256x128, .f32⟩
  | .local _ .vmem, ⟨36, _⟩ => ⟨S256x128, .bf16⟩
  | .local _ .vmem, ⟨37, _⟩ => ⟨S256x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev main_v26_4 : Ref sig .tc := ⟨.hbm, 39, rfl⟩
abbrev main_v26_5 : Ref sig .tc := ⟨.hbm, 40, rfl⟩
abbrev main_v26_6 : Ref sig .tc := ⟨.hbm, 41, rfl⟩
abbrev main_v26_7 : Ref sig .tc := ⟨.hbm, 42, rfl⟩
abbrev main_v26_8 : Ref sig .tc := ⟨.hbm, 43, rfl⟩
abbrev main_v26_9 : Ref sig .tc := ⟨.hbm, 44, rfl⟩
abbrev main_v26_10 : Ref sig .tc := ⟨.hbm, 45, rfl⟩
abbrev main_v26_11 : Ref sig .tc := ⟨.hbm, 46, rfl⟩
abbrev main_v26_12 : Ref sig .tc := ⟨.hbm, 47, rfl⟩
abbrev main_v26_13 : Ref sig .tc := ⟨.hbm, 48, rfl⟩
abbrev main_v26_14 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S16384x1024 : Shape := ⟨2, ![16384, 1024]⟩
abbrev S1024 : Shape := ⟨1, ![1024]⟩
abbrev S1024x4680 : Shape := ⟨2, ![1024, 4680]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4680 : Shape := ⟨2, ![16384, 4680]⟩
abbrev S16384x512 : Shape := ⟨2, ![16384, 512]⟩
abbrev S16384x64 : Shape := ⟨2, ![16384, 64]⟩
abbrev S16384x8 : Shape := ⟨2, ![16384, 8]⟩
abbrev S16384x8x64 : Shape := ⟨3, ![16384, 8, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x8x32 : Shape := ⟨3, ![16384, 8, 32]⟩
abbrev S16384x1x64 : Shape := ⟨3, ![16384, 1, 64]⟩
abbrev S16384x56 : Shape := ⟨2, ![16384, 56]⟩
abbrev S16384x128 : Shape := ⟨2, ![16384, 128]⟩

abbrev nBuf : Space → Nat
  | .hbm => 278
  | .vmem => 0
  | .smem => 0
  | _ => 0

abbrev hbmTy0_0 (i : Nat) : BufTy := match i % 128 with
  | 0 => ⟨S16384x1024, .f32⟩
  | 1 => ⟨S1024, .f32⟩
  | 2 => ⟨S1024x4680, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x4680, .f32⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S16384x64, .f32⟩
  | 30 => ⟨S16384x8, .f32⟩
  | 31 => ⟨S16384x8x64, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S16384, .i32⟩
  | 47 => ⟨S16384, .f32⟩
  | 48 => ⟨S16384x1, .f32⟩
  | 49 => ⟨S1x32, .f32⟩
  | 50 => ⟨S16384x32, .f32⟩
  | 51 => ⟨S16384x32, .f32⟩
  | 52 => ⟨S16384x32, .f32⟩
  | 53 => ⟨S16384x32, .f32⟩
  | 54 => ⟨S16384x1x32, .f32⟩
  | 55 => ⟨S16384x32, .f32⟩
  | 56 => ⟨S16384x1x32, .f32⟩
  | 57 => ⟨S16384x8x32, .f32⟩
  | 58 => ⟨S16384x8x32, .f32⟩
  | 59 => ⟨S16384x8x32, .f32⟩
  | 60 => ⟨S16384x8x32, .f32⟩
  | 61 => ⟨S16384x8x32, .f32⟩
  | 62 => ⟨S16384x8x32, .f32⟩
  | 63 => ⟨S16384x8x32, .f32⟩
  | 64 => ⟨S16384x8x32, .f32⟩
  | 65 => ⟨S16384x8x32, .f32⟩
  | 66 => ⟨S16384x8x32, .f32⟩
  | 67 => ⟨S16384x8x32, .f32⟩
  | 68 => ⟨S16384x8x32, .f32⟩
  | 69 => ⟨S16384x8x64, .f32⟩
  | 70 => ⟨S16384x512, .f32⟩
  | 71 => ⟨S16384x8x64, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S16384, .i32⟩
  | 87 => ⟨S16384, .f32⟩
  | 88 => ⟨S16384x1, .f32⟩
  | 89 => ⟨S1x32, .f32⟩
  | 90 => ⟨S16384x32, .f32⟩
  | 91 => ⟨S16384x32, .f32⟩
  | 92 => ⟨S16384x32, .f32⟩
  | 93 => ⟨S16384x32, .f32⟩
  | 94 => ⟨S16384x1x32, .f32⟩
  | 95 => ⟨S16384x32, .f32⟩
  | 96 => ⟨S16384x1x32, .f32⟩
  | 97 => ⟨S16384x8x32, .f32⟩
  | 98 => ⟨S16384x8x32, .f32⟩
  | 99 => ⟨S16384x8x32, .f32⟩
  | 100 => ⟨S16384x8x32, .f32⟩
  | 101 => ⟨S16384x8x32, .f32⟩
  | 102 => ⟨S16384x8x32, .f32⟩
  | 103 => ⟨S16384x8x32, .f32⟩
  | 104 => ⟨S16384x8x32, .f32⟩
  | 105 => ⟨S16384x8x32, .f32⟩
  | 106 => ⟨S16384x8x32, .f32⟩
  | 107 => ⟨S16384x8x32, .f32⟩
  | 108 => ⟨S16384x8x32, .f32⟩
  | 109 => ⟨S16384x8x64, .f32⟩
  | 110 => ⟨S16384x512, .f32⟩
  | 111 => ⟨S16384x1x64, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S16384, .i32⟩
  | 127 => ⟨S16384, .f32⟩
  | _ => ⟨S16384x1024, .f32⟩

abbrev hbmTy0_1 (i : Nat) : BufTy := match i % 128 with
  | 0 => ⟨S16384x1, .f32⟩
  | 1 => ⟨S1x32, .f32⟩
  | 2 => ⟨S16384x32, .f32⟩
  | 3 => ⟨S16384x32, .f32⟩
  | 4 => ⟨S16384x32, .f32⟩
  | 5 => ⟨S16384x32, .f32⟩
  | 6 => ⟨S16384x1x32, .f32⟩
  | 7 => ⟨S16384x32, .f32⟩
  | 8 => ⟨S16384x1x32, .f32⟩
  | 9 => ⟨S16384x1x32, .f32⟩
  | 10 => ⟨S16384x1x32, .f32⟩
  | 11 => ⟨S16384x1x32, .f32⟩
  | 12 => ⟨S16384x1x32, .f32⟩
  | 13 => ⟨S16384x1x32, .f32⟩
  | 14 => ⟨S16384x1x32, .f32⟩
  | 15 => ⟨S16384x1x32, .f32⟩
  | 16 => ⟨S16384x1x32, .f32⟩
  | 17 => ⟨S16384x1x64, .f32⟩
  | 18 => ⟨S16384x64, .f32⟩
  | 19 => ⟨S_, .f32⟩
  | 20 => ⟨S16384x8, .f32⟩
  | 21 => ⟨S16384x8, .f32⟩
  | 22 => ⟨S_, .f32⟩
  | 23 => ⟨S16384x56, .f32⟩
  | 24 => ⟨S16384x128, .f32⟩
  | 25 => ⟨S16384x8x64, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S16384, .i32⟩
  | 41 => ⟨S16384, .f32⟩
  | 42 => ⟨S16384x1, .f32⟩
  | 43 => ⟨S1x32, .f32⟩
  | 44 => ⟨S16384x32, .f32⟩
  | 45 => ⟨S16384x32, .f32⟩
  | 46 => ⟨S16384x32, .f32⟩
  | 47 => ⟨S16384x32, .f32⟩
  | 48 => ⟨S16384x1x32, .f32⟩
  | 49 => ⟨S16384x32, .f32⟩
  | 50 => ⟨S16384x1x32, .f32⟩
  | 51 => ⟨S16384x8x32, .f32⟩
  | 52 => ⟨S16384x8x32, .f32⟩
  | 53 => ⟨S16384x8x32, .f32⟩
  | 54 => ⟨S16384x8x32, .f32⟩
  | 55 => ⟨S16384x8x32, .f32⟩
  | 56 => ⟨S16384x8x32, .f32⟩
  | 57 => ⟨S16384x8x32, .f32⟩
  | 58 => ⟨S16384x8x32, .f32⟩
  | 59 => ⟨S16384x8x32, .f32⟩
  | 60 => ⟨S16384x8x32, .f32⟩
  | 61 => ⟨S16384x8x32, .f32⟩
  | 62 => ⟨S16384x8x32, .f32⟩
  | 63 => ⟨S16384x8x64, .f32⟩
  | 64 => ⟨S16384x512, .f32⟩
  | 65 => ⟨S16384x512, .bf16⟩
  | 66 => ⟨S16384x512, .bf16⟩
  | 67 => ⟨S16384x8x64, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S16384, .i32⟩
  | 83 => ⟨S16384, .f32⟩
  | 84 => ⟨S16384x1, .f32⟩
  | 85 => ⟨S1x32, .f32⟩
  | 86 => ⟨S16384x32, .f32⟩
  | 87 => ⟨S16384x32, .f32⟩
  | 88 => ⟨S16384x32, .f32⟩
  | 89 => ⟨S16384x32, .f32⟩
  | 90 => ⟨S16384x1x32, .f32⟩
  | 91 => ⟨S16384x32, .f32⟩
  | 92 => ⟨S16384x1x32, .f32⟩
  | 93 => ⟨S16384x8x32, .f32⟩
  | 94 => ⟨S16384x8x32, .f32⟩
  | 95 => ⟨S16384x8x32, .f32⟩
  | 96 => ⟨S16384x8x32, .f32⟩
  | 97 => ⟨S16384x8x32, .f32⟩
  | 98 => ⟨S16384x8x32, .f32⟩
  | 99 => ⟨S16384x8x32, .f32⟩
  | 100 => ⟨S16384x8x32, .f32⟩
  | 101 => ⟨S16384x8x32, .f32⟩
  | 102 => ⟨S16384x8x32, .f32⟩
  | 103 => ⟨S16384x8x32, .f32⟩
  | 104 => ⟨S16384x8x32, .f32⟩
  | 105 => ⟨S16384x8x64, .f32⟩
  | 106 => ⟨S16384x512, .f32⟩
  | 107 => ⟨S16384x512, .bf16⟩
  | 108 => ⟨S16384x512, .bf16⟩
  | 109 => ⟨S16384x8x64, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S16384, .i32⟩
  | 125 => ⟨S16384, .f32⟩
  | 126 => ⟨S16384x1, .f32⟩
  | 127 => ⟨S1x32, .f32⟩
  | _ => ⟨S16384x1024, .f32⟩

abbrev hbmTy0_2 (i : Nat) : BufTy := match i % 128 with
  | 0 => ⟨S16384x32, .f32⟩
  | 1 => ⟨S16384x32, .f32⟩
  | 2 => ⟨S16384x32, .f32⟩
  | 3 => ⟨S16384x32, .f32⟩
  | 4 => ⟨S16384x1x32, .f32⟩
  | 5 => ⟨S16384x32, .f32⟩
  | 6 => ⟨S16384x1x32, .f32⟩
  | 7 => ⟨S16384x8x32, .f32⟩
  | 8 => ⟨S16384x8x32, .f32⟩
  | 9 => ⟨S16384x8x32, .f32⟩
  | 10 => ⟨S16384x8x32, .f32⟩
  | 11 => ⟨S16384x8x32, .f32⟩
  | 12 => ⟨S16384x8x32, .f32⟩
  | 13 => ⟨S16384x8x32, .f32⟩
  | 14 => ⟨S16384x8x32, .f32⟩
  | 15 => ⟨S16384x8x32, .f32⟩
  | 16 => ⟨S16384x8x32, .f32⟩
  | 17 => ⟨S16384x8x32, .f32⟩
  | 18 => ⟨S16384x8x32, .f32⟩
  | 19 => ⟨S16384x8x64, .f32⟩
  | 20 => ⟨S16384x512, .f32⟩
  | 21 => ⟨S16384x128, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_10 : Ref sig .tc := ⟨.hbm, 113, rfl⟩
abbrev main_v99 : Ref sig .tc := ⟨.hbm, 114, rfl⟩
abbrev main_v100 : Ref sig .tc := ⟨.hbm, 115, rfl⟩
abbrev main_cst_11 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_12 : Ref sig .tc := ⟨.hbm, 120, rfl⟩
abbrev main_v104 : Ref sig .tc := ⟨.hbm, 121, rfl⟩
abbrev main_v105 : Ref sig .tc := ⟨.hbm, 122, rfl⟩
abbrev main_cst_13 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_14 : Ref sig .tc := ⟨.hbm, 147, rfl⟩
abbrev main_v129 : Ref sig .tc := ⟨.hbm, 148, rfl⟩
abbrev main_v130 : Ref sig .tc := ⟨.hbm, 149, rfl⟩
abbrev main_cst_15 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_cst_16 : Ref sig .tc := ⟨.hbm, 155, rfl⟩
abbrev main_v135 : Ref sig .tc := ⟨.hbm, 156, rfl⟩
abbrev main_v136 : Ref sig .tc := ⟨.hbm, 157, rfl⟩
abbrev main_cst_17 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_18 : Ref sig .tc := ⟨.hbm, 162, rfl⟩
abbrev main_v140 : Ref sig .tc := ⟨.hbm, 163, rfl⟩
abbrev main_v141 : Ref sig .tc := ⟨.hbm, 164, rfl⟩
abbrev main_cst_19 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_cst_20 : Ref sig .tc := ⟨.hbm, 197, rfl⟩
abbrev main_v173 : Ref sig .tc := ⟨.hbm, 198, rfl⟩
abbrev main_v174 : Ref sig .tc := ⟨.hbm, 199, rfl⟩
abbrev main_cst_21 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_cst_22 : Ref sig .tc := ⟨.hbm, 204, rfl⟩
abbrev main_v178 : Ref sig .tc := ⟨.hbm, 205, rfl⟩
abbrev main_v179 : Ref sig .tc := ⟨.hbm, 206, rfl⟩
abbrev main_cst_23 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_cst_24 : Ref sig .tc := ⟨.hbm, 239, rfl⟩
abbrev main_v211 : Ref sig .tc := ⟨.hbm, 240, rfl⟩
abbrev main_v212 : Ref sig .tc := ⟨.hbm, 241, rfl⟩
abbrev main_cst_25 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_cst_26 : Ref sig .tc := ⟨.hbm, 246, rfl⟩
abbrev main_v216 : Ref sig .tc := ⟨.hbm, 247, rfl⟩
abbrev main_v217 : Ref sig .tc := ⟨.hbm, 248, rfl⟩
abbrev main_cst_27 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩

abbrev nD : Nat := 1
abbrev τ : Topo := Topo.v7x

variable {F : FTy → Type} [FloatOps F]
-- ==== Kernel3.lean ====
abbrev S256x1024 : Shape := ⟨2, ![256, 1024]⟩
abbrev S1024x512 : Shape := ⟨2, ![1024, 512]⟩
abbrev S_ : Shape := ⟨0, ![]⟩
abbrev S1024 : Shape := ⟨1, ![1024]⟩
abbrev S1024x1024 : Shape := ⟨2, ![1024, 1024]⟩
abbrev S1x1024 : Shape := ⟨2, ![1, 1024]⟩
abbrev S256x512 : Shape := ⟨2, ![256, 512]⟩

abbrev nBuf : Space → Nat
  | .hbm => 10
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S1024x512, .f32⟩
  | .hbm, ⟨3, _⟩ => ⟨S_, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S256x512, .f32⟩
  | .hbm, ⟨9, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference3Ideal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S1024x512, .f32⟩
  | .hbm, ⟨3, _⟩ => ⟨S256x512, .f32⟩
  | .hbm, ⟨4, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S128x1024 : Shape := ⟨2, ![128, 1024]⟩
abbrev S1024 : Shape := ⟨1, ![1024]⟩
abbrev S1024x4680 : Shape := ⟨2, ![1024, 4680]⟩
abbrev S4 : Shape := ⟨1, ![4]⟩
abbrev S_ : Shape := ⟨0, ![]⟩
abbrev S1x4 : Shape := ⟨2, ![1, 4]⟩
abbrev S32x4 : Shape := ⟨2, ![32, 4]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S1024x4736 : Shape := ⟨2, ![1024, 4736]⟩
abbrev S1x1024 : Shape := ⟨2, ![1, 1024]⟩
abbrev S128x512 : Shape := ⟨2, ![128, 512]⟩
abbrev S1024x512 : Shape := ⟨2, ![1024, 512]⟩
abbrev S1024x128 : Shape := ⟨2, ![1024, 128]⟩

abbrev nBuf : Space → Nat
  | .hbm => 56
  | .vmem => 20
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4680, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S32x4, .i32⟩
  | .hbm, ⟨9, _⟩ => ⟨S128, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S128, .f32⟩
  | .hbm, ⟨25, _⟩ => ⟨S128x1, .f32⟩
  | .hbm, ⟨26, _⟩ => ⟨S1x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32, .f32⟩
  | .hbm, ⟨31, _⟩ => ⟨S128x32, .f32⟩
  | .hbm, ⟨32, _⟩ => ⟨S128x128, .f32⟩
  | .hbm, ⟨33, _⟩ => ⟨S128x32, .f32⟩
  | .hbm, ⟨34, _⟩ => ⟨S128x32, .f32⟩
  | .hbm, ⟨35, _⟩ => ⟨S128x128, .f32⟩
  | .hbm, ⟨36, _⟩ => ⟨S_, .i32⟩
  | .hbm, ⟨37, _⟩ => ⟨S_, .f32⟩
  | .hbm, ⟨38, _⟩ => ⟨S1024x4736, .f32⟩
  | .hbm, ⟨39, _⟩ => ⟨S1024x4736, .bf16⟩
  | .hbm, ⟨40, _⟩ => ⟨S1x1024, .f32⟩
  | .hbm, ⟨41, _⟩ => ⟨S128x512, .f32⟩
  | .hbm, ⟨42, _⟩ => ⟨S128x512, .f32⟩
  | .hbm, ⟨43, _⟩ => ⟨S128x512, .bf16⟩
  | .hbm, ⟨44, _⟩ => ⟨S128x512, .f32⟩
  | .hbm, ⟨45, _⟩ => ⟨S128x512, .bf16⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S128x512, .bf16⟩
  | .hbm, ⟨50, _⟩ => ⟨S128x512, .f32⟩
  | .hbm, ⟨51, _⟩ => ⟨S128x512, .bf16⟩
  | .hbm, ⟨52, _⟩ => ⟨S128x512, .f32⟩
  | .hbm, ⟨53, _⟩ => ⟨S128x512, .f32⟩
  | .hbm, ⟨54, _⟩ => ⟨S128x128, .f32⟩
  | .hbm, ⟨55, _⟩ => ⟨S128x128, .bf16⟩
  | .local _ .vmem, ⟨0, _⟩ => ⟨S128x1024, .f32⟩
  | .local _ .vmem, ⟨1, _⟩ => ⟨S1x1024, .f32⟩
  | .local _ .vmem, ⟨2, _⟩ => ⟨S1024x4736, .bf16⟩
  | .local _ .vmem, ⟨3, _⟩ => ⟨S128x128, .f32⟩
  | .local _ .vmem, ⟨4, _⟩ => ⟨S128x128, .f32⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S128x512, .f32⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .f32⟩
  | .local _ .vmem, ⟨15, _⟩ => ⟨S128x512, .bf16⟩
  | .local _ .vmem, ⟨16, _⟩ => ⟨S128x512, .f32⟩
  | .local _ .vmem, ⟨17, _⟩ => ⟨S128x512, .f32⟩
  | .local _ .vmem, ⟨18, _⟩ => ⟨S128x128, .f32⟩
  | .local _ .vmem, ⟨19, _⟩ => ⟨S128x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v31_3 : Ref sig .tc := ⟨.hbm, 44, rfl⟩
abbrev main_v31_4 : Ref sig .tc := ⟨.hbm, 45, rfl⟩
abbrev main_v31_5 : Ref sig .tc := ⟨.hbm, 46, rfl⟩
abbrev main_v31_6 : Ref sig .tc := ⟨.hbm, 47, rfl⟩
abbrev main_v31_7 : Ref sig .tc := ⟨.hbm, 48, rfl⟩
abbrev main_v31_8 : Ref sig .tc := ⟨.hbm, 49, rfl⟩
abbrev main_v31_9 : Ref sig .tc := ⟨.hbm, 50, rfl⟩
abbrev main_v31_10 : Ref sig .tc := ⟨.hbm, 51, rfl⟩
abbrev main_v31_11 : Ref sig .tc := ⟨.hbm, 52, rfl⟩
abbrev main_v31_12 : Ref sig .tc := ⟨.hbm, 53, rfl⟩
abbrev main_v31_13 : Ref sig .tc := ⟨.hbm, 54, rfl⟩
abbrev main_v31_14 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== Reference4Ideal.lean ====
abbrev S128x1024 : Shape := ⟨2, ![128, 1024]⟩
abbrev S1024 : Shape := ⟨1, ![1024]⟩
abbrev S1024x4680 : Shape := ⟨2, ![1024, 4680]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4680 : Shape := ⟨2, ![128, 4680]⟩
abbrev S128x512 : Shape := ⟨2, ![128, 512]⟩
abbrev S128x64 : Shape := ⟨2, ![128, 64]⟩
abbrev S128x8 : Shape := ⟨2, ![128, 8]⟩
abbrev S128x8x64 : Shape := ⟨3, ![128, 8, 64]⟩
abbrev S32 : Shape := ⟨1, ![32]⟩
abbrev S4 : Shape := ⟨1, ![4]⟩
abbrev S1x4 : Shape := ⟨2, ![1, 4]⟩
abbrev S32x4 : Shape := ⟨2, ![32, 4]⟩
abbrev S1x32 : Shape := ⟨2, ![1, 32]⟩
abbrev S128x32 : Shape := ⟨2, ![128, 32]⟩
abbrev S128x1x32 : Shape := ⟨3, ![128, 1, 32]⟩
abbrev S128x8x32 : Shape := ⟨3, ![128, 8, 32]⟩
abbrev S128x1x64 : Shape := ⟨3, ![128, 1, 64]⟩
abbrev S128x56 : Shape := ⟨2, ![128, 56]⟩
abbrev S128x128 : Shape := ⟨2, ![128, 128]⟩

abbrev nBuf : Space → Nat
  | .hbm => 314
  | .vmem => 0
  | .smem => 0
  | _ => 0

abbrev hbmTy0_0 (i : Nat) : BufTy := match i % 128 with
  | 0 => ⟨S128x1024, .f32⟩
  | 1 => ⟨S1024, .f32⟩
  | 2 => ⟨S1024x4680, .f32⟩
  | 3 => ⟨S128x1024, .f32⟩
  | 4 => ⟨S_, .f32⟩
  | 5 => ⟨S128, .f32⟩
  | 6 => ⟨S128x1, .f32⟩
  | 7 => ⟨S_, .f32⟩
  | 8 => ⟨S128x1, .f32⟩
  | 9 => ⟨S128x1, .f32⟩
  | 10 => ⟨S_, .f32⟩
  | 11 => ⟨S128x1, .f32⟩
  | 12 => ⟨S128x1, .f32⟩
  | 13 => ⟨S128x1, .f32⟩
  | 14 => ⟨S128x1024, .f32⟩
  | 15 => ⟨S128x1024, .f32⟩
  | 16 => ⟨S1x1024, .f32⟩
  | 17 => ⟨S128x1024, .f32⟩
  | 18 => ⟨S128x1024, .f32⟩
  | 19 => ⟨S128x4680, .f32⟩
  | 20 => ⟨S128x512, .f32⟩
  | 21 => ⟨S128x512, .f32⟩
  | 22 => ⟨S128x512, .f32⟩
  | 23 => ⟨S128x512, .f32⟩
  | 24 => ⟨S128x512, .f32⟩
  | 25 => ⟨S128x512, .f32⟩
  | 26 => ⟨S128x512, .f32⟩
  | 27 => ⟨S128x512, .f32⟩
  | 28 => ⟨S128x512, .f32⟩
  | 29 => ⟨S128x64, .f32⟩
  | 30 => ⟨S128x8, .f32⟩
  | 31 => ⟨S128x8x64, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4, .i32⟩
  | 47 => ⟨S_, .i32⟩
  | 48 => ⟨S4, .i32⟩
  | 49 => ⟨S4, .i32⟩
  | 50 => ⟨S1x4, .i32⟩
  | 51 => ⟨S32x4, .i32⟩
  | 52 => ⟨S128, .i32⟩
  | 53 => ⟨S128, .f32⟩
  | 54 => ⟨S128x1, .f32⟩
  | 55 => ⟨S1x32, .f32⟩
  | 56 => ⟨S128x32, .f32⟩
  | 57 => ⟨S128x32, .f32⟩
  | 58 => ⟨S128x32, .f32⟩
  | 59 => ⟨S128x32, .f32⟩
  | 60 => ⟨S128x1x32, .f32⟩
  | 61 => ⟨S128x32, .f32⟩
  | 62 => ⟨S128x1x32, .f32⟩
  | 63 => ⟨S128x8x32, .f32⟩
  | 64 => ⟨S128x8x32, .f32⟩
  | 65 => ⟨S128x8x32, .f32⟩
  | 66 => ⟨S128x8x32, .f32⟩
  | 67 => ⟨S128x8x32, .f32⟩
  | 68 => ⟨S128x8x32, .f32⟩
  | 69 => ⟨S128x8x32, .f32⟩
  | 70 => ⟨S128x8x32, .f32⟩
  | 71 => ⟨S128x8x32, .f32⟩
  | 72 => ⟨S128x8x32, .f32⟩
  | 73 => ⟨S128x8x32, .f32⟩
  | 74 => ⟨S128x8x32, .f32⟩
  | 75 => ⟨S128x8x64, .f32⟩
  | 76 => ⟨S128x512, .f32⟩
  | 77 => ⟨S128x8x64, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S4, .i32⟩
  | 93 => ⟨S_, .i32⟩
  | 94 => ⟨S4, .i32⟩
  | 95 => ⟨S4, .i32⟩
  | 96 => ⟨S1x4, .i32⟩
  | 97 => ⟨S32x4, .i32⟩
  | 98 => ⟨S128, .i32⟩
  | 99 => ⟨S128, .f32⟩
  | 100 => ⟨S128x1, .f32⟩
  | 101 => ⟨S1x32, .f32⟩
  | 102 => ⟨S128x32, .f32⟩
  | 103 => ⟨S128x32, .f32⟩
  | 104 => ⟨S128x32, .f32⟩
  | 105 => ⟨S128x32, .f32⟩
  | 106 => ⟨S128x1x32, .f32⟩
  | 107 => ⟨S128x32, .f32⟩
  | 108 => ⟨S128x1x32, .f32⟩
  | 109 => ⟨S128x8x32, .f32⟩
  | 110 => ⟨S128x8x32, .f32⟩
  | 111 => ⟨S128x8x32, .f32⟩
  | 112 => ⟨S128x8x32, .f32⟩
  | 113 => ⟨S128x8x32, .f32⟩
  | 114 => ⟨S128x8x32, .f32⟩
  | 115 => ⟨S128x8x32, .f32⟩
  | 116 => ⟨S128x8x32, .f32⟩
  | 117 => ⟨S128x8x32, .f32⟩
  | 118 => ⟨S128x8x32, .f32⟩
  | 119 => ⟨S128x8x32, .f32⟩
  | 120 => ⟨S128x8x32, .f32⟩
  | 121 => ⟨S128x8x64, .f32⟩
  | 122 => ⟨S128x512, .f32⟩
  | 123 => ⟨S128x1x64, .f32⟩
  | 124 => ⟨S32, .f32⟩
  | 125 => ⟨S_, .f32⟩
  | 126 => ⟨S32, .f32⟩
  | 127 => ⟨S32, .f32⟩
  | _ => ⟨S128x1024, .f32⟩

abbrev hbmTy0_1 (i : Nat) : BufTy := match i % 128 with
  | 0 => ⟨S_, .f32⟩
  | 1 => ⟨S32, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S4, .i32⟩
  | 11 => ⟨S_, .i32⟩
  | 12 => ⟨S4, .i32⟩
  | 13 => ⟨S4, .i32⟩
  | 14 => ⟨S1x4, .i32⟩
  | 15 => ⟨S32x4, .i32⟩
  | 16 => ⟨S128, .i32⟩
  | 17 => ⟨S128, .f32⟩
  | 18 => ⟨S128x1, .f32⟩
  | 19 => ⟨S1x32, .f32⟩
  | 20 => ⟨S128x32, .f32⟩
  | 21 => ⟨S128x32, .f32⟩
  | 22 => ⟨S128x32, .f32⟩
  | 23 => ⟨S128x32, .f32⟩
  | 24 => ⟨S128x1x32, .f32⟩
  | 25 => ⟨S128x32, .f32⟩
  | 26 => ⟨S128x1x32, .f32⟩
  | 27 => ⟨S128x1x32, .f32⟩
  | 28 => ⟨S128x1x32, .f32⟩
  | 29 => ⟨S128x1x32, .f32⟩
  | 30 => ⟨S128x1x32, .f32⟩
  | 31 => ⟨S128x1x32, .f32⟩
  | 32 => ⟨S128x1x32, .f32⟩
  | 33 => ⟨S128x1x32, .f32⟩
  | 34 => ⟨S128x1x32, .f32⟩
  | 35 => ⟨S128x1x64, .f32⟩
  | 36 => ⟨S128x64, .f32⟩
  | 37 => ⟨S_, .f32⟩
  | 38 => ⟨S128x8, .f32⟩
  | 39 => ⟨S128x8, .f32⟩
  | 40 => ⟨S_, .f32⟩
  | 41 => ⟨S128x56, .f32⟩
  | 42 => ⟨S128x128, .f32⟩
  | 43 => ⟨S128x8x64, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S4, .i32⟩
  | 59 => ⟨S_, .i32⟩
  | 60 => ⟨S4, .i32⟩
  | 61 => ⟨S4, .i32⟩
  | 62 => ⟨S1x4, .i32⟩
  | 63 => ⟨S32x4, .i32⟩
  | 64 => ⟨S128, .i32⟩
  | 65 => ⟨S128, .f32⟩
  | 66 => ⟨S128x1, .f32⟩
  | 67 => ⟨S1x32, .f32⟩
  | 68 => ⟨S128x32, .f32⟩
  | 69 => ⟨S128x32, .f32⟩
  | 70 => ⟨S128x32, .f32⟩
  | 71 => ⟨S128x32, .f32⟩
  | 72 => ⟨S128x1x32, .f32⟩
  | 73 => ⟨S128x32, .f32⟩
  | 74 => ⟨S128x1x32, .f32⟩
  | 75 => ⟨S128x8x32, .f32⟩
  | 76 => ⟨S128x8x32, .f32⟩
  | 77 => ⟨S128x8x32, .f32⟩
  | 78 => ⟨S128x8x32, .f32⟩
  | 79 => ⟨S128x8x32, .f32⟩
  | 80 => ⟨S128x8x32, .f32⟩
  | 81 => ⟨S128x8x32, .f32⟩
  | 82 => ⟨S128x8x32, .f32⟩
  | 83 => ⟨S128x8x32, .f32⟩
  | 84 => ⟨S128x8x32, .f32⟩
  | 85 => ⟨S128x8x32, .f32⟩
  | 86 => ⟨S128x8x32, .f32⟩
  | 87 => ⟨S128x8x64, .f32⟩
  | 88 => ⟨S128x512, .f32⟩
  | 89 => ⟨S128x512, .bf16⟩
  | 90 => ⟨S128x512, .bf16⟩
  | 91 => ⟨S128x8x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S4, .i32⟩
  | 107 => ⟨S_, .i32⟩
  | 108 => ⟨S4, .i32⟩
  | 109 => ⟨S4, .i32⟩
  | 110 => ⟨S1x4, .i32⟩
  | 111 => ⟨S32x4, .i32⟩
  | 112 => ⟨S128, .i32⟩
  | 113 => ⟨S128, .f32⟩
  | 114 => ⟨S128x1, .f32⟩
  | 115 => ⟨S1x32, .f32⟩
  | 116 => ⟨S128x32, .f32⟩
  | 117 => ⟨S128x32, .f32⟩
  | 118 => ⟨S128x32, .f32⟩
  | 119 => ⟨S128x32, .f32⟩
  | 120 => ⟨S128x1x32, .f32⟩
  | 121 => ⟨S128x32, .f32⟩
  | 122 => ⟨S128x1x32, .f32⟩
  | 123 => ⟨S128x8x32, .f32⟩
  | 124 => ⟨S128x8x32, .f32⟩
  | 125 => ⟨S128x8x32, .f32⟩
  | 126 => ⟨S128x8x32, .f32⟩
  | 127 => ⟨S128x8x32, .f32⟩
  | _ => ⟨S128x1024, .f32⟩

abbrev hbmTy0_2 (i : Nat) : BufTy := match i % 128 with
  | 0 => ⟨S128x8x32, .f32⟩
  | 1 => ⟨S128x8x32, .f32⟩
  | 2 => ⟨S128x8x32, .f32⟩
  | 3 => ⟨S128x8x32, .f32⟩
  | 4 => ⟨S128x8x32, .f32⟩
  | 5 => ⟨S128x8x32, .f32⟩
  | 6 => ⟨S128x8x32, .f32⟩
  | 7 => ⟨S128x8x64, .f32⟩
  | 8 => ⟨S128x512, .f32⟩
  | 9 => ⟨S128x512, .bf16⟩
  | 10 => ⟨S128x512, .bf16⟩
  | 11 => ⟨S128x8x64, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4, .i32⟩
  | 27 => ⟨S_, .i32⟩
  | 28 => ⟨S4, .i32⟩
  | 29 => ⟨S4, .i32⟩
  | 30 => ⟨S1x4, .i32⟩
  | 31 => ⟨S32x4, .i32⟩
  | 32 => ⟨S128, .i32⟩
  | 33 => ⟨S128, .f32⟩
  | 34 => ⟨S128x1, .f32⟩
  | 35 => ⟨S1x32, .f32⟩
  | 36 => ⟨S128x32, .f32⟩
  | 37 => ⟨S128x32, .f32⟩
  | 38 => ⟨S128x32, .f32⟩
  | 39 => ⟨S128x32, .f32⟩
  | 40 => ⟨S128x1x32, .f32⟩
  | 41 => ⟨S128x32, .f32⟩
  | 42 => ⟨S128x1x32, .f32⟩
  | 43 => ⟨S128x8x32, .f32⟩
  | 44 => ⟨S128x8x32, .f32⟩
  | 45 => ⟨S128x8x32, .f32⟩
  | 46 => ⟨S128x8x32, .f32⟩
  | 47 => ⟨S128x8x32, .f32⟩
  | 48 => ⟨S128x8x32, .f32⟩
  | 49 => ⟨S128x8x32, .f32⟩
  | 50 => ⟨S128x8x32, .f32⟩
  | 51 => ⟨S128x8x32, .f32⟩
  | 52 => ⟨S128x8x32, .f32⟩
  | 53 => ⟨S128x8x32, .f32⟩
  | 54 => ⟨S128x8x32, .f32⟩
  | 55 => ⟨S128x8x64, .f32⟩
  | 56 => ⟨S128x512, .f32⟩
  | 57 => ⟨S128x128, .bf16⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_6 : Ref sig .tc := ⟨.hbm, 79, rfl⟩
abbrev main_v68 : Ref sig .tc := ⟨.hbm, 80, rfl⟩
abbrev main_v69 : Ref sig .tc := ⟨.hbm, 81, rfl⟩
abbrev main_cst_7 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_8 : Ref sig .tc := ⟨.hbm, 86, rfl⟩
abbrev main_v73 : Ref sig .tc := ⟨.hbm, 87, rfl⟩
abbrev main_v74 : Ref sig .tc := ⟨.hbm, 88, rfl⟩
abbrev main_cst_9 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_10 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_11 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_13 : Ref sig .tc := ⟨.hbm, 132, rfl⟩
abbrev main_v114 : Ref sig .tc := ⟨.hbm, 133, rfl⟩
abbrev main_v115 : Ref sig .tc := ⟨.hbm, 134, rfl⟩
abbrev main_cst_14 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_c_15 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_cst_16 : Ref sig .tc := ⟨.hbm, 165, rfl⟩
abbrev main_v144 : Ref sig .tc := ⟨.hbm, 166, rfl⟩
abbrev main_v145 : Ref sig .tc := ⟨.hbm, 167, rfl⟩
abbrev main_cst_17 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_18 : Ref sig .tc := ⟨.hbm, 173, rfl⟩
abbrev main_v150 : Ref sig .tc := ⟨.hbm, 174, rfl⟩
abbrev main_v151 : Ref sig .tc := ⟨.hbm, 175, rfl⟩
abbrev main_cst_19 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_cst_20 : Ref sig .tc := ⟨.hbm, 180, rfl⟩
abbrev main_v155 : Ref sig .tc := ⟨.hbm, 181, rfl⟩
abbrev main_v156 : Ref sig .tc := ⟨.hbm, 182, rfl⟩
abbrev main_cst_21 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_c_22 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_23 : Ref sig .tc := ⟨.hbm, 221, rfl⟩
abbrev main_v193 : Ref sig .tc := ⟨.hbm, 222, rfl⟩
abbrev main_v194 : Ref sig .tc := ⟨.hbm, 223, rfl⟩
abbrev main_cst_24 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_cst_25 : Ref sig .tc := ⟨.hbm, 228, rfl⟩
abbrev main_v198 : Ref sig .tc := ⟨.hbm, 229, rfl⟩
abbrev main_v199 : Ref sig .tc := ⟨.hbm, 230, rfl⟩
abbrev main_cst_26 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_c_27 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_cst_28 : Ref sig .tc := ⟨.hbm, 269, rfl⟩
abbrev main_v236 : Ref sig .tc := ⟨.hbm, 270, rfl⟩
abbrev main_v237 : Ref sig .tc := ⟨.hbm, 271, rfl⟩
abbrev main_cst_29 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_cst_30 : Ref sig .tc := ⟨.hbm, 276, rfl⟩
abbrev main_v241 : Ref sig .tc := ⟨.hbm, 277, rfl⟩
abbrev main_v242 : Ref sig .tc := ⟨.hbm, 278, rfl⟩
abbrev main_cst_31 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_c_32 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x4096 : Shape := ⟨2, ![1024, 4096]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩

abbrev nBuf : Space → Nat
  | .hbm => 38
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16384, .f32⟩
  | .hbm, ⟨19, _⟩ => ⟨S16384x1, .f32⟩
  | .hbm, ⟨20, _⟩ => ⟨S1x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x128, .f32⟩
  | .hbm, ⟨27, _⟩ => ⟨S16384x32, .f32⟩
  | .hbm, ⟨28, _⟩ => ⟨S16384x32, .f32⟩
  | .hbm, ⟨29, _⟩ => ⟨S16384x128, .f32⟩
  | .hbm, ⟨30, _⟩ => ⟨S1024x4096, .bf16⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | .hbm, ⟨35, _⟩ => ⟨S16384x1024, .f32⟩
  | .hbm, ⟨36, _⟩ => ⟨S16384x1024, .bf16⟩
  | .hbm, ⟨37, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S16384x16x64 : Shape := ⟨3, ![16384, 16, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x16x32 : Shape := ⟨3, ![16384, 16, 32]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x16x64, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S16384, .i32⟩
  | .hbm, ⟨40, _⟩ => ⟨S16384, .f32⟩
  | .hbm, ⟨41, _⟩ => ⟨S16384x1, .f32⟩
  | .hbm, ⟨42, _⟩ => ⟨S1x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S16384x32, .f32⟩
  | .hbm, ⟨47, _⟩ => ⟨S16384x1x32, .f32⟩
  | .hbm, ⟨48, _⟩ => ⟨S16384x32, .f32⟩
  | .hbm, ⟨49, _⟩ => ⟨S16384x1x32, .f32⟩
  | .hbm, ⟨50, _⟩ => ⟨S16384x16x32, .f32⟩
  | .hbm, ⟨51, _⟩ => ⟨S16384x16x32, .f32⟩
  | .hbm, ⟨52, _⟩ => ⟨S16384x16x32, .f32⟩
  | .hbm, ⟨53, _⟩ => ⟨S16384x16x32, .f32⟩
  | .hbm, ⟨54, _⟩ => ⟨S16384x16x32, .f32⟩
  | .hbm, ⟨55, _⟩ => ⟨S16384x16x32, .f32⟩
  | .hbm, ⟨56, _⟩ => ⟨S16384x16x32, .f32⟩
  | .hbm, ⟨57, _⟩ => ⟨S16384x16x32, .f32⟩
  | .hbm, ⟨58, _⟩ => ⟨S16384x16x32, .f32⟩
  | .hbm, ⟨59, _⟩ => ⟨S16384x16x32, .f32⟩
  | .hbm, ⟨60, _⟩ => ⟨S16384x16x32, .f32⟩
  | .hbm, ⟨61, _⟩ => ⟨S16384x16x32, .f32⟩
  | .hbm, ⟨62, _⟩ => ⟨S16384x16x64, .f32⟩
  | .hbm, ⟨63, _⟩ => ⟨S16384x1024, .f32⟩
  | .hbm, ⟨64, _⟩ => ⟨S16384x16x64, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S16384, .i32⟩
  | .hbm, ⟨80, _⟩ => ⟨S16384, .f32⟩
  | .hbm, ⟨81, _⟩ => ⟨S16384x1, .f32⟩
  | .hbm, ⟨82, _⟩ => ⟨S1x32, .f32⟩
  | .hbm, ⟨83, _⟩ => ⟨S16384x32, .f32⟩
  | .hbm, ⟨84, _⟩ => ⟨S16384x32, .f32⟩
  | .hbm, ⟨85, _⟩ => ⟨S16384x32, .f32⟩
  | .hbm, ⟨86, _⟩ => ⟨S16384x32, .f32⟩
  | .hbm, ⟨87, _⟩ => ⟨S16384x1x32, .f32⟩
  | .hbm, ⟨88, _⟩ => ⟨S16384x32, .f32⟩
  | .hbm, ⟨89, _⟩ => ⟨S16384x1x32, .f32⟩
  | .hbm, ⟨90, _⟩ => ⟨S16384x16x32, .f32⟩
  | .hbm, ⟨91, _⟩ => ⟨S16384x16x32, .f32⟩
  | .hbm, ⟨92, _⟩ => ⟨S16384x16x32, .f32⟩
  | .hbm, ⟨93, _⟩ => ⟨S16384x16x32, .f32⟩
  | .hbm, ⟨94, _⟩ => ⟨S16384x16x32, .f32⟩
  | .hbm, ⟨95, _⟩ => ⟨S16384x16x32, .f32⟩
  | .hbm, ⟨96, _⟩ => ⟨S16384x16x32, .f32⟩
  | .hbm, ⟨97, _⟩ => ⟨S16384x16x32, .f32⟩
  | .hbm, ⟨98, _⟩ => ⟨S16384x16x32, .f32⟩
  | .hbm, ⟨99, _⟩ => ⟨S16384x16x32, .f32⟩
  | .hbm, ⟨100, _⟩ => ⟨S16384x16x32, .f32⟩
  | .hbm, ⟨101, _⟩ => ⟨S16384x16x32, .f32⟩
  | .hbm, ⟨102, _⟩ => ⟨S16384x16x64, .f32⟩
  | .hbm, ⟨103, _⟩ => ⟨S16384x1024, .f32⟩
  | .hbm, ⟨104, _⟩ => ⟨S16384x1024, .bf16⟩
  | .hbm, ⟨105, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_cst_9 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x4096 : Shape := ⟨2, ![1024, 4096]⟩
abbrev S4 : Shape := ⟨1, ![4]⟩
abbrev S_ : Shape := ⟨0, ![]⟩
abbrev S1x4 : Shape := ⟨2, ![1, 4]⟩
abbrev S32x4 : Shape := ⟨2, ![32, 4]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S1x1024 : Shape := ⟨2, ![1, 1024]⟩
abbrev S1024x1024 : Shape := ⟨2, ![1024, 1024]⟩

abbrev nBuf : Space → Nat
  | .hbm => 44
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4096, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S32x4, .i32⟩
  | .hbm, ⟨9, _⟩ => ⟨S128, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S128, .f32⟩
  | .hbm, ⟨25, _⟩ => ⟨S128x1, .f32⟩
  | .hbm, ⟨26, _⟩ => ⟨S1x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32, .f32⟩
  | .hbm, ⟨31, _⟩ => ⟨S128x32, .f32⟩
  | .hbm, ⟨32, _⟩ => ⟨S128x128, .f32⟩
  | .hbm, ⟨33, _⟩ => ⟨S128x32, .f32⟩
  | .hbm, ⟨34, _⟩ => ⟨S128x32, .f32⟩
  | .hbm, ⟨35, _⟩ => ⟨S128x128, .f32⟩
  | .hbm, ⟨36, _⟩ => ⟨S1024x4096, .bf16⟩
  | .hbm, ⟨37, _⟩ => ⟨S1x1024, .f32⟩
  | .hbm, ⟨38, _⟩ => ⟨S128x1024, .f32⟩
  | .hbm, ⟨39, _⟩ => ⟨S128x1024, .f32⟩
  | .hbm, ⟨40, _⟩ => ⟨S128x1024, .bf16⟩
  | .hbm, ⟨41, _⟩ => ⟨S128x1024, .f32⟩
  | .hbm, ⟨42, _⟩ => ⟨S128x1024, .bf16⟩
  | .hbm, ⟨43, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4096, .bf16⟩
  | .local _ .vmem, ⟨3, _⟩ => ⟨S128x128, .f32⟩
  | .local _ .vmem, ⟨4, _⟩ => ⟨S128x128, .f32⟩
  | .local _ .vmem, ⟨5, _⟩ => ⟨S128x1024, .f32⟩
  | .local _ .vmem, ⟨6, _⟩ => ⟨S128x1024, .f32⟩
  | .local _ .vmem, ⟨7, _⟩ => ⟨S128x1024, .bf16⟩
  | .local _ .vmem, ⟨8, _⟩ => ⟨S128x1024, .f32⟩
  | .local _ .vmem, ⟨9, _⟩ => ⟨S128x1024, .bf16⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v30_5 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S128x1024 : Shape := ⟨2, ![128, 1024]⟩
abbrev S1024 : Shape := ⟨1, ![1024]⟩
abbrev S1024x4096 : Shape := ⟨2, ![1024, 4096]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩
abbrev S128x16x64 : Shape := ⟨3, ![128, 16, 64]⟩
abbrev S32 : Shape := ⟨1, ![32]⟩
abbrev S4 : Shape := ⟨1, ![4]⟩
abbrev S1x4 : Shape := ⟨2, ![1, 4]⟩
abbrev S32x4 : Shape := ⟨2, ![32, 4]⟩
abbrev S1x32 : Shape := ⟨2, ![1, 32]⟩
abbrev S128x32 : Shape := ⟨2, ![128, 32]⟩
abbrev S128x1x32 : Shape := ⟨3, ![128, 1, 32]⟩
abbrev S128x16x32 : Shape := ⟨3, ![128, 16, 32]⟩

abbrev nBuf : Space → Nat
  | .hbm => 118
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4096, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x4096, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x16x64, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4, .i32⟩
  | .hbm, ⟨40, _⟩ => ⟨S_, .i32⟩
  | .hbm, ⟨41, _⟩ => ⟨S4, .i32⟩
  | .hbm, ⟨42, _⟩ => ⟨S4, .i32⟩
  | .hbm, ⟨43, _⟩ => ⟨S1x4, .i32⟩
  | .hbm, ⟨44, _⟩ => ⟨S32x4, .i32⟩
  | .hbm, ⟨45, _⟩ => ⟨S128, .i32⟩
  | .hbm, ⟨46, _⟩ => ⟨S128, .f32⟩
  | .hbm, ⟨47, _⟩ => ⟨S128x1, .f32⟩
  | .hbm, ⟨48, _⟩ => ⟨S1x32, .f32⟩
  | .hbm, ⟨49, _⟩ => ⟨S128x32, .f32⟩
  | .hbm, ⟨50, _⟩ => ⟨S128x32, .f32⟩
  | .hbm, ⟨51, _⟩ => ⟨S128x32, .f32⟩
  | .hbm, ⟨52, _⟩ => ⟨S128x32, .f32⟩
  | .hbm, ⟨53, _⟩ => ⟨S128x1x32, .f32⟩
  | .hbm, ⟨54, _⟩ => ⟨S128x32, .f32⟩
  | .hbm, ⟨55, _⟩ => ⟨S128x1x32, .f32⟩
  | .hbm, ⟨56, _⟩ => ⟨S128x16x32, .f32⟩
  | .hbm, ⟨57, _⟩ => ⟨S128x16x32, .f32⟩
  | .hbm, ⟨58, _⟩ => ⟨S128x16x32, .f32⟩
  | .hbm, ⟨59, _⟩ => ⟨S128x16x32, .f32⟩
  | .hbm, ⟨60, _⟩ => ⟨S128x16x32, .f32⟩
  | .hbm, ⟨61, _⟩ => ⟨S128x16x32, .f32⟩
  | .hbm, ⟨62, _⟩ => ⟨S128x16x32, .f32⟩
  | .hbm, ⟨63, _⟩ => ⟨S128x16x32, .f32⟩
  | .hbm, ⟨64, _⟩ => ⟨S128x16x32, .f32⟩
  | .hbm, ⟨65, _⟩ => ⟨S128x16x32, .f32⟩
  | .hbm, ⟨66, _⟩ => ⟨S128x16x32, .f32⟩
  | .hbm, ⟨67, _⟩ => ⟨S128x16x32, .f32⟩
  | .hbm, ⟨68, _⟩ => ⟨S128x16x64, .f32⟩
  | .hbm, ⟨69, _⟩ => ⟨S128x1024, .f32⟩
  | .hbm, ⟨70, _⟩ => ⟨S128x16x64, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S4, .i32⟩
  | .hbm, ⟨86, _⟩ => ⟨S_, .i32⟩
  | .hbm, ⟨87, _⟩ => ⟨S4, .i32⟩
  | .hbm, ⟨88, _⟩ => ⟨S4, .i32⟩
  | .hbm, ⟨89, _⟩ => ⟨S1x4, .i32⟩
  | .hbm, ⟨90, _⟩ => ⟨S32x4, .i32⟩
  | .hbm, ⟨91, _⟩ => ⟨S128, .i32⟩
  | .hbm, ⟨92, _⟩ => ⟨S128, .f32⟩
  | .hbm, ⟨93, _⟩ => ⟨S128x1, .f32⟩
  | .hbm, ⟨94, _⟩ => ⟨S1x32, .f32⟩
  | .hbm, ⟨95, _⟩ => ⟨S128x32, .f32⟩
  | .hbm, ⟨96, _⟩ => ⟨S128x32, .f32⟩
  | .hbm, ⟨97, _⟩ => ⟨S128x32, .f32⟩
  | .hbm, ⟨98, _⟩ => ⟨S128x32, .f32⟩
  | .hbm, ⟨99, _⟩ => ⟨S128x1x32, .f32⟩
  | .hbm, ⟨100, _⟩ => ⟨S128x32, .f32⟩
  | .hbm, ⟨101, _⟩ => ⟨S128x1x32, .f32⟩
  | .hbm, ⟨102, _⟩ => ⟨S128x16x32, .f32⟩
  | .hbm, ⟨103, _⟩ => ⟨S128x16x32, .f32⟩
  | .hbm, ⟨104, _⟩ => ⟨S128x16x32, .f32⟩
  | .hbm, ⟨105, _⟩ => ⟨S128x16x32, .f32⟩
  | .hbm, ⟨106, _⟩ => ⟨S128x16x32, .f32⟩
  | .hbm, ⟨107, _⟩ => ⟨S128x16x32, .f32⟩
  | .hbm, ⟨108, _⟩ => ⟨S128x16x32, .f32⟩
  | .hbm, ⟨109, _⟩ => ⟨S128x16x32, .f32⟩
  | .hbm, ⟨110, _⟩ => ⟨S128x16x32, .f32⟩
  | .hbm, ⟨111, _⟩ => ⟨S128x16x32, .f32⟩
  | .hbm, ⟨112, _⟩ => ⟨S128x16x32, .f32⟩
  | .hbm, ⟨113, _⟩ => ⟨S128x16x32, .f32⟩
  | .hbm, ⟨114, _⟩ => ⟨S128x16x64, .f32⟩
  | .hbm, ⟨115, _⟩ => ⟨S128x1024, .f32⟩
  | .hbm, ⟨116, _⟩ => ⟨S128x1024, .bf16⟩
  | .hbm, ⟨117, _⟩ => ⟨S128x1024, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_6 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c_10 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S16384x512 : Shape := ⟨2, ![16384, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S16384x512, .f32⟩
  | .hbm, ⟨6, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x512, .f32⟩
  | .hbm, ⟨21, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KeptIdeal.lean ====
/-
  The launch of `KernelIdeal` keeps its arguments and its counters. The kernel's body is run once per combination of its four conditions that the
  grid meets; nothing is said here of what it leaves in its output or in its scratch, so the body is run from any contents of these to any
  contents of these.
-/
module

public import proofs.«01_k».proof.Proof.Gen.KernelIdeal.Frame.Runs
public import Idealize.ShloMosaic.Lib.Claim

@[expose] public section

set_option maxRecDepth 16384

noncomputable section

namespace Cert.KernelIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

/-- The combinations of the four conditions that a point of the grid meets. -/
abbrev Met (i : grid0.Coords) : Prop :=
  conds0_A i ∨ conds0_B i ∨ conds0_C i ∨ conds0_D i ∨ conds0_E i ∨ conds0_F i ∨ conds0_G i

theorem met (t : Fin cfg0.N) : Met (grid0.coords t) := by
  have hN : t.val < 512 := lt_of_lt_of_eq t.isLt (show cfg0.N = 512 from N_0)
  simp only [Met, conds0_A, conds0_B, conds0_C, conds0_D, conds0_E, conds0_F, conds0_G, hcond0_0, hcond0_1, hcond0_2, hcond0_3]
  omega

section
variable (c : Dev nD) (i : grid0.Coords)
    (arg2 : Memref sig .tc .vmem S512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .smem S1x1 .f32) (harg5 : arg5.IsWhole)
    (arg6 : Memref sig .tc .vmem S512x1024 .f32) (harg6 : arg6.IsWhole)
    (arg7 : Memref sig .tc .vmem S16x512x128 .f32) (harg7 : arg7.IsWhole)
    (arg8 : Memref sig .tc .vmem S16x512x128 .f32) (harg8 : arg8.IsWhole)
    (arg9 : Memref sig .tc .vmem S16x512x128 .f32) (harg9 : arg9.IsWhole)

set_option maxHeartbeats 4000000 in
/-- The body, from its inputs at `x0 … x3` and anything in the output and the scratch, leaves the inputs as they were and something in the rest. -/
theorem body_any (hi : Met i) (x0 : Vec F S512x1024 .f32) (x1 : Vec F S1024x1024 .bf16) (x2 : Vec F S1024x1024 .bf16) (x3 : Vec F S1x1 .f32)
    (d4 : Vec F S512x1024 .f32) (d7 d8 d9 : Vec F S16x512x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d4
        ∗ owns (c : Thread nD τ) arg7 fullShare d7 ∗ owns (c : Thread nD τ) arg8 fullShare d8 ∗ owns (c : Thread nD τ) arg9 fullShare d9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ y, owns (c : Thread nD τ) arg6 fullShare y)
            ∗ (∃ y, owns (c : Thread nD τ) arg7 fullShare y) ∗ (∃ y, owns (c : Thread nD τ) arg8 fullShare y)
            ∗ (∃ y, owns (c : Thread nD τ) arg9 fullShare y)) -∗ K ⟨⟩))
      ⊢ wp frame (wpE (defs₀ (F := F)) Variants.none c none) E
          (cc0_flash_diff i arg2 harg2 arg3 harg3 arg4 harg4 arg5 harg5 arg6 harg6 arg7 harg7 arg8 harg8 arg9 harg9) K := by
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, -, H4⟩, ⟨%f7, -, H7⟩, ⟨%f8, -, H8⟩, ⟨%f9, -, H9⟩, Hk⟩
  obtain rfl := harg2.eq_unread hf0; obtain rfl := harg3.eq_unread hf1; obtain rfl := harg4.eq_unread hf2; obtain rfl := harg5.eq_unread hf3
  rcases hi with ⟨hc0, hc1, hc2, hc3⟩ | ⟨hc0, hc1, hc2, hc3⟩ | ⟨hc0, hc1, hc2, hc3⟩ | ⟨hc0, hc1, hc2, hc3⟩ | ⟨hc0, hc1, hc2, hc3⟩
    | ⟨hc0, hc1, hc2, hc3⟩ | ⟨hc0, hc1, hc2, hc3⟩
  all_goals
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexists _; isplitr
      swap; · iexact H4
      ipureintro; rfl
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end

variable (m : (ℓ : Loc nD τ sig) → Buf (Elt F) ℓ) (ρ : Dev nD → PrngReg)

/-- The proof data: each input's buffer at its block; the output's contents are not named (the value below is never read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q _ := fullShare
  owed _ := 0

/-- The output window is the one left unnamed. -/
def unnamed (w : Fin cfg0.W) : Bool := w.val == 4

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d

/-- The body at a point. -/
theorem sound_body (c : Dev nD) (t : Fin cfg0.N) :
    iprop(Pipeline.ΦA spec0 c ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ X, owns (c : Thread nD τ) (ms0_4 t) fullShare X))
      ⊢ wp frame (wpE (defs₀ (F := F)) Variants.none c none) Set.univ (bodyAt0 t) (fun _ =>
        iprop(Pipeline.ΦA spec0 c ∗ (dats m 0 c).owesAt () t.succ
          ∗ owns (c : Thread nD τ) (ms0_0 t) fullShare (iblk m c 0 t)
          ∗ owns (c : Thread nD τ) (ms0_1 t) fullShare (iblk m c 1 t)
          ∗ owns (c : Thread nD τ) (ms0_2 t) fullShare (iblk m c 2 t)
          ∗ owns (c : Thread nD τ) (ms0_3 t) fullShare (iblk m c 3 t)
          ∗ (∃ X, owns (c : Thread nD τ) (ms0_4 t) fullShare X))) := by
  unfold bodyAt0
  simp only [before_0, before_1, before_2, before_3]
  rw [show (dats m 0 c).owesAt () t.succ = (dats m 0 c).owesAt () t.castSucc from rfl, PhiA0_eq]
  iintro ⟨⟨⟨⟨%d7, H7⟩, ⟨%d8, H8⟩, ⟨%d9, H9⟩⟩, Hg⟩, Ho, ⟨%d0, H0⟩, ⟨%d1, H1⟩, ⟨%d2, H2⟩, ⟨%d3, H3⟩, ⟨%d4, H4⟩⟩
  iapply (body_any c (grid0.coords t) _ _ _ _ _ _ _ _ _ _ _ _ _ _ _ _ (met t) (iblk m c 0 t) (iblk m c 1 t) (iblk m c 2 t) (iblk m c 3 t) d4 d7 d8 d9 Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  iintro ⟨H0, H1, H2, H3, H4, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ unnamed := fun t => by
  rw [bigSep_W0, bigSep_W0, body_row]
  exact triple_restated (sound_body m c t) rfl .rfl fun _ => .rfl

set_option backward.isDefEq.respectTransparency.types false in
/-- Every run ends with the arguments and the counters as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Pipeline.θ_run_frame_forget (Q' := _) cfgs (dats m) (0 : Fin 1) launch0 defs₀ Variants.none unnamed m ρ main
    (hbody := body_obligation m) (hshare := fun c => (dats m 0 c).share_full fun _ => rfl)
    (howed := fun _ _ => rfl) (V := V m) (hmain := hmain m Variants.none) (hA := A_eq m) (hΦ := fun _ _ => rfl)
    (hQ' := fun _ h => h)
  have hk : ∀ (c : Dev nD) (w : Fin cfg0.W), unnamed w = false → ∀ r, Pipeline.RDat.FramePost cfg0 (fun c => (dats m 0 c).toRForget unnamed) (V m) r →
      r.2.mem ((cfg0.spec w).arr.view.loc (c.tc : Thread nD τ)) = (dats m 0 c).arrAt w cfg0.N := fun c w hw r hr =>
    ((dats m 0 c).toRForget_arrAt_iff hw _ _).mp ((hr c).1 w)
  exact (θ_run defs _ _).mono (fun r hr => ⟨fun c =>
    ⟨(hk c 0 rfl r hr.1).trans (((dats m 0 c).arrAt_in 0 rfl _).trans (A_eq m c 0)),
      (hk c 1 rfl r hr.1).trans (((dats m 0 c).arrAt_in 1 rfl _).trans (A_eq m c 1)),
      (hk c 2 rfl r hr.1).trans (((dats m 0 c).arrAt_in 2 rfl _).trans (A_eq m c 2)),
      (hk c 3 rfl r hr.1).trans (((dats m 0 c).arrAt_in 3 rfl _).trans (A_eq m c 3))⟩, hr.2⟩) h

end Cert.KernelIdeal.Kept
-- ==== Proof.HeadStep.lean ====
/- One grid step of one head, as functions on blocks.

   The kernel treats sixteen "heads": eight pairs, and in each pair two attention maps `e = 0, 1`.  A head's step
   takes the pair's query, key and value columns and the head's running maximum `m`, running denominator `l` and
   running numerator `a`, and renews the three.  The functions below are that step, written once; every head of
   every case of the kernel's body is one of them at its own columns (module `Blocks`). -/
module

public import proofs.«01_k».proof.Proof.Gen.KernelIdeal.Skeleton
public import Idealize.ShloMosaic.Lib.Pipeline.ValueKit

@[expose] public section

set_option synthInstance.maxSize 4096

noncomputable section

namespace Cert.KernelIdeal.Head

open Idealize.ShloMosaic Idealize.SL.Sem
open Cert.KernelIdeal Cert.KernelIdeal.Gen

variable {F : FTy → Type} [FloatOps F] [Named F]

/-- The lanes below 64: the first map's half of a pair's columns. -/
def lo : IVec S512x128 1 :=
  cmpi .slt (iota .tc S512x128 32 [1] iota_S512x128_d1_w32) (broadcast S512x128 64#32)

/-- The causal mask of query tile `i` against key chunk `j`. -/
def causal (i j : BitVec 32) : IVec S512x1024 1 :=
  cmpi .sle (addi (broadcast S512x1024 (Scalar.muli j 1024#32)) (iota .tc S512x1024 32 [1] iota_S512x1024_d1_w32))
    (addi (broadcast S512x1024 (Scalar.muli i 512#32)) (iota .tc S512x1024 32 [0] iota_S512x1024_d0_w32))

/-- The pair's scaled queries. -/
def scaled (q : Vec F S512x128 .f32) : FVec F S512x128 .f32 :=
  mulf q (broadcast S512x128 (Named.named κ "q_scale" 0x3E38AA3B#32 : F .f32))

/-- The scaled queries of map `e`, the other map's lanes zero. -/
def half (e : Bool) (q : Vec F S512x128 .f32) : FVec F S512x128 .bf16 :=
  match e with
  | false => truncf .bf16 (select lo (scaled q) (broadcast S512x128 (Scalar.ofBits .f32 0x00000000#32 : F .f32))) bitsLt_bf16_f32
  | true => truncf .bf16 (select lo (broadcast S512x128 (Scalar.ofBits .f32 0x00000000#32 : F .f32)) (scaled q)) bitsLt_bf16_f32

/-- The scores of a chunk, before any mask. -/
def score (e : Bool) (q : Vec F S512x128 .f32) (k : Vec F S1024x128 .bf16) : FVec F S512x1024 .f32 :=
  matmul dot_S512x128_S1024x128_S512x1024_1_1_0_0_n_n none (half e q) k (constant S512x1024 .f32 0x00000000#32)

/-- The scores of a chunk: under the causal mask where one is given. -/
def scored (msk : Option (IVec S512x1024 1)) (e : Bool) (q : Vec F S512x128 .f32) (k : Vec F S1024x128 .bf16) : FVec F S512x1024 .f32 :=
  match msk with
  | none => score e q k
  | some c => select c (score e q k) (broadcast S512x1024 (Named.named κ "mask" 0xF149F2CA#32 : F .f32))

/-- The renewed maximum. -/
def mNew (s : FVec F S512x1024 .f32) (m : Vec F S1x512x128 .f32) : FVec F S512x128 .f32 :=
  maximumf (shapeCast S512x128 m shapeCasts_S1x512x128_S512x128)
    (broadcastTo S512x128 (shapeCast S512x1 (multiReduction .maximumf [1] S512 s 0xFF800000#32 reduces_S512x1024_S512 (.inl rfl) rfl)
      shapeCasts_S512_S512x1) broadcasts_S512x1_S512x128)

/-- The factor by which the old denominator and numerator shrink. -/
def alpha (s : FVec F S512x1024 .f32) (m : Vec F S1x512x128 .f32) : FVec F S512x128 .f32 :=
  exp2 (subf (shapeCast S512x128 m shapeCasts_S1x512x128_S512x128) (mNew s m))

/-- The chunk's weights. -/
def wts (s : FVec F S512x1024 .f32) (m : Vec F S1x512x128 .f32) : FVec F S512x1024 .f32 :=
  exp2 (subf s (concatenate S512x1024 1 [⟨S512x128, mNew s m⟩, ⟨S512x128, mNew s m⟩, ⟨S512x128, mNew s m⟩, ⟨S512x128, mNew s m⟩,
    ⟨S512x128, mNew s m⟩, ⟨S512x128, mNew s m⟩, ⟨S512x128, mNew s m⟩, ⟨S512x128, mNew s m⟩]
    concatenates_S512x128_S512x128_S512x128_S512x128_S512x128_S512x128_S512x128_S512x128_S512x1024_d1))

/-- The renewed denominator. -/
def lNew (s : FVec F S512x1024 .f32) (m l : Vec F S1x512x128 .f32) : FVec F S512x128 .f32 :=
  addf (mulf (alpha s m) (shapeCast S512x128 l shapeCasts_S1x512x128_S512x128))
    (broadcastTo S512x128 (shapeCast S512x1 (multiReduction .add [1] S512 (wts s m) 0x00000000#32 reduces_S512x1024_S512 (.inl rfl) rfl)
      shapeCasts_S512_S512x1) broadcasts_S512x1_S512x128)

/-- The renewed numerator. -/
def aNew (s : FVec F S512x1024 .f32) (v : Vec F S1024x128 .bf16) (m a : Vec F S1x512x128 .f32) : FVec F S512x128 .f32 :=
  addf (mulf (shapeCast S512x128 a shapeCasts_S1x512x128_S512x128) (alpha s m))
    (matmul dot_S512x1024_S1024x128_S512x128_1_0_0_1_n_n none (truncf .bf16 (wts s m) bitsLt_bf16_f32) v (constant S512x128 .f32 0x00000000#32))

/-- A head's block under the leading axis it is stored with. -/
def lift (x : FVec F S512x128 .f32) : FVec F S1x512x128 .f32 := shapeCast S1x512x128 x shapeCasts_S512x128_S1x512x128

/-- A pair's output columns: the first map's quotient less `lam` times the second's. -/
def combine (lam : Elt F .f32) (a0 l0 a1 l1 : Vec F S1x512x128 .f32) : FVec F S512x128 .f32 :=
  subf (divf (shapeCast S512x128 a0 shapeCasts_S1x512x128_S512x128) (shapeCast S512x128 l0 shapeCasts_S1x512x128_S512x128))
    (mulf (broadcast S512x128 lam)
      (divf (shapeCast S512x128 a1 shapeCasts_S1x512x128_S512x128) (shapeCast S512x128 l1 shapeCasts_S1x512x128_S512x128)))

/-- Columns `128 p … 128 p + 127` of a block of 512 rows. -/
def cols (x : Vec F S512x1024 .f32) (p : ℕ) (hp : p < 8) : Vec F S512x128 .f32 := fun y =>
  x (ix2 (⟨(y 0).val, (y 0).isLt⟩ : Fin 512) (⟨128 * p + (y 1).val, by have : (y 1).val < 128 := (y 1).isLt; omega⟩ : Fin 1024))

/-- Columns `128 p … 128 p + 127` of a block of 1024 rows. -/
def colsK (x : Vec F S1024x1024 .bf16) (p : ℕ) (hp : p < 8) : Vec F S1024x128 .bf16 := fun y =>
  x (ix2 (⟨(y 0).val, (y 0).isLt⟩ : Fin 1024) (⟨128 * p + (y 1).val, by have : (y 1).val < 128 := (y 1).isLt; omega⟩ : Fin 1024))

/-- Head `h` of a scratch. -/
def slab (x : Vec F S16x512x128 .f32) (h : ℕ) (hh : h < 16) : Vec F S1x512x128 .f32 := fun y =>
  x (ix3 (⟨h, hh⟩ : Fin 16) (⟨(y 1).val, (y 1).isLt⟩ : Fin 512) (⟨(y 2).val, (y 2).isLt⟩ : Fin 128))

end Cert.KernelIdeal.Head

end
-- ==== Proof.Blocks.lean ====
/- What the kernel's body leaves, case by case, in closed form.

   The body's sixteen heads are the one step of module `HeadStep` at sixteen columns and slabs: a scratch after a step is `arr` of the sixteen
   renewed slabs, and the output after the last step is `outs` of the eight pairs' quotients. -/
module

public import proofs.«01_k».proof.Proof.Gen.KernelIdeal.Frame.Runs
public import proofs.«01_k».proof.Proof.HeadStep
public import Idealize.ShloMosaic.Lib.Pipeline.ReadBack
public import Idealize.ShloMosaic.Lib.Claim

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- One block per head. -/
abbrev Slabs (F : FTy → Type) [FloatOps F] : Type := (h : ℕ) → h < 16 → FVec F S1x512x128 .f32

theorem inb_q (h : ℕ) (hh : h < 16) : ∀ a, (![0, 128 * (h / 2)] : Fin 2 → ℕ) a + S512x128.size a ≤ S512x1024.size a := fun a =>
  match a with | ⟨0, _⟩ => (by decide : 0 + 512 ≤ 512) | ⟨1, _⟩ => (by omega : 128 * (h / 2) + 128 ≤ 1024)
theorem inb_k (h : ℕ) (hh : h < 16) : ∀ a, (![0, 128 * (h / 2)] : Fin 2 → ℕ) a + S1024x128.size a ≤ S1024x1024.size a := fun a =>
  match a with | ⟨0, _⟩ => (by decide : 0 + 1024 ≤ 1024) | ⟨1, _⟩ => (by omega : 128 * (h / 2) + 128 ≤ 1024)
theorem inb_s (h : ℕ) (hh : h < 16) : ∀ a, (![h, 0, 0] : Fin 3 → ℕ) a + S1x512x128.size a ≤ S16x512x128.size a := fun a =>
  match a with
  | ⟨0, _⟩ => (by omega : h + 1 ≤ 16) | ⟨1, _⟩ => (by decide : 0 + 512 ≤ 512) | ⟨2, _⟩ => (by decide : 0 + 128 ≤ 128)

/-- Head `h`'s query columns. -/
def qCol (x : Vec F S512x1024 .f32) (h : ℕ) (hh : h < 16) : Vec F S512x128 .f32 :=
  View.ld x (Rect.unit ![0, 128 * (h / 2)] S512x128.size (inb_q h hh))
/-- Head `h`'s key (or value) columns. -/
def kCol (x : Vec F S1024x1024 .bf16) (h : ℕ) (hh : h < 16) : Vec F S1024x128 .bf16 :=
  View.ld x (Rect.unit ![0, 128 * (h / 2)] S1024x128.size (inb_k h hh))
/-- Head `h`'s slab of a scratch. -/
def headOf (x : Vec F S16x512x128 .f32) : Slabs F := fun h hh =>
  View.ld x (Rect.unit ![h, 0, 0] S1x512x128.size (inb_s h hh))

/-- Which of a pair's two maps head `h` is. -/
def isSnd (h : ℕ) : Bool := h % 2 == 1

/-- Head `h`'s scores of a chunk. -/
def scoreP (msk : Option (IVec S512x1024 1)) (x0 : Vec F S512x1024 .f32) (x1 : Vec F S1024x1024 .bf16) (h : ℕ) (hh : h < 16) : FVec F S512x1024 .f32 :=
  scored msk (isSnd h) (qCol x0 h hh) (kCol x1 h hh)

/-- The sixteen renewed maxima, denominators and numerators. -/
def mP (msk : Option (IVec S512x1024 1)) (x0 : Vec F S512x1024 .f32) (x1 : Vec F S1024x1024 .bf16) (M : Slabs F) : Slabs F := fun h hh =>
  lift (mNew (scoreP msk x0 x1 h hh) (M h hh))
def lP (msk : Option (IVec S512x1024 1)) (x0 : Vec F S512x1024 .f32) (x1 : Vec F S1024x1024 .bf16) (M L : Slabs F) : Slabs F := fun h hh =>
  lift (lNew (scoreP msk x0 x1 h hh) (M h hh) (L h hh))
def aP (msk : Option (IVec S512x1024 1)) (x0 : Vec F S512x1024 .f32) (x1 x2 : Vec F S1024x1024 .bf16) (M A : Slabs F) : Slabs F := fun h hh =>
  lift (aNew (scoreP msk x0 x1 h hh) (kCol x2 h hh) (M h hh) (A h hh))

/-- The scratch whose slabs are `P`. -/
def arr (P : Slabs F) : Vec F S16x512x128 .f32 := fun y =>
  P (y 0).val (y 0).isLt (ix3 (0 : Fin 1) (⟨(y 1).val, (y 1).isLt⟩ : Fin 512) (⟨(y 2).val, (y 2).isLt⟩ : Fin 128))

/-- The output whose eight column groups are `P`. -/
def outs (P : (p : ℕ) → p < 8 → FVec F S512x128 .f32) : Vec F S512x1024 .f32 := fun y =>
  P ((y 1).val / 128) (by have h : (y 1).val < 1024 := (y 1).isLt; omega)
    (ix2 (⟨(y 0).val, (y 0).isLt⟩ : Fin 512) (⟨(y 1).val % 128, Nat.mod_lt _ (by decide)⟩ : Fin 128))

/-- The one word of the factor. -/
def lamOf (x : Vec F S1x1 .f32) : Elt F .f32 :=
  View.ld x (Rect.unit ![0, 0] S1x1.size inb_S1x1_S1x1_0_0) (Shape.Idx.first (by decide))

/-- The eight pairs' quotients. -/
def outP (lam : Elt F .f32) (L A : Slabs F) (p : ℕ) (hp : p < 8) : FVec F S512x128 .f32 :=
  combine lam (A (2 * p) (by omega)) (L (2 * p) (by omega)) (A (2 * p + 1) (by omega)) (L (2 * p + 1) (by omega))

def piece (P : Slabs F) (h : ℕ) (hh : h < 16) : View.Piece (Elt F) S16x512x128 .f32 :=
  ⟨Rect.unit ![h, 0, 0] S1x512x128.size (inb_s h hh), P h hh⟩

/-- The sixteen stores of a step, the last first. -/
def slabs (P : Slabs F) : List (View.Piece (Elt F) S16x512x128 .f32) :=
  [piece P 15 (by decide), piece P 14 (by decide), piece P 13 (by decide), piece P 12 (by decide), piece P 11 (by decide), piece P 10 (by decide), piece P 9 (by decide), piece P 8 (by decide), piece P 7 (by decide), piece P 6 (by decide), piece P 5 (by decide), piece P 4 (by decide), piece P 3 (by decide), piece P 2 (by decide), piece P 1 (by decide), piece P 0 (by decide)]

theorem inb_o (p : ℕ) (hp : p < 8) : ∀ a, (![0, 128 * p] : Fin 2 → ℕ) a + S512x128.size a ≤ S512x1024.size a := fun a =>
  match a with | ⟨0, _⟩ => (by decide : 0 + 512 ≤ 512) | ⟨1, _⟩ => (by omega : 128 * p + 128 ≤ 1024)

def pieceO (P : (p : ℕ) → p < 8 → FVec F S512x128 .f32) (p : ℕ) (hp : p < 8) : View.Piece (Elt F) S512x1024 .f32 :=
  ⟨Rect.unit ![0, 128 * p] S512x128.size (inb_o p hp), P p hp⟩

/-- The eight stores of the last step, the last first. -/
def groups (P : (p : ℕ) → p < 8 → FVec F S512x128 .f32) : List (View.Piece (Elt F) S512x1024 .f32) :=
  [pieceO P 7 (by decide), pieceO P 6 (by decide), pieceO P 5 (by decide), pieceO P 4 (by decide), pieceO P 3 (by decide), pieceO P 2 (by decide), pieceO P 1 (by decide), pieceO P 0 (by decide)]

theorem emb_slab (h : ℕ) (hh : h < 16) (x : S1x512x128.Idx) :
    (Rect.unit ![h, 0, 0] S1x512x128.size (inb_s h hh) : Rect S16x512x128).emb x
      = ix3 (⟨h, hh⟩ : Fin 16) (⟨(x 1).val, (x 1).isLt⟩ : Fin 512) (⟨(x 2).val, (x 2).isLt⟩ : Fin 128) :=
  funext fun a => Fin.ext (match a with
    | ⟨0, _⟩ => (by have h0 : (x 0).val < 1 := (x 0).isLt; omega : h + 1 * (x 0).val = h)
    | ⟨1, _⟩ => (by omega : 0 + 1 * (x 1).val = (x 1).val)
    | ⟨2, _⟩ => (by omega : 0 + 1 * (x 2).val = (x 2).val))

theorem idx_unit (x : S1x512x128.Idx) : x = ix3 (0 : Fin 1) (⟨(x 1).val, (x 1).isLt⟩ : Fin 512) (⟨(x 2).val, (x 2).isLt⟩ : Fin 128) :=
  funext fun a => Fin.ext (match a with
    | ⟨0, _⟩ => (by have h0 : (x 0).val < 1 := (x 0).isLt; omega : (x 0).val = 0) | ⟨1, _⟩ => rfl | ⟨2, _⟩ => rfl)

theorem headOf_arr (P : Slabs F) : headOf (arr P) = P := by
  funext h hh x
  show arr P ((Rect.unit ![h, 0, 0] S1x512x128.size (inb_s h hh) : Rect S16x512x128).emb x) = _
  rw [emb_slab h hh]
  exact congrArg (P h hh) (idx_unit x).symm

theorem mem_slabs (P : Slabs F) (h : ℕ) (hh : h < 16) : piece P h hh ∈ slabs P := by
  unfold slabs
  interval_cases h <;> simp

theorem piece_of_mem (P : Slabs F) (p : View.Piece (Elt F) S16x512x128 .f32) (hp : p ∈ slabs P) : ∃ h hh, p = piece P h hh := by
  simp only [slabs, List.mem_cons, List.not_mem_nil, or_false] at hp
  rcases hp with rfl | rfl | rfl | rfl | rfl | rfl | rfl | rfl | rfl | rfl | rfl | rfl | rfl | rfl | rfl | rfl <;> exact ⟨_, _, rfl⟩

theorem mem_groups (P : (p : ℕ) → p < 8 → FVec F S512x128 .f32) (h : ℕ) (hh : h < 8) : pieceO P h hh ∈ groups P := by
  unfold groups
  interval_cases h <;> simp

theorem piece_of_mem_groups (P : (p : ℕ) → p < 8 → FVec F S512x128 .f32) (p : View.Piece (Elt F) S512x1024 .f32) (hp : p ∈ groups P) :
    ∃ h hh, p = pieceO P h hh := by
  simp only [groups, List.mem_cons, List.not_mem_nil, or_false] at hp
  rcases hp with rfl | rfl | rfl | rfl | rfl | rfl | rfl | rfl <;> exact ⟨_, _, rfl⟩

theorem canon_slabs (P : Slabs F) (L : List (View.Piece (Elt F) S16x512x128 .f32)) : View.canon (slabs P ++ L) = arr P := by
  funext y
  refine View.canon_append_of_pieces (arr P) L (slabs P) (fun p hp x => ?_) y ⟨piece P (y 0).val (y 0).isLt, mem_slabs P _ _, ?_⟩
  · obtain ⟨h, hh, rfl⟩ := piece_of_mem P p hp
    exact (congrFun (congrFun (congrFun (headOf_arr P) h) hh) x).symm
  · rw [← Rect.map_emb_univ]
    refine Finset.mem_map.mpr ⟨ix3 (0 : Fin 1) (⟨(y 1).val, (y 1).isLt⟩ : Fin 512) (⟨(y 2).val, (y 2).isLt⟩ : Fin 128), Finset.mem_univ _, ?_⟩
    refine (emb_slab (y 0).val (y 0).isLt _).trans ?_
    exact funext fun a => match a with | ⟨0, _⟩ => rfl | ⟨1, _⟩ => rfl | ⟨2, _⟩ => rfl

theorem read_slabs {κ : Kind} {sp : Space} (v : View sig κ sp S16x512x128 .f32) (f : v.ty.Contents (Elt F)) (P : Slabs F)
    (L : List (View.Piece (Elt F) S16x512x128 .f32)) : v.read (Elt F) (v.writes (Elt F) f (slabs P ++ L)) = arr P := by
  rw [View.read_writes_eq_canon, canon_slabs]
  refine fun y => ⟨piece P (y 0).val (y 0).isLt, List.mem_append_left _ (mem_slabs P _ _), ?_⟩
  rw [← Rect.map_emb_univ]
  refine Finset.mem_map.mpr ⟨ix3 (0 : Fin 1) (⟨(y 1).val, (y 1).isLt⟩ : Fin 512) (⟨(y 2).val, (y 2).isLt⟩ : Fin 128), Finset.mem_univ _, ?_⟩
  refine (emb_slab (y 0).val (y 0).isLt _).trans ?_
  exact funext fun a => match a with | ⟨0, _⟩ => rfl | ⟨1, _⟩ => rfl | ⟨2, _⟩ => rfl

theorem emb_group (p : ℕ) (hp : p < 8) (x : S512x128.Idx) :
    (Rect.unit ![0, 128 * p] S512x128.size (inb_o p hp) : Rect S512x1024).emb x
      = ix2 (⟨(x 0).val, (x 0).isLt⟩ : Fin 512) (⟨128 * p + (x 1).val, by have h : (x 1).val < 128 := (x 1).isLt; omega⟩ : Fin 1024) :=
  funext fun a => Fin.ext (match a with
    | ⟨0, _⟩ => (by omega : 0 + 1 * (x 0).val = (x 0).val)
    | ⟨1, _⟩ => (by omega : 128 * p + 1 * (x 1).val = 128 * p + (x 1).val))

theorem outs_emb (P : (p : ℕ) → p < 8 → FVec F S512x128 .f32) (p : ℕ) (hp : p < 8) (x : S512x128.Idx) :
    outs P ((Rect.unit ![0, 128 * p] S512x128.size (inb_o p hp) : Rect S512x1024).emb x) = P p hp x := by
  have h1 : (x 1).val < 128 := (x 1).isLt
  rw [emb_group p hp]
  have key : ∀ (q : ℕ) (hq : q < 8) (z : S512x128.Idx), q = p → z = x → P q hq z = P p hp x := fun q hq z e e' => by subst e; subst e'; rfl
  refine key _ _ _ (by show (128 * p + (x 1).val) / 128 = p; omega) (funext fun a => Fin.ext ?_)
  match a with
  | ⟨0, _⟩ => rfl
  | ⟨1, _⟩ => exact (by omega : (128 * p + (x 1).val) % 128 = (x 1).val)

theorem read_groups {κ : Kind} {sp : Space} (v : View sig κ sp S512x1024 .f32) (f : v.ty.Contents (Elt F))
    (P : (p : ℕ) → p < 8 → FVec F S512x128 .f32) : v.read (Elt F) (v.writes (Elt F) f (groups P)) = outs P := by
  have hc : ∀ y : S512x1024.Idx, ∃ p ∈ groups P, y ∈ p.1.set := fun y => by
    have h : (y 1).val < 1024 := (y 1).isLt
    refine ⟨pieceO P ((y 1).val / 128) (by omega), mem_groups P _ _, ?_⟩
    rw [← Rect.map_emb_univ]
    refine Finset.mem_map.mpr ⟨ix2 (⟨(y 0).val, (y 0).isLt⟩ : Fin 512) (⟨(y 1).val % 128, Nat.mod_lt _ (by decide)⟩ : Fin 128), Finset.mem_univ _, ?_⟩
    refine (emb_group ((y 1).val / 128) (by omega) _).trans (funext fun a => Fin.ext ?_)
    match a with
    | ⟨0, _⟩ => rfl
    | ⟨1, _⟩ => exact (by omega : 128 * ((y 1).val / 128) + (y 1).val % 128 = (y 1).val)
  rw [View.read_writes_eq_canon v f (groups P) hc]
  funext y
  refine View.canon_apply_of_pieces (outs P) (groups P) (fun p hp x => ?_) y (hc y)
  obtain ⟨h, hh, rfl⟩ := piece_of_mem_groups P p hp
  exact (outs_emb P h hh x).symm

theorem not_mem_slab (h : ℕ) (hh : h < 16) (y : S16x512x128.Idx) (hy : (y 0).val ≠ h) :
    y ∉ (Rect.unit ![h, 0, 0] S1x512x128.size (inb_s h hh) : Rect S16x512x128).set := fun hm => by
  obtain ⟨x, rfl⟩ := LoadRect.exists_idx_of_mem _ hm
  refine hy ?_
  show ((Rect.unit ![h, 0, 0] S1x512x128.size (inb_s h hh) : Rect S16x512x128).emb x 0).val = h
  rw [emb_slab h hh]
  rfl

/-- A store of slab `h` is not seen at another slab; -/
theorem canon_off (h : ℕ) (hh : h < 16) (w : FVec F S1x512x128 .f32) (L : List (View.Piece (Elt F) S16x512x128 .f32)) (y : S16x512x128.Idx)
    (hy : (y 0).val ≠ h) :
    View.canon ((⟨Rect.unit ![h, 0, 0] S1x512x128.size (inb_s h hh), w⟩ : View.Piece (Elt F) S16x512x128 .f32) :: L) y = View.canon L y :=
  View.canon_cons_of_not_mem (⟨Rect.unit ![h, 0, 0] S1x512x128.size (inb_s h hh), w⟩ : View.Piece (Elt F) S16x512x128 .f32) L (not_mem_slab h hh y hy)

/-- at its own it is read. -/
theorem canon_on (h : ℕ) (hh : h < 16) (w : FVec F S1x512x128 .f32) (L : List (View.Piece (Elt F) S16x512x128 .f32)) (y : S16x512x128.Idx)
    (hy : (y 0).val = h) :
    View.canon ((⟨Rect.unit ![h, 0, 0] S1x512x128.size (inb_s h hh), w⟩ : View.Piece (Elt F) S16x512x128 .f32) :: L) y
      = w (ix3 (0 : Fin 1) (⟨(y 1).val, (y 1).isLt⟩ : Fin 512) (⟨(y 2).val, (y 2).isLt⟩ : Fin 128)) := by
  have e : y = (Rect.unit ![h, 0, 0] S1x512x128.size (inb_s h hh) : Rect S16x512x128).emb
      (ix3 (0 : Fin 1) (⟨(y 1).val, (y 1).isLt⟩ : Fin 512) (⟨(y 2).val, (y 2).isLt⟩ : Fin 128)) := by
    rw [emb_slab h hh]
    exact funext fun a => Fin.ext (match a with | ⟨0, _⟩ => hy | ⟨1, _⟩ => rfl | ⟨2, _⟩ => rfl)
  exact (congrArg (View.canon _) e).trans (View.canon_cons_emb (Rect.unit ![h, 0, 0] S1x512x128.size (inb_s h hh) : Rect S16x512x128) w L _)

/-- The fill of a whole scratch. -/
def fill (Z : Vec F S16x512x128 .f32) : View.Piece (Elt F) S16x512x128 .f32 :=
  ⟨Rect.unit ![0, 0, 0] S16x512x128.size inb_S16x512x128_S16x512x128_0_0_0, Z⟩

/-- The stores of the first `n` heads over a fill, the last first, each head renewed from what its slab then holds. -/
def chain {κ : Kind} {sp : Space} (v : View sig κ sp S16x512x128 .f32) (Z : Vec F S16x512x128 .f32)
    (step : (h : ℕ) → h < 16 → FVec F S1x512x128 .f32 → FVec F S1x512x128 .f32) :
    (n : ℕ) → n ≤ 16 → List (View.Piece (Elt F) S16x512x128 .f32)
  | 0, _ => [fill Z]
  | n + 1, hn =>
    ⟨Rect.unit ![n, 0, 0] S1x512x128.size (inb_s n hn),
      step n hn (v.readCov (chain v Z step n (Nat.le_of_succ_le hn)) (Rect.unit (s := S16x512x128) ![n, 0, 0] S1x512x128.size (inb_s n hn)).toLoadRect)⟩
      :: chain v Z step n (Nat.le_of_succ_le hn)

section Chain
variable {κ : Kind} {sp : Space} (v : View sig κ sp S16x512x128 .f32) (Z : Vec F S16x512x128 .f32)
  (step : (h : ℕ) → h < 16 → FVec F S1x512x128 .f32 → FVec F S1x512x128 .f32)

theorem canon_fill : View.canon [fill Z] = Z :=
  View.canon_cons_unit_lit inb_S16x512x128_S16x512x128_0_0_0 Z [] (fun a => match a with | ⟨0, _⟩ => rfl | ⟨1, _⟩ => rfl | ⟨2, _⟩ => rfl)

/-- A slab that no store has reached still holds the fill. -/
theorem canon_chain_above : ∀ (n : ℕ) (hn : n ≤ 16) (y : S16x512x128.Idx) (_ : n ≤ (y 0).val), View.canon (chain v Z step n hn) y = Z y
  | 0, _, y, _ => congrFun (canon_fill Z) y
  | n + 1, hn, y, hy => (canon_off n hn _ _ y (by omega)).trans (canon_chain_above n _ y (by omega))

/-- So each head is renewed from the fill. -/
theorem read_chain (n : ℕ) (hn : n < 16) :
    v.readCov (chain v Z step n (Nat.le_of_lt hn)) (Rect.unit (s := S16x512x128) ![n, 0, 0] S1x512x128.size (inb_s n hn)).toLoadRect = headOf Z n hn := by
  rw [View.readCov_eq_canon']
  funext x
  refine canon_chain_above v Z step n _ _ ?_
  show n ≤ ((Rect.unit ![n, 0, 0] S1x512x128.size (inb_s n hn) : Rect S16x512x128).emb x 0).val
  rw [emb_slab n hn]
  exact Nat.le_refl n

theorem canon_chain_below : ∀ (n : ℕ) (hn : n ≤ 16) (y : S16x512x128.Idx) (_ : (y 0).val < n),
    View.canon (chain v Z step n hn) y = arr (fun h hh => step h hh (headOf Z h hh)) y
  | n + 1, hn, y, hy => by
    by_cases h : (y 0).val = n
    · subst h
      refine (canon_on (y 0).val hn _ _ y rfl).trans ?_
      rw [read_chain v Z step (y 0).val hn]
      rfl
    · exact (canon_off n hn _ _ y h).trans (canon_chain_below n _ y (by omega))

/-- After all sixteen heads the scratch holds the sixteen steps from the fill. -/
theorem read_chain_all (f : v.ty.Contents (Elt F)) :
    v.read (Elt F) (v.writes (Elt F) f (chain v Z step 16 (Nat.le_refl 16))) = arr (fun h hh => step h hh (headOf Z h hh)) := by
  have hc : ∀ y : S16x512x128.Idx, ∃ p ∈ chain v Z step 16 (Nat.le_refl 16), y ∈ p.1.set := fun y => by
    have mem : ∀ (n : ℕ) (hn : n ≤ 16), fill Z ∈ chain v Z step n hn := fun n => by
      induction n with
      | zero => exact fun _ => List.mem_singleton_self _
      | succ n ih => exact fun hn => List.mem_cons_of_mem _ (ih _)
    exact ⟨fill Z, mem 16 _, View.mem_set_unit_zero (by funext a; match a with | ⟨0, _⟩ => rfl | ⟨1, _⟩ => rfl | ⟨2, _⟩ => rfl)
      inb_S16x512x128_S16x512x128_0_0_0 y⟩
  rw [View.read_writes_eq_canon v f _ hc]
  funext y
  exact canon_chain_below v Z step 16 _ y (y 0).isLt

end Chain

/-- A slab read after the sixteen stores of a step. -/
theorem readCov_slabs {κ : Kind} {sp : Space} (v : View sig κ sp S16x512x128 .f32) (P : Slabs F)
    (L : List (View.Piece (Elt F) S16x512x128 .f32)) (h : ℕ) (hh : h < 16) :
    v.readCov (slabs P ++ L) (Rect.unit (s := S16x512x128) ![h, 0, 0] S1x512x128.size (inb_s h hh)).toLoadRect = P h hh := by
  rw [View.readCov_eq_canon', canon_slabs]
  exact congrFun (congrFun (headOf_arr P) h) hh

/-- The body at `i`, from the inputs' blocks `x0 … x3`, the output's block `d4` and the scratches `d7 d8 d9`, leaves the inputs as they were and
    the other four at `e4 e7 e8 e9`. -/
def Leaves (i : grid0.Coords) (x0 : Vec F S512x1024 .f32) (x1 x2 : Vec F S1024x1024 .bf16) (x3 : Vec F S1x1 .f32)
    (d4 : Vec F S512x1024 .f32) (d7 d8 d9 : Vec F S16x512x128 .f32) (e4 : Vec F S512x1024 .f32) (e7 e8 e9 : Vec F S16x512x128 .f32) : Prop :=
  ∀ (c : Dev nD)
    (arg2 : Memref sig .tc .vmem S512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .smem S1x1 .f32) (harg5 : arg5.IsWhole)
    (arg6 : Memref sig .tc .vmem S512x1024 .f32) (harg6 : arg6.IsWhole)
    (arg7 : Memref sig .tc .vmem S16x512x128 .f32) (harg7 : arg7.IsWhole)
    (arg8 : Memref sig .tc .vmem S16x512x128 .f32) (harg8 : arg8.IsWhole)
    (arg9 : Memref sig .tc .vmem S16x512x128 .f32) (harg9 : arg9.IsWhole) (E : Set ℕ) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d4
        ∗ owns (c : Thread nD τ) arg7 fullShare d7 ∗ owns (c : Thread nD τ) arg8 fullShare d8 ∗ owns (c : Thread nD τ) arg9 fullShare d9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare e4
            ∗ owns (c : Thread nD τ) arg7 fullShare e7 ∗ owns (c : Thread nD τ) arg8 fullShare e8
            ∗ owns (c : Thread nD τ) arg9 fullShare e9) -∗ K ⟨⟩))
      ⊢ wp frame (wpE (defs₀ (F := F)) Variants.none c none) E
          (cc0_flash_diff i arg2 harg2 arg3 harg3 arg4 harg4 arg5 harg5 arg6 harg6 arg7 harg7 arg8 harg8 arg9 harg9) K

/-- The mask of the diagonal chunks at a point. -/
def diag (i : grid0.Coords) : Option (IVec S512x1024 1) := some (causal (BitVec.ofNat 32 (i 0).val) (BitVec.ofNat 32 (i 1).val))

end Cert.KernelIdeal.Head

end
-- ==== Proof.OnlineRow.lean ====
/- The online softmax of one query row, in extended reals.

   A row walks the keys in chunks of 1024 and keeps a running maximum, a running denominator and a running numerator
   (each on 128 lanes).  `RowOK` says what they hold after the first `n` keys, up to the reference point `M` of the
   exponentials, and `RowOK.step` is one chunk; `RowOK.quotient` reads the softmax average off the final state. -/
module

public import Idealize.ShloMosaic.Lib.Pipeline.ValueKit

@[expose] public section

noncomputable section

namespace Cert.Online

open Idealize.ShloMosaic

/-- The weight of key `c` for query `t`, relative to the reference point `M`; a key after the query has none. -/
def wt (S : ℕ → ℝ) (t : ℕ) (M : ℝ) (c : ℕ) : ℝ := if c ≤ t then (2 : ℝ) ^ (S c - M) else 0

/-- The row's state after the first `n` keys: nothing yet, or sums of weights relative to some real `M`. -/
def RowOK (S : ℕ → ℝ) (V : ℕ → Fin 128 → ℝ) (t n : ℕ) (m l a : Fin 128 → EReal) : Prop :=
  (n = 0 ∧ ∀ d, m d = ⊥ ∧ l d = 0 ∧ a d = 0) ∨
  ∃ M : ℝ, ∀ d, m d = (M : EReal) ∧ l d = ((∑ c ∈ Finset.range n, wt S t M c : ℝ) : EReal)
    ∧ a d = ((∑ c ∈ Finset.range n, wt S t M c * V c d : ℝ) : EReal)

theorem RowOK.init (S : ℕ → ℝ) (V : ℕ → Fin 128 → ℝ) (t : ℕ) (m l a : Fin 128 → EReal)
    (h : ∀ d, m d = ⊥ ∧ l d = 0 ∧ a d = 0) : RowOK S V t 0 m l a := .inl ⟨rfl, h⟩

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of the chunk's scores is a real number once one of them is. -/
theorem fold_max_real {ι : Type*} [Fintype ι] (s : ι → EReal) (c₀ : ι) (h₀ : s c₀ ≠ ⊥) (h : ∀ c, s c ≠ ⊤) :
    ∃ μ : ℝ, Finset.fold max ⊥ s Finset.univ = (μ : EReal) := by
  have hb : Finset.fold max ⊥ s Finset.univ ≠ ⊥ := by
    have := (Finset.le_fold_max (s := Finset.univ) (f := s) (b := ⊥) (s c₀)).2 (.inr ⟨c₀, Finset.mem_univ _, le_rfl⟩)
    intro e; rw [e] at this; exact h₀ (le_bot_iff.1 this)
  have ht : Finset.fold max ⊥ s Finset.univ ≠ ⊤ := by
    have := (Finset.fold_max_lt (s := Finset.univ) (f := s) (b := ⊥) ⊤).2 ⟨bot_lt_top, fun c _ => lt_top_iff_ne_top.2 (h c)⟩
    exact this.ne
  exact ⟨_, (EReal.coe_toReal ht hb).symm⟩

theorem exp2_sub_real (x y : ℝ) : Ideal.exp2 ((x : EReal) - (y : EReal)) = (((2 : ℝ) ^ (x - y) : ℝ) : EReal) := by
  rw [← EReal.coe_sub, Ideal.exp2_coe]; rfl

theorem exp2_bot_sub (y : ℝ) : Ideal.exp2 ((⊥ : EReal) - (y : EReal)) = 0 := by
  rw [EReal.bot_sub, Ideal.exp2_bot]

/-- The weights relative to `M'`, from those relative to `M`. -/
theorem wt_rescale (S : ℕ → ℝ) (t : ℕ) (M M' : ℝ) (c : ℕ) : wt S t M' c = (2 : ℝ) ^ (M - M') * wt S t M c := by
  unfold wt
  split
  · rw [← Real.rpow_add two_pos]; congr 1; ring
  · simp

/-- One chunk of 1024 keys. -/
theorem RowOK.step {S : ℕ → ℝ} {V : ℕ → Fin 128 → ℝ} {t n : ℕ} {m l a : Fin 128 → EReal} (h : RowOK S V t n m l a) (hn : n ≤ t)
    (s : Fin 1024 → EReal) (hs : ∀ c, s c = if n + c.val ≤ t then (S (n + c.val) : EReal) else ⊥)
    (v : Fin 1024 → Fin 128 → EReal) (hv : ∀ c d, v c d = (V (n + c.val) d : EReal))
    (π : Fin 1024 → Fin 128) (m' l' a' : Fin 128 → EReal)
    (hm' : ∀ d, m' d = max (m d) (Finset.fold max ⊥ s Finset.univ))
    (hl' : ∀ d, l' d = Ideal.exp2 (m d - m' d) * l d + ∑ c, Ideal.exp2 (s c - m' (π c)))
    (ha' : ∀ d, a' d = a d * Ideal.exp2 (m d - m' d) + ∑ c, Ideal.exp2 (s c - m' (π c)) * v c d) :
    RowOK S V t (n + 1024) m' l' a' := by
  obtain ⟨μ, hμ⟩ := fold_max_real s 0 (by rw [hs, if_pos (by simpa using hn)]; exact EReal.coe_ne_bot _)
    (fun c => by rw [hs]; split; exacts [EReal.coe_ne_top _, bot_ne_top])
  right
  -- the renewed maximum is one real number on every lane, and the shrinking factor is what rescales the old sums
  have key : ∃ M' : ℝ, (∀ d, m' d = (M' : EReal)) ∧
      ∀ d, Ideal.exp2 (m d - m' d) * l d = ((∑ c ∈ Finset.range n, wt S t M' c : ℝ) : EReal)
        ∧ a d * Ideal.exp2 (m d - m' d) = ((∑ c ∈ Finset.range n, wt S t M' c * V c d : ℝ) : EReal) := by
    rcases h with ⟨rfl, h⟩ | ⟨M, h⟩
    · refine ⟨μ, fun d => by rw [hm', (h d).1, hμ]; simp, fun d => ?_⟩
      rw [(h d).2.1, (h d).2.2]; simp
    · refine ⟨max M μ, fun d => by rw [hm', (h d).1, hμ]; exact (EReal.coe_strictMono.monotone.map_max).symm, fun d => ?_⟩
      have e : m' d = ((max M μ : ℝ) : EReal) := by rw [hm', (h d).1, hμ]; exact (EReal.coe_strictMono.monotone.map_max).symm
      rw [e, (h d).1, (h d).2.1, (h d).2.2, exp2_sub_real, ← EReal.coe_mul, ← EReal.coe_mul, Finset.mul_sum, Finset.sum_mul]
      constructor
      · congr 1; exact Finset.sum_congr rfl fun c _ => (wt_rescale S t M _ c).symm
      · congr 1; exact Finset.sum_congr rfl fun c _ => by rw [wt_rescale S t M (max M μ) c]; ring
  obtain ⟨M', hM', hk⟩ := key
  have hw : ∀ c : Fin 1024, Ideal.exp2 (s c - m' (π c)) = (wt S t M' (n + c.val) : EReal) := fun c => by
    rw [hM', hs]; unfold wt
    split
    · exact exp2_sub_real _ _
    · rw [exp2_bot_sub]; simp
  refine ⟨M', fun d => ⟨hM' d, ?_, ?_⟩⟩
  · rw [hl', (hk d).1, Finset.sum_range_add, EReal.coe_add]
    congr 1
    rw [Finset.sum_range, coe_sum]
    exact Finset.sum_congr rfl fun c _ => hw c
  · rw [ha', (hk d).2, Finset.sum_range_add, EReal.coe_add]
    congr 1
    rw [Finset.sum_range, coe_sum]
    exact Finset.sum_congr rfl fun c _ => by rw [hw, hv, EReal.coe_mul]

/-- The softmax average of `V` over the keys up to `t`, at logits `T`. -/
def avg (N : ℕ) (T : ℕ → ℝ) (V : ℕ → ℝ) (t : ℕ) : ℝ :=
  (∑ c ∈ Finset.range N, if c ≤ t then Real.exp (T c) * V c else 0) / ∑ c ∈ Finset.range N, if c ≤ t then Real.exp (T c) else 0

theorem den_pos (N : ℕ) (T : ℕ → ℝ) (t : ℕ) (ht : t < N) : 0 < ∑ c ∈ Finset.range N, if c ≤ t then Real.exp (T c) else 0 := by
  refine Finset.sum_pos' (fun c _ => ?_) ⟨t, Finset.mem_range.2 ht, ?_⟩
  · split; exacts [(Real.exp_pos _).le, le_rfl]
  · rw [if_pos le_rfl]; exact Real.exp_pos _

/-- A sum over the keys up to `t` does not see how far past `t` it runs. -/
theorem sum_past {N n t : ℕ} (f : ℕ → ℝ) (hN : t < N) (hn : t < n) :
    (∑ c ∈ Finset.range n, if c ≤ t then f c else 0) = ∑ c ∈ Finset.range N, if c ≤ t then f c else 0 := by
  rw [← Finset.sum_filter, ← Finset.sum_filter]
  refine Finset.sum_congr (Finset.ext fun c => ?_) fun _ _ => rfl
  simp only [Finset.mem_filter, Finset.mem_range]; omega

/-- Dividing the numerator by the denominator, whatever the reference point, is the softmax average. -/
theorem RowOK.quotient {T : ℕ → ℝ} {V : ℕ → Fin 128 → ℝ} {t n : ℕ} {m l a : Fin 128 → EReal} (N : ℕ)
    (h : RowOK (fun c => T c * (Real.log 2)⁻¹) V t n m l a) (hn : t < n) (hN : t < N) (d : Fin 128) :
    Ideal.div (a d) (l d) = (avg N T (fun c => V c d) t : EReal) := by
  rcases h with ⟨rfl, _⟩ | ⟨M, h⟩
  · omega
  have hw : ∀ c, wt (fun c => T c * (Real.log 2)⁻¹) t M c = Real.exp (-(M * Real.log 2)) * (if c ≤ t then Real.exp (T c) else 0) := fun c => by
    unfold wt
    split
    · rw [Real.rpow_def_of_pos two_pos, ← Real.exp_add]; congr 1
      have : Real.log 2 ≠ 0 := (Real.log_pos one_lt_two).ne'
      field_simp; ring
    · simp
  have hl : (∑ c ∈ Finset.range n, wt (fun c => T c * (Real.log 2)⁻¹) t M c)
      = Real.exp (-(M * Real.log 2)) * ∑ c ∈ Finset.range N, if c ≤ t then Real.exp (T c) else 0 := by
    rw [← sum_past (fun c => Real.exp (T c)) hN hn, Finset.mul_sum]; exact Finset.sum_congr rfl fun c _ => hw c
  have ha : (∑ c ∈ Finset.range n, wt (fun c => T c * (Real.log 2)⁻¹) t M c * V c d)
      = Real.exp (-(M * Real.log 2)) * ∑ c ∈ Finset.range N, if c ≤ t then Real.exp (T c) * V c d else 0 := by
    rw [← sum_past (fun c => Real.exp (T c) * V c d) hN hn, Finset.mul_sum]
    exact Finset.sum_congr rfl fun c _ => by rw [hw c]; split <;> ring
  have hpos := den_pos N T t hN
  have he := Real.exp_pos (-(M * Real.log 2))
  rw [(h d).2.1, (h d).2.2, hl, ha]
  unfold Ideal.div avg
  rw [if_neg (by rw [EReal.coe_eq_zero]; exact (mul_pos he hpos).ne'), ← EReal.coe_inv, ← EReal.coe_mul, ← div_eq_mul_inv,
    mul_div_mul_left _ _ he.ne']

end Cert.Online

end
-- ==== Proof.HeadIdeal.lean ====
/- A head's step over the extended reals, row by row.

   The step's blocks are read at an index, and a row of the step is then one chunk of the online softmax
   (`Cert.Online.RowOK.step`). -/
module

public import proofs.«01_k».proof.Proof.HeadStep
public import proofs.«01_k».proof.Proof.OnlineRow
public import Idealize.ShloMosaic.Lib.WordCmp

@[expose] public section

set_option maxRecDepth 16384

noncomputable section

namespace Cert.KernelIdeal.Head

open Idealize.ShloMosaic Idealize.SL.Sem Cert.Online
open Cert.KernelIdeal Cert.KernelIdeal.Gen

/-- The named scale is `1 / (ln 2 · √64)`. -/
theorem q_scale_eq : (Named.named κ "q_scale" 0x3E38AA3B#32 : Ideal .f32) = (((Real.log 2)⁻¹ * (Real.sqrt 64)⁻¹ : ℝ) : EReal) := by
  rfl

/-- The named mask is `-∞`. -/
theorem mask_eq : (Named.named κ "mask" 0xF149F2CA#32 : Ideal .f32) = (⊥ : EReal) := by
  rfl

theorem neg_inf : Ideal.ofBits .f32 4286578688#32 = (⊥ : EReal) := by
  rfl

theorem sqrt_64 : Real.sqrt 64 = 8 := by
  rw [show (64 : ℝ) = 8 ^ 2 by norm_num]; exact Real.sqrt_sq (by norm_num)

theorem lo_apply (r : Fin 512) (d : Fin 128) : lo (ix2 r d) = if d.val < 64 then 1#1 else 0#1 := by
  have hd := d.isLt
  pointwise [lo]
  rw [show (64#32 : BitVec 32) = BitVec.ofNat 32 64 from rfl, WordCmp.cmpi_slt_ofNat (by omega) (by omega)]
  split <;> rename_i h <;> simp [h]

theorem causal_apply (i j : ℕ) (hi : i < 32) (hj : j < 16) (r : Fin 512) (c : Fin 1024) :
    causal (BitVec.ofNat 32 i) (BitVec.ofNat 32 j) (ix2 r c) = if 1024 * j + c.val ≤ 512 * i + r.val then 1#1 else 0#1 := by
  have hr := r.isLt
  have hc := c.isLt
  have e1 : IntOp.addi (Scalar.muli (BitVec.ofNat 32 j) 1024#32) (BitVec.ofNat 32 c.val) = BitVec.ofNat 32 (1024 * j + c.val) := by
    show BitVec.ofNat 32 j * BitVec.ofNat 32 1024 + BitVec.ofNat 32 c.val = _
    rw [← BitVec.ofNat_mul, ← BitVec.ofNat_add, Nat.mul_comm]
  have e2 : IntOp.addi (Scalar.muli (BitVec.ofNat 32 i) 512#32) (BitVec.ofNat 32 r.val) = BitVec.ofNat 32 (512 * i + r.val) := by
    show BitVec.ofNat 32 i * BitVec.ofNat 32 512 + BitVec.ofNat 32 r.val = _
    rw [← BitVec.ofNat_mul, ← BitVec.ofNat_add, Nat.mul_comm]
  pointwise [causal]
  rw [e1, e2, WordCmp.cmpi_sle_ofNat (by omega) (by omega)]
  split <;> rename_i h <;> simp [h]

/-- One lane's product, where the lane is the map's and where it is not. -/
theorem lane_on (a s k : ℝ) : ((a : EReal) * (s : EReal)) * (k : EReal) = ((a * k * s : ℝ) : EReal) := by
  rw [← EReal.coe_mul, ← EReal.coe_mul]; congr 1; ring
theorem lane_off (z : EReal) (hz : z = 0) (s k : ℝ) : z * (k : EReal) = ((0 * s : ℝ) : EReal) := by
  rw [hz]; simp

/-- The logit of query `t` and key `c` under map `e`: the 64 lanes of the map, over the root of 64. -/
def logit (e : Bool) (Q K : ℕ → Fin 128 → ℝ) (t c : ℕ) : ℝ :=
  (∑ d : Fin 64, Q t ⟨64 * e.toNat + d.val, by have := d.isLt; cases e <;> simp <;> omega⟩
    * K c ⟨64 * e.toNat + d.val, by have := d.isLt; cases e <;> simp <;> omega⟩) * (1 / 8)

theorem sum_halves (f : Fin 128 → ℝ) (e : Bool) :
    (∑ x : Fin 128, if (decide (x.val < 64)) = !e then f x else 0)
      = ∑ d : Fin 64, f ⟨64 * e.toNat + d.val, by have := d.isLt; cases e <;> simp <;> omega⟩ := by
  rw [show (∑ x : Fin 128, if (decide (x.val < 64)) = !e then f x else 0)
    = (∑ d : Fin 64, if (decide ((Fin.castAdd 64 d).val < 64)) = !e then f (Fin.castAdd 64 d) else 0)
      + ∑ d : Fin 64, if (decide ((Fin.natAdd 64 d).val < 64)) = !e then f (Fin.natAdd 64 d) else 0
    from Fin.sum_univ_add (a := 64) (b := 64) fun x : Fin 128 => if (decide (x.val < 64)) = !e then f x else 0]
  cases e
  · simp [Fin.castAdd, Fin.castLE]
  · simp [Fin.natAdd]

theorem score_apply (e : Bool) (q : FVec Ideal S512x128 .f32) (k : FVec Ideal S1024x128 .bf16) (Q K : ℕ → Fin 128 → ℝ) (t₀ n : ℕ)
    (hq : ∀ r d, q (ix2 r d) = (Q (t₀ + r.val) d : EReal)) (hk : ∀ c d, k (ix2 c d) = (K (n + c.val) d : EReal))
    (r : Fin 512) (c : Fin 1024) :
    score (F := Ideal) e q k (ix2 r c) = ((logit e Q K (t₀ + r.val) (n + c.val) * (Real.log 2)⁻¹ : ℝ) : EReal) := by
  have key : ∀ f : Fin 128 → EReal, (∀ x, f x = (((if (decide (x.val < 64)) = !e then Q (t₀ + r.val) x * K (n + c.val) x else 0)
        * ((Real.log 2)⁻¹ * 8⁻¹) : ℝ) : EReal)) →
      ∑ x, f x = ((logit e Q K (t₀ + r.val) (n + c.val) * (Real.log 2)⁻¹ : ℝ) : EReal) := fun f hf => by
    rw [Finset.sum_congr rfl fun x _ => hf x, ← coe_sum, ← Finset.sum_mul, sum_halves]
    congr 1; unfold logit; ring
  cases e
  · pointwise [score, half, scaled]
    refine key _ fun x => ?_
    rw [lo_apply, q_scale_eq, hq, hk, sqrt_64]
    by_cases hx : x.val < 64
    · rw [if_pos hx, WordCmp.select_one]
      simpa [hx] using lane_on (Q (t₀ + r.val) x) ((Real.log 2)⁻¹ * 8⁻¹) (K (n + c.val) x)
    · rw [if_neg hx, WordCmp.select_zero]
      simpa [hx] using lane_off _ rfl ((Real.log 2)⁻¹ * 8⁻¹) (K (n + c.val) x)
  · pointwise [score, half, scaled]
    refine key _ fun x => ?_
    rw [lo_apply, q_scale_eq, hq, hk, sqrt_64]
    by_cases hx : x.val < 64
    · rw [if_pos hx, WordCmp.select_one]
      simpa [hx] using lane_off _ rfl ((Real.log 2)⁻¹ * 8⁻¹) (K (n + c.val) x)
    · rw [if_neg hx, WordCmp.select_zero]
      simpa [hx] using lane_on (Q (t₀ + r.val) x) ((Real.log 2)⁻¹ * 8⁻¹) (K (n + c.val) x)

theorem scored_apply (msk : Option (IVec S512x1024 1)) (e : Bool) (q : FVec Ideal S512x128 .f32) (k : FVec Ideal S1024x128 .bf16)
    (Q K : ℕ → Fin 128 → ℝ) (i j : ℕ) (hi : i < 32) (hj : j < 16)
    (hmsk : (msk = none ∧ 2 * j + 2 ≤ i) ∨ msk = some (causal (BitVec.ofNat 32 i) (BitVec.ofNat 32 j)))
    (hq : ∀ r d, q (ix2 r d) = (Q (512 * i + r.val) d : EReal)) (hk : ∀ c d, k (ix2 c d) = (K (1024 * j + c.val) d : EReal))
    (r : Fin 512) (c : Fin 1024) :
    scored (F := Ideal) msk e q k (ix2 r c) = if 1024 * j + c.val ≤ 512 * i + r.val
      then ((logit e Q K (512 * i + r.val) (1024 * j + c.val) * (Real.log 2)⁻¹ : ℝ) : EReal) else ⊥ := by
  rcases hmsk with ⟨rfl, hj⟩ | rfl
  · rw [if_pos (by have := c.isLt; omega)]
    exact score_apply e q k Q K _ _ hq hk r c
  · have : scored (F := Ideal) (some (causal (BitVec.ofNat 32 i) (BitVec.ofNat 32 j))) e q k (ix2 r c)
      = Scalar.select (causal (BitVec.ofNat 32 i) (BitVec.ofNat 32 j) (ix2 r c)) (score (F := Ideal) e q k (ix2 r c)) (⊥ : EReal) := rfl
    rw [this, causal_apply i j hi hj, score_apply e q k Q K _ _ hq hk r c]
    split <;> rfl

theorem mNew_apply (s : FVec Ideal S512x1024 .f32) (m : FVec Ideal S1x512x128 .f32) (r : Fin 512) (d : Fin 128) :
    mNew (F := Ideal) s m (ix2 r d) = max (m (ix3 0 r d) : EReal) (Finset.fold max ⊥ (fun c : Fin 1024 => s (ix2 r c)) Finset.univ) := by
  pointwise [mNew]
  rw [neg_inf]

theorem alpha_apply (s : FVec Ideal S512x1024 .f32) (m : FVec Ideal S1x512x128 .f32) (r : Fin 512) (d : Fin 128) :
    alpha (F := Ideal) s m (ix2 r d) = Ideal.exp2 ((m (ix3 0 r d) : EReal) - mNew (F := Ideal) s m (ix2 r d)) := by
  pointwise [alpha]
  rfl

/-- The lane of the running maximum that key `c` of a chunk is compared with. -/
def lane (c : Fin 1024) : Fin 128 := ⟨c.val % 128, Nat.mod_lt _ (by decide)⟩

theorem wts_apply (s : FVec Ideal S512x1024 .f32) (m : FVec Ideal S1x512x128 .f32) (r : Fin 512) (c : Fin 1024) :
    wts (F := Ideal) s m (ix2 r c) = Ideal.exp2 ((s (ix2 r c) : EReal) - mNew (F := Ideal) s m (ix2 r (lane c))) := by
  pointwise [wts]
  have hc := c.isLt
  have e : ∀ x, x < 128 → (c.val - x) % 128 = c.val % 128 → True := fun _ _ _ => trivial
  have key : ∀ (n : ℕ) (h : n < 128), n % 128 = c.val % 128 → (⟨n, h⟩ : Fin 128) = lane c := fun n h hn =>
    Fin.ext (by show n = c.val % 128; rw [← hn, Nat.mod_eq_of_lt h])
  split_ifs <;> (rw [key _ _ (by omega)]; rfl)

theorem lNew_apply (s : FVec Ideal S512x1024 .f32) (m l : FVec Ideal S1x512x128 .f32) (r : Fin 512) (d : Fin 128) :
    lNew (F := Ideal) s m l (ix2 r d) = (alpha (F := Ideal) s m (ix2 r d) * l (ix3 0 r d) : EReal)
      + ∑ c : Fin 1024, (wts (F := Ideal) s m (ix2 r c) : EReal) := by
  pointwise [lNew]

theorem aNew_apply (s : FVec Ideal S512x1024 .f32) (v : FVec Ideal S1024x128 .bf16) (m a : FVec Ideal S1x512x128 .f32) (r : Fin 512) (d : Fin 128) :
    aNew (F := Ideal) s v m a (ix2 r d) = ((a (ix3 0 r d) : EReal) * alpha (F := Ideal) s m (ix2 r d) : EReal)
      + ∑ c : Fin 1024, (wts (F := Ideal) s m (ix2 r c) * v (ix2 c d) : EReal) := by
  pointwise [aNew]

theorem lift_apply (x : FVec Ideal S512x128 .f32) (r : Fin 512) (d : Fin 128) : lift (F := Ideal) x (ix3 0 r d) = x (ix2 r d) := by
  pointwise [lift]

theorem combine_apply (lam : Ideal .f32) (a0 l0 a1 l1 : FVec Ideal S1x512x128 .f32) (r : Fin 512) (d : Fin 128) :
    combine (F := Ideal) lam a0 l0 a1 l1 (ix2 r d) = Ideal.div (a0 (ix3 0 r d)) (l0 (ix3 0 r d))
      - (lam : EReal) * Ideal.div (a1 (ix3 0 r d)) (l1 (ix3 0 r d)) := by
  pointwise [combine]

/-- Head `(Q, K, V, e)` of query tile `i` after its first `n` keys, on every row. -/
def HeadOK (e : Bool) (Q K V : ℕ → Fin 128 → ℝ) (i n : ℕ) (m l a : FVec Ideal S1x512x128 .f32) : Prop :=
  ∀ r : Fin 512, RowOK (fun c => logit e Q K (512 * i + r.val) c * (Real.log 2)⁻¹) V (512 * i + r.val) n
    (fun d => m (ix3 0 r d)) (fun d => l (ix3 0 r d)) (fun d => a (ix3 0 r d))

/-- A head's step, on every row: the first `1024 j` keys become the first `1024 (j + 1)`. -/
theorem HeadOK.step (msk : Option (IVec S512x1024 1)) (e : Bool) (q : FVec Ideal S512x128 .f32) (k v : FVec Ideal S1024x128 .bf16)
    (Q K V : ℕ → Fin 128 → ℝ) (i j : ℕ) (hi : i < 32) (hj : j < 16) (hij : 2 * j ≤ i)
    (hmsk : (msk = none ∧ 2 * j + 2 ≤ i) ∨ msk = some (causal (BitVec.ofNat 32 i) (BitVec.ofNat 32 j)))
    (hq : ∀ r d, q (ix2 r d) = (Q (512 * i + r.val) d : EReal)) (hk : ∀ c d, k (ix2 c d) = (K (1024 * j + c.val) d : EReal))
    (hv : ∀ c d, v (ix2 c d) = (V (1024 * j + c.val) d : EReal))
    (m l a : FVec Ideal S1x512x128 .f32) (h : HeadOK e Q K V i (1024 * j) m l a) :
    HeadOK e Q K V i (1024 * (j + 1)) (lift (F := Ideal) (mNew (F := Ideal) (scored (F := Ideal) msk e q k) m))
      (lift (F := Ideal) (lNew (F := Ideal) (scored (F := Ideal) msk e q k) m l))
      (lift (F := Ideal) (aNew (F := Ideal) (scored (F := Ideal) msk e q k) v m a)) := fun r => by
  refine (h r).step (by omega) (fun c => scored (F := Ideal) msk e q k (ix2 r c))
    (fun c => scored_apply msk e q k Q K i j hi hj hmsk hq hk r c) (fun c d => v (ix2 c d)) hv lane _ _ _ (fun d => ?_) (fun d => ?_) fun d => ?_
  · rw [lift_apply, mNew_apply]
  · simp only [lift_apply, lNew_apply, alpha_apply, wts_apply]
  · simp only [lift_apply, aNew_apply, alpha_apply, wts_apply]

end Cert.KernelIdeal.Head

end
-- ==== Proof.Inputs.lean ====
/- The blocks of the launch at an index, as real numbers, and the array the launch is to leave. -/
module

public import proofs.«01_k».proof.Proof.Blocks
public import proofs.«01_k».proof.Proof.HeadIdeal
public import Idealize.ShloMosaic.Lib.Pipeline.ValueKit

@[expose] public section

set_option maxRecDepth 16384

noncomputable section

namespace Cert.KernelIdeal.Head

open Idealize.ShloMosaic Idealize.ShloMosaic.TcCoe Idealize.SL.Sem Cert.Online
open Cert.KernelIdeal Cert.KernelIdeal.Gen

/-- An extended real that is a real number. -/
def IsReal (z : EReal) : Prop := z ≠ ⊤ ∧ z ≠ ⊥

theorem IsReal.coe {z : EReal} (h : IsReal z) : z = (z.toReal : EReal) := (EReal.coe_toReal h.1 h.2).symm

/-- Every number of the arguments is real. -/
structure Finite (x0 x1 x2 : S16384x1024.Idx → EReal) (x3 : S1x1.Idx → EReal) : Prop where
  q : ∀ y, IsReal (x0 y)
  k : ∀ y, IsReal (x1 y)
  v : ∀ y, IsReal (x2 y)
  lam : ∀ y, IsReal (x3 y)

/-- Row `t`, column `d` of pair `p`. -/
def cell (x : S16384x1024.Idx → EReal) (p t : ℕ) (d : Fin 128) : ℝ :=
  (x (ix2 (Fin.ofNat 16384 t) (Fin.ofNat 1024 (128 * p + d.val)))).toReal

/-- Map `e` of pair `p`: the softmax average of the values at query `t`. -/
def attend (x0 x1 x2 : S16384x1024.Idx → EReal) (p : ℕ) (e : Bool) (t : ℕ) (d : Fin 128) : ℝ :=
  avg 16384 (logit e (cell x0 p) (cell x1 p) t) (fun c => cell x2 p c d) t

/-- The factor. -/
def factor (x3 : S1x1.Idx → EReal) : ℝ := (x3 (ix2 (0 : Fin 1) (0 : Fin 1))).toReal

/-- The result at row `t`, column `k`. -/
def resAt (x0 x1 x2 : S16384x1024.Idx → EReal) (x3 : S1x1.Idx → EReal) (t k : ℕ) : EReal :=
  ((attend x0 x1 x2 (k / 128) false t (Fin.ofNat 128 k) - factor x3 * attend x0 x1 x2 (k / 128) true t (Fin.ofNat 128 k) : ℝ) : EReal)

theorem qCol_apply (x : Vec Ideal S512x1024 .f32) (h : ℕ) (hh : h < 16) (r : Fin 512) (d : Fin 128) :
    qCol (F := Ideal) x h hh (ix2 r d) = x (ix2 r (Fin.ofNat 1024 (128 * (h / 2) + d.val))) := by
  have hd := d.isLt
  exact congrArg x (funext fun a => Fin.ext (match a with
    | ⟨0, _⟩ => (by omega : 0 + 1 * r.val = r.val)
    | ⟨1, _⟩ => (by omega : 128 * (h / 2) + 1 * d.val = (128 * (h / 2) + d.val) % 1024)))

theorem kCol_apply (x : Vec Ideal S1024x1024 .bf16) (h : ℕ) (hh : h < 16) (r : Fin 1024) (d : Fin 128) :
    kCol (F := Ideal) x h hh (ix2 r d) = x (ix2 r (Fin.ofNat 1024 (128 * (h / 2) + d.val))) := by
  have hd := d.isLt
  exact congrArg x (funext fun a => Fin.ext (match a with
    | ⟨0, _⟩ => (by omega : 0 + 1 * r.val = r.val)
    | ⟨1, _⟩ => (by omega : 128 * (h / 2) + 1 * d.val = (128 * (h / 2) + d.val) % 1024)))

theorem index_0 : ∀ t : Fin cfg0.N, win0_0.index t = ![t.val / 16, 0] :=
  (by decide +kernel : ∀ t : Fin grid0.N, win0_0.index t = ![t.val / 16, 0])
theorem index_1 : ∀ t : Fin cfg0.N, win0_1.index t = ![min (t.val % 16) (t.val / 32), 0] :=
  (by decide +kernel : ∀ t : Fin grid0.N, win0_1.index t = ![min (t.val % 16) (t.val / 32), 0])
theorem index_2 : ∀ t : Fin cfg0.N, win0_2.index t = ![min (t.val % 16) (t.val / 32), 0] :=
  (by decide +kernel : ∀ t : Fin grid0.N, win0_2.index t = ![min (t.val % 16) (t.val / 32), 0])
theorem index_3 : ∀ t : Fin cfg0.N, win0_3.index t = ![0, 0] :=
  (by decide +kernel : ∀ t : Fin grid0.N, win0_3.index t = ![0, 0])
theorem index_4 : ∀ t : Fin cfg0.N, win0_4.index t = ![t.val / 16, 0] :=
  (by decide +kernel : ∀ t : Fin grid0.N, win0_4.index t = ![t.val / 16, 0])
theorem coords_0 : ∀ t : Fin cfg0.N, (grid0.coords t 0).val = t.val / 16 :=
  (by decide +kernel : ∀ t : Fin grid0.N, (grid0.coords t 0).val = t.val / 16)
theorem coords_1 : ∀ t : Fin cfg0.N, (grid0.coords t 1).val = t.val % 16 :=
  (by decide +kernel : ∀ t : Fin grid0.N, (grid0.coords t 1).val = t.val % 16)

variable (m : (ℓ : Loc nD τ sig) → Buf (Elt Ideal) ℓ)

/-- The four arguments. -/
abbrev argQ (c : Dev nD) : S16384x1024.Idx → EReal := m ((c : Thread nD τ).loc main_arg0)
abbrev argK (c : Dev nD) : S16384x1024.Idx → EReal := m ((c : Thread nD τ).loc main_arg1)
abbrev argV (c : Dev nD) : S16384x1024.Idx → EReal := m ((c : Thread nD τ).loc main_arg2)
abbrev argL (c : Dev nD) : S1x1.Idx → EReal := m ((c : Thread nD τ).loc main_arg3)

theorem blk_0 (c : Dev nD) (t : Fin cfg0.N) (r : Fin 512) (k : Fin 1024) :
    iblk m c 0 t (ix2 r k) = argQ m c (ix2 (Fin.ofNat 16384 (512 * (t.val / 16) + r.val)) k) := by
  have hN : t.val < 512 := lt_of_lt_of_eq t.isLt (show cfg0.N = 512 from N_0)
  have hr := r.isLt
  refine congrArg (argQ m c) (funext fun a => Fin.ext ?_)
  match a with
  | ⟨0, _⟩ =>
    have e : win0_0.index t 0 = t.val / 16 := by rw [index_0]; rfl
    exact (by rw [e]; omega : win0_0.index t 0 * 512 + 1 * r.val = (512 * (t.val / 16) + r.val) % 16384)
  | ⟨1, _⟩ =>
    have e : win0_0.index t 1 = 0 := by rw [index_0]; rfl
    exact (by rw [e]; omega : win0_0.index t 1 * 1024 + 1 * k.val = k.val)

theorem blk_1 (c : Dev nD) (t : Fin cfg0.N) (h : 2 * (t.val % 16) ≤ t.val / 16) (r k : Fin 1024) :
    iblk m c 1 t (ix2 r k) = argK m c (ix2 (Fin.ofNat 16384 (1024 * (t.val % 16) + r.val)) k) := by
  have hr := r.isLt
  refine congrArg (argK m c) (funext fun a => Fin.ext ?_)
  match a with
  | ⟨0, _⟩ =>
    have e : win0_1.index t 0 = t.val % 16 := by rw [index_1]; exact Nat.min_eq_left (by omega)
    exact (by rw [e]; omega : win0_1.index t 0 * 1024 + 1 * r.val = (1024 * (t.val % 16) + r.val) % 16384)
  | ⟨1, _⟩ =>
    have e : win0_1.index t 1 = 0 := by rw [index_1]; rfl
    exact (by rw [e]; omega : win0_1.index t 1 * 1024 + 1 * k.val = k.val)

theorem blk_2 (c : Dev nD) (t : Fin cfg0.N) (h : 2 * (t.val % 16) ≤ t.val / 16) (r k : Fin 1024) :
    iblk m c 2 t (ix2 r k) = argV m c (ix2 (Fin.ofNat 16384 (1024 * (t.val % 16) + r.val)) k) := by
  have hr := r.isLt
  refine congrArg (argV m c) (funext fun a => Fin.ext ?_)
  match a with
  | ⟨0, _⟩ =>
    have e : win0_2.index t 0 = t.val % 16 := by rw [index_2]; exact Nat.min_eq_left (by omega)
    exact (by rw [e]; omega : win0_2.index t 0 * 1024 + 1 * r.val = (1024 * (t.val % 16) + r.val) % 16384)
  | ⟨1, _⟩ =>
    have e : win0_2.index t 1 = 0 := by rw [index_2]; rfl
    exact (by rw [e]; omega : win0_2.index t 1 * 1024 + 1 * k.val = k.val)

variable {m} {c : Dev nD} (hf : Finite (argQ m c) (argK m c) (argV m c) (argL m c))
include hf

theorem q_real (t : Fin cfg0.N) (h : ℕ) (hh : h < 16) (r : Fin 512) (d : Fin 128) :
    qCol (F := Ideal) (iblk m c 0 t) h hh (ix2 r d) = (cell (argQ m c) (h / 2) (512 * (t.val / 16) + r.val) d : EReal) := by
  rw [qCol_apply, blk_0]; exact (hf.q _).coe

theorem k_real (t : Fin cfg0.N) (ht : 2 * (t.val % 16) ≤ t.val / 16) (h : ℕ) (hh : h < 16) (r : Fin 1024) (d : Fin 128) :
    kCol (F := Ideal) (iblk m c 1 t) h hh (ix2 r d) = (cell (argK m c) (h / 2) (1024 * (t.val % 16) + r.val) d : EReal) := by
  rw [kCol_apply, blk_1 m c t ht]; exact (hf.k _).coe

theorem v_real (t : Fin cfg0.N) (ht : 2 * (t.val % 16) ≤ t.val / 16) (h : ℕ) (hh : h < 16) (r : Fin 1024) (d : Fin 128) :
    kCol (F := Ideal) (iblk m c 2 t) h hh (ix2 r d) = (cell (argV m c) (h / 2) (1024 * (t.val % 16) + r.val) d : EReal) := by
  rw [kCol_apply, blk_2 m c t ht]; exact (hf.v _).coe

theorem lam_real (t : Fin cfg0.N) : lamOf (F := Ideal) (iblk m c 3 t) = (factor (argL m c) : EReal) := by
  have e : lamOf (F := Ideal) (iblk m c 3 t) = argL m c (ix2 (0 : Fin 1) (0 : Fin 1)) :=
    congrArg (argL m c) (funext fun a => match a with
      | ⟨0, _⟩ => Subsingleton.elim (α := Fin 1) _ _
      | ⟨1, _⟩ => Subsingleton.elim (α := Fin 1) _ _)
  rw [e]; exact (hf.lam _).coe

end Cert.KernelIdeal.Head

end
-- ==== Proof.RunStart.lean ====
/- The body at a first chunk that meets the diagonal. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem run_A (i : grid0.Coords) (hi : conds0_A i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      d4 (arr (mP (diag i) x0 x1 (headOf k0_pay2))) (arr (lP (diag i) x0 x1 (headOf k0_pay2) (headOf k0_pay3))) (arr (aP (diag i) x0 x1 x2 (headOf k0_pay2) (headOf k0_pay4))) := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H7]
  · iexists _; isplitr
    swap; · iexact H7
    ipureintro; refine (read_chain_all arg7.view k0_pay2 (fun h hh x => lift (mNew (scoreP (diag i) (arg2.view.read (Elt F) f0) (arg3.view.read (Elt F) f1) h hh) x)) _).trans ?_; rfl
  isplitl [H8]
  · iexists _; isplitr
    swap; · iexact H8
    ipureintro; refine (read_chain_all arg8.view k0_pay3 (fun h hh x => lift (lNew (scoreP (diag i) (arg2.view.read (Elt F) f0) (arg3.view.read (Elt F) f1) h hh) (arg7.view.readCov (chain arg7.view k0_pay2 (fun h hh x => lift (mNew (scoreP (diag i) (arg2.view.read (Elt F) f0) (arg3.view.read (Elt F) f1) h hh) x)) h (Nat.le_of_lt hh)) (Rect.unit (s := S16x512x128) ![h, 0, 0] S1x512x128.size (inb_s h hh)).toLoadRect) x)) _).trans ?_; exact congrArg arr (funext fun h => funext fun hh => congrArg (fun x => lift (lNew (scoreP (diag i) (arg2.view.read (Elt F) f0) (arg3.view.read (Elt F) f1) h hh) x (headOf k0_pay3 h hh))) (read_chain arg7.view k0_pay2 (fun h hh x => lift (mNew (scoreP (diag i) (arg2.view.read (Elt F) f0) (arg3.view.read (Elt F) f1) h hh) x)) h hh))
  iexists _; isplitr
  swap; · iexact H9
  ipureintro; refine (read_chain_all arg9.view k0_pay4 (fun h hh x => lift (aNew (scoreP (diag i) (arg2.view.read (Elt F) f0) (arg3.view.read (Elt F) f1) h hh) (kCol (arg4.view.read (Elt F) f2) h hh) (arg7.view.readCov (chain arg7.view k0_pay2 (fun h hh x => lift (mNew (scoreP (diag i) (arg2.view.read (Elt F) f0) (arg3.view.read (Elt F) f1) h hh) x)) h (Nat.le_of_lt hh)) (Rect.unit (s := S16x512x128) ![h, 0, 0] S1x512x128.size (inb_s h hh)).toLoadRect) x)) _).trans ?_; exact congrArg arr (funext fun h => funext fun hh => congrArg (fun x => lift (aNew (scoreP (diag i) (arg2.view.read (Elt F) f0) (arg3.view.read (Elt F) f1) h hh) (kCol (arg4.view.read (Elt F) f2) h hh) x (headOf k0_pay4 h hh))) (read_chain arg7.view k0_pay2 (fun h hh x => lift (mNew (scoreP (diag i) (arg2.view.read (Elt F) f0) (arg3.view.read (Elt F) f1) h hh) x)) h hh))

end Cert.KernelIdeal.Head

end
-- ==== Proof.RunIdle.lean ====
/- The body where a chunk lies wholly above the diagonal. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem run_B (i : grid0.Coords) (hi : conds0_B i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      d4 d7 d8 d9 := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H7]
  · iexists _; isplitr
    swap; · iexact H7
    ipureintro; rfl
  isplitl [H8]
  · iexists _; isplitr
    swap; · iexact H8
    ipureintro; rfl
  iexists _; isplitr
  swap; · iexact H9
  ipureintro; rfl

end Cert.KernelIdeal.Head

end
-- ==== Proof.RunLast.lean ====
/- The body where the last chunk lies above the diagonal: the quotients are stored. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem run_C (i : grid0.Coords) (hi : conds0_C i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      (outs (outP (lamOf x3) (headOf d8) (headOf d9))) d7 d8 d9 := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; exact read_groups _ _ (outP (lamOf (arg5.view.read (Elt F) f3)) (headOf (arg8.view.read (Elt F) f8)) (headOf (arg9.view.read (Elt F) f9)))
  isplitl [H7]
  · iexists _; isplitr
    swap; · iexact H7
    ipureintro; rfl
  isplitl [H8]
  · iexists _; isplitr
    swap; · iexact H8
    ipureintro; rfl
  iexists _; isplitr
  swap; · iexact H9
  ipureintro; rfl

end Cert.KernelIdeal.Head

end
-- ==== Proof.RunFirst.lean ====
/- The body at a first chunk wholly below the diagonal. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem run_D (i : grid0.Coords) (hi : conds0_D i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      d4 (arr (mP none x0 x1 (headOf k0_pay2))) (arr (lP none x0 x1 (headOf k0_pay2) (headOf k0_pay3))) (arr (aP none x0 x1 x2 (headOf k0_pay2) (headOf k0_pay4))) := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H7]
  · iexists _; isplitr
    swap; · iexact H7
    ipureintro; refine (read_chain_all arg7.view k0_pay2 (fun h hh x => lift (mNew (scoreP none (arg2.view.read (Elt F) f0) (arg3.view.read (Elt F) f1) h hh) x)) _).trans ?_; rfl
  isplitl [H8]
  · iexists _; isplitr
    swap; · iexact H8
    ipureintro; refine (read_chain_all arg8.view k0_pay3 (fun h hh x => lift (lNew (scoreP none (arg2.view.read (Elt F) f0) (arg3.view.read (Elt F) f1) h hh) (arg7.view.readCov (chain arg7.view k0_pay2 (fun h hh x => lift (mNew (scoreP none (arg2.view.read (Elt F) f0) (arg3.view.read (Elt F) f1) h hh) x)) h (Nat.le_of_lt hh)) (Rect.unit (s := S16x512x128) ![h, 0, 0] S1x512x128.size (inb_s h hh)).toLoadRect) x)) _).trans ?_; exact congrArg arr (funext fun h => funext fun hh => congrArg (fun x => lift (lNew (scoreP none (arg2.view.read (Elt F) f0) (arg3.view.read (Elt F) f1) h hh) x (headOf k0_pay3 h hh))) (read_chain arg7.view k0_pay2 (fun h hh x => lift (mNew (scoreP none (arg2.view.read (Elt F) f0) (arg3.view.read (Elt F) f1) h hh) x)) h hh))
  iexists _; isplitr
  swap; · iexact H9
  ipureintro; refine (read_chain_all arg9.view k0_pay4 (fun h hh x => lift (aNew (scoreP none (arg2.view.read (Elt F) f0) (arg3.view.read (Elt F) f1) h hh) (kCol (arg4.view.read (Elt F) f2) h hh) (arg7.view.readCov (chain arg7.view k0_pay2 (fun h hh x => lift (mNew (scoreP none (arg2.view.read (Elt F) f0) (arg3.view.read (Elt F) f1) h hh) x)) h (Nat.le_of_lt hh)) (Rect.unit (s := S16x512x128) ![h, 0, 0] S1x512x128.size (inb_s h hh)).toLoadRect) x)) _).trans ?_; exact congrArg arr (funext fun h => funext fun hh => congrArg (fun x => lift (aNew (scoreP none (arg2.view.read (Elt F) f0) (arg3.view.read (Elt F) f1) h hh) (kCol (arg4.view.read (Elt F) f2) h hh) x (headOf k0_pay4 h hh))) (read_chain arg7.view k0_pay2 (fun h hh x => lift (mNew (scoreP none (arg2.view.read (Elt F) f0) (arg3.view.read (Elt F) f1) h hh) x)) h hh))

end Cert.KernelIdeal.Head

end
-- ==== Proof.RunDiag.lean ====
/- The body where a chunk meets the diagonal. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem run_E (i : grid0.Coords) (hi : conds0_E i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      d4 (arr (mP (diag i) x0 x1 (headOf d7))) (arr (lP (diag i) x0 x1 (headOf d7) (headOf d8))) (arr (aP (diag i) x0 x1 x2 (headOf d7) (headOf d9))) := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H7]
  · iexists _; isplitr
    swap; · iexact H7
    ipureintro; exact read_slabs _ _ ((mP (diag i) (arg2.view.read (Elt F) f0) (arg3.view.read (Elt F) f1) (headOf (arg7.view.read (Elt F) f7)))) []
  isplitl [H8]
  · iexists _; isplitr
    swap; · iexact H8
    ipureintro; exact read_slabs _ _ ((lP (diag i) (arg2.view.read (Elt F) f0) (arg3.view.read (Elt F) f1) (headOf (arg7.view.read (Elt F) f7)) (headOf (arg8.view.read (Elt F) f8)))) []
  iexists _; isplitr
  swap; · iexact H9
  ipureintro; exact read_slabs _ _ ((aP (diag i) (arg2.view.read (Elt F) f0) (arg3.view.read (Elt F) f1) (arg4.view.read (Elt F) f2) (headOf (arg7.view.read (Elt F) f7)) (headOf (arg9.view.read (Elt F) f9)))) []

end Cert.KernelIdeal.Head

end
-- ==== Proof.RunFull.lean ====
/- The body where a chunk lies wholly below the diagonal. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem run_F (i : grid0.Coords) (hi : conds0_F i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      d4 (arr (mP none x0 x1 (headOf d7))) (arr (lP none x0 x1 (headOf d7) (headOf d8))) (arr (aP none x0 x1 x2 (headOf d7) (headOf d9))) := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H7]
  · iexists _; isplitr
    swap; · iexact H7
    ipureintro; exact read_slabs _ _ ((mP none (arg2.view.read (Elt F) f0) (arg3.view.read (Elt F) f1) (headOf (arg7.view.read (Elt F) f7)))) []
  isplitl [H8]
  · iexists _; isplitr
    swap; · iexact H8
    ipureintro; exact read_slabs _ _ ((lP none (arg2.view.read (Elt F) f0) (arg3.view.read (Elt F) f1) (headOf (arg7.view.read (Elt F) f7)) (headOf (arg8.view.read (Elt F) f8)))) []
  iexists _; isplitr
  swap; · iexact H9
  ipureintro; exact read_slabs _ _ ((aP none (arg2.view.read (Elt F) f0) (arg3.view.read (Elt F) f1) (arg4.view.read (Elt F) f2) (headOf (arg7.view.read (Elt F) f7)) (headOf (arg9.view.read (Elt F) f9)))) []

end Cert.KernelIdeal.Head

end
-- ==== Proof.RunEnd.lean ====
/- The body where the last chunk meets the diagonal: a step, then the quotients. -/
module

public import proofs.«01_k».proof.Proof.Blocks

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- A buffer's contents under a name of their own, with the equation that says what they are. -/
theorem named_contents (c : Dev nD) (arg : Memref sig .tc .vmem S16x512x128 .f32) (f : arg.view.ty.Contents (Elt F)) :
    iprop(View.loc (c : Thread nD τ) arg.view ↦[arg.view.set]{fullShare} f)
      ⊢ (iprop(∃ g, ⌜g = f⌝ ∗ (View.loc (c : Thread nD τ) arg.view ↦[arg.view.set]{fullShare} g)) : sProp 𝕄) := by
  iintro H
  iexists f; isplitr
  swap; · iexact H
  ipureintro; rfl

set_option maxHeartbeats 4000000 in
theorem run_G (i : grid0.Coords) (hi : conds0_G i) (x0 : Vec F S512x1024 .f32) (x1 x2 : Vec F S1024x1024 .bf16) (x3 : Vec F S1x1 .f32)
    (d4 : Vec F S512x1024 .f32) (d7 d8 d9 : Vec F S16x512x128 .f32) :
    Leaves i x0 x1 x2 x3 d4 d7 d8 d9
      (outs (outP (lamOf x3) (lP (diag i) x0 x1 (headOf d7) (headOf d8)) (aP (diag i) x0 x1 x2 (headOf d7) (headOf d9)))) (arr (mP (diag i) x0 x1 (headOf d7))) (arr (lP (diag i) x0 x1 (headOf d7) (headOf d8))) (arr (aP (diag i) x0 x1 x2 (headOf d7) (headOf d9))) := by
  intro c arg2 harg2 arg3 harg3 arg4 harg4 arg5 harg5 arg6 harg6 arg7 harg7 arg8 harg8 arg9 harg9 E K
  rw [cc0_flash_diff_eq_skeleton]; unfold cc0_flash_diff_skel
  rw [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  generalize hq : k0_part38 (F := F) = quotients
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := hf0; obtain rfl := hf1; obtain rfl := hf2; obtain rfl := hf3; obtain rfl := hf4; obtain rfl := hf7; obtain rfl := hf8; obtain rfl := hf9
  obtain ⟨hc0, hc1, hc2, hc3⟩ := hi
  sl_exec (disch := first | sl_exact hc0 | sl_exact hc1 | sl_exact hc2 | sl_exact hc3)
  ihave H7' := (named_contents c arg7 _) $$ H7
  ihave H8' := (named_contents c arg8 _) $$ H8
  ihave H9' := (named_contents c arg9 _) $$ H9
  icases H7' with ⟨%g7, %q7, H7⟩
  icases H8' with ⟨%g8, %q8, H8⟩
  icases H9' with ⟨%g9, %q9, H9⟩
  have e7 : arg7.view.read (Elt F) g7 = arr (mP (diag i) (arg2.view.read (Elt F) f0) (arg3.view.read (Elt F) f1) (headOf (arg7.view.read (Elt F) f7))) := by
    rw [q7]; exact read_slabs _ _ (mP (diag i) (arg2.view.read (Elt F) f0) (arg3.view.read (Elt F) f1) (headOf (arg7.view.read (Elt F) f7))) []
  have e8 : arg8.view.read (Elt F) g8 = arr (lP (diag i) (arg2.view.read (Elt F) f0) (arg3.view.read (Elt F) f1) (headOf (arg7.view.read (Elt F) f7)) (headOf (arg8.view.read (Elt F) f8))) := by
    rw [q8]; exact read_slabs _ _ (lP (diag i) (arg2.view.read (Elt F) f0) (arg3.view.read (Elt F) f1) (headOf (arg7.view.read (Elt F) f7)) (headOf (arg8.view.read (Elt F) f8))) []
  have e9 : arg9.view.read (Elt F) g9 = arr (aP (diag i) (arg2.view.read (Elt F) f0) (arg3.view.read (Elt F) f1) (arg4.view.read (Elt F) f2) (headOf (arg7.view.read (Elt F) f7)) (headOf (arg9.view.read (Elt F) f9))) := by
    rw [q9]; exact read_slabs _ _ (aP (diag i) (arg2.view.read (Elt F) f0) (arg3.view.read (Elt F) f1) (arg4.view.read (Elt F) f2) (headOf (arg7.view.read (Elt F) f7)) (headOf (arg9.view.read (Elt F) f9))) []
  clear q7 q8 q9
  subst hq
  rw [k0_part38_eq_skeleton, k0_part39_eq_skeleton, k0_part40_eq_skeleton, k0_part41_eq_skeleton]
  sl_exec
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; refine (read_groups _ _ (outP (lamOf (arg5.view.read (Elt F) f3)) (headOf (arg8.view.read (Elt F) g8)) (headOf (arg9.view.read (Elt F) g9)))).trans ?_; rw [e8, e9, headOf_arr, headOf_arr]
  isplitl [H7]
  · iexists _; isplitr
    swap; · iexact H7
    ipureintro; exact e7
  isplitl [H8]
  · iexists _; isplitr
    swap; · iexact H8
    ipureintro; exact e8
  iexists _; isplitr
  swap; · iexact H9
  ipureintro; exact e9

end Cert.KernelIdeal.Head

end
-- ==== Proof.Point.lean ====
/- A point of the launch: which of its seven cases it is, and what the scratches and the output then hold. -/
module

public import proofs.«01_k».proof.Proof.Inputs
public import proofs.«01_k».proof.Proof.RunStart
public import proofs.«01_k».proof.Proof.RunIdle
public import proofs.«01_k».proof.Proof.RunLast
public import proofs.«01_k».proof.Proof.RunFirst
public import proofs.«01_k».proof.Proof.RunDiag
public import proofs.«01_k».proof.Proof.RunFull
public import proofs.«01_k».proof.Proof.RunEnd

@[expose] public section

set_option maxRecDepth 16384

noncomputable section

namespace Cert.KernelIdeal.Head

open Idealize.ShloMosaic Idealize.ShloMosaic.TcCoe Idealize.SL.Sem Cert.Online
open Cert.KernelIdeal Cert.KernelIdeal.Gen

variable (m : (ℓ : Loc nD τ sig) → Buf (Elt Ideal) ℓ) (c : Dev nD)

/-- The sixteen heads of query tile `i` after its first `n` keys. -/
def Good (i n : ℕ) (d7 d8 d9 : Vec Ideal S16x512x128 .f32) : Prop := ∀ (h : ℕ) (hh : h < 16),
  HeadOK (isSnd h) (cell (argQ m c) (h / 2)) (cell (argK m c) (h / 2)) (cell (argV m c) (h / 2)) i n
    (headOf (F := Ideal) d7 h hh) (headOf (F := Ideal) d8 h hh) (headOf (F := Ideal) d9 h hh)

/-- What the scratches hold after point `t`: a tile's chunks past its last key add nothing. -/
def Inv (t : ℕ) (d7 d8 d9 : Vec Ideal S16x512x128 .f32) : Prop := Good m c (t / 16) (1024 * (min (t % 16) (t / 32) + 1)) d7 d8 d9

/-- The output's block at point `t`. -/
def outBlk (t : ℕ) : Vec Ideal S512x1024 .f32 := fun y =>
  resAt (argQ m c) (argK m c) (argV m c) (argL m c) (512 * (t / 16) + (y 0).val) (y 1).val

variable {m c}

theorem Good.start (i : ℕ) : Good m c i 0 (k0_pay2 (F := Ideal)) (k0_pay3 (F := Ideal)) (k0_pay4 (F := Ideal)) := fun h hh r =>
  RowOK.init _ _ _ _ _ _ fun d => ⟨mask_eq, (show Ideal.ofBits .f32 0#32 = 0 from Ideal.ofBits_zero .f32), (show Ideal.ofBits .f32 0#32 = 0 from Ideal.ofBits_zero .f32)⟩

theorem Inv.active {t : ℕ} {d7 d8 d9 : Vec Ideal S16x512x128 .f32} (h : t ≠ 0 → Inv m c (t - 1) d7 d8 d9) (h0 : t % 16 ≠ 0)
    (ht : 2 * (t % 16) ≤ t / 16) : Good m c (t / 16) (1024 * (t % 16)) d7 d8 d9 := by
  have h := h (by omega)
  unfold Inv at h
  rw [show (t - 1) / 16 = t / 16 by omega, show 1024 * (min ((t - 1) % 16) ((t - 1) / 32) + 1) = 1024 * (t % 16) by omega] at h
  exact h

theorem Inv.idle {t : ℕ} {d7 d8 d9 : Vec Ideal S16x512x128 .f32} (h : t ≠ 0 → Inv m c (t - 1) d7 d8 d9) (h0 : t % 16 ≠ 0)
    (ht : t / 16 < 2 * (t % 16)) : Inv m c t d7 d8 d9 := by
  have h := h (by omega)
  unfold Inv at h ⊢
  rw [show (t - 1) / 16 = t / 16 by omega,
    show 1024 * (min ((t - 1) % 16) ((t - 1) / 32) + 1) = 1024 * (min (t % 16) (t / 32) + 1) by omega] at h
  exact h

theorem Good.inv {t : ℕ} {d7 d8 d9 : Vec Ideal S16x512x128 .f32} (ht : 2 * (t % 16) ≤ t / 16)
    (h : Good m c (t / 16) (1024 * (t % 16 + 1)) d7 d8 d9) : Inv m c t d7 d8 d9 := by
  unfold Inv
  rw [show 1024 * (min (t % 16) (t / 32) + 1) = 1024 * (t % 16 + 1) by omega]
  exact h

theorem cases_of (t : Fin cfg0.N) : conds0_A (grid0.coords t) ∨ conds0_B (grid0.coords t) ∨ conds0_C (grid0.coords t)
    ∨ conds0_D (grid0.coords t) ∨ conds0_E (grid0.coords t) ∨ conds0_F (grid0.coords t) ∨ conds0_G (grid0.coords t) := by
  have hN : t.val < 512 := lt_of_lt_of_eq t.isLt (show cfg0.N = 512 from N_0)
  simp only [conds0_A, conds0_B, conds0_C, conds0_D, conds0_E, conds0_F, conds0_G, hcond0_0, hcond0_1, hcond0_2, hcond0_3]
  omega

variable (hf : Finite (argQ m c) (argK m c) (argV m c) (argL m c))
include hf

theorem Good.step (t : Fin cfg0.N) (ht : 2 * (t.val % 16) ≤ t.val / 16) (msk : Option (IVec S512x1024 1))
    (hmsk : (msk = none ∧ 2 * (t.val % 16) + 2 ≤ t.val / 16) ∨ msk = diag (grid0.coords t)) (d7 d8 d9 : Vec Ideal S16x512x128 .f32)
    (h : Good m c (t.val / 16) (1024 * (t.val % 16)) d7 d8 d9) :
    Good m c (t.val / 16) (1024 * (t.val % 16 + 1)) (arr (mP (F := Ideal) msk (iblk m c 0 t) (iblk m c 1 t) (headOf d7)))
      (arr (lP (F := Ideal) msk (iblk m c 0 t) (iblk m c 1 t) (headOf d7) (headOf d8)))
      (arr (aP (F := Ideal) msk (iblk m c 0 t) (iblk m c 1 t) (iblk m c 2 t) (headOf d7) (headOf d9))) := by
  have hN : t.val < 512 := lt_of_lt_of_eq t.isLt (show cfg0.N = 512 from N_0)
  intro n hn
  rw [headOf_arr, headOf_arr, headOf_arr]
  unfold diag at hmsk
  rw [coords_0, coords_1] at hmsk
  exact HeadOK.step msk (isSnd n) _ _ _ _ _ _ (t.val / 16) (t.val % 16) (by omega) (by omega) ht hmsk (q_real hf t n hn) (k_real hf t ht n hn)
    (v_real hf t ht n hn) _ _ _ (h n hn)

/-- The quotients of the finished heads are the result's block. -/
theorem Good.out (t : Fin cfg0.N) (n : ℕ) (hn : 512 * (t.val / 16) + 512 ≤ n) (d7 d8 d9 : Vec Ideal S16x512x128 .f32)
    (h : Good m c (t.val / 16) n d7 d8 d9) :
    outs (outP (F := Ideal) (lamOf (iblk m c 3 t)) (headOf d8) (headOf d9)) = outBlk m c t.val := by
  have hN : t.val < 512 := lt_of_lt_of_eq t.isLt (show cfg0.N = 512 from N_0)
  funext y
  have h0 : (y 0).val < 512 := (y 0).isLt
  have h1 : (y 1).val < 1024 := (y 1).isLt
  obtain ⟨p, hp⟩ : ∃ p, p = (y 1).val / 128 := ⟨_, rfl⟩
  have hp8 : p < 8 := by omega
  have hA := (h (2 * p) (by omega) ⟨(y 0).val, h0⟩).quotient 16384 (by show 512 * (t.val / 16) + (y 0).val < n; omega)
    (by show 512 * (t.val / 16) + (y 0).val < 16384; omega) ⟨(y 1).val % 128, Nat.mod_lt _ (by decide)⟩
  have hB := (h (2 * p + 1) (by omega) ⟨(y 0).val, h0⟩).quotient 16384 (by show 512 * (t.val / 16) + (y 0).val < n; omega)
    (by show 512 * (t.val / 16) + (y 0).val < 16384; omega) ⟨(y 1).val % 128, Nat.mod_lt _ (by decide)⟩
  rw [show isSnd (2 * p) = false by unfold isSnd; rw [Nat.mul_mod_right]; rfl, show 2 * p / 2 = p by omega] at hA
  rw [show isSnd (2 * p + 1) = true by unfold isSnd; rw [show (2 * p + 1) % 2 = 1 by omega]; rfl, show (2 * p + 1) / 2 = p by omega] at hB
  subst hp
  refine (combine_apply _ _ _ _ _ _ _).trans ?_
  rw [lam_real hf t, hA, hB, ← EReal.coe_mul, ← EReal.coe_sub]
  rfl

theorem point (t : Fin cfg0.N) (d4 : Vec Ideal S512x1024 .f32) (d7 d8 d9 : Vec Ideal S16x512x128 .f32)
    (h : t.val ≠ 0 → Inv m c (t.val - 1) d7 d8 d9) : ∃ e4 e7 e8 e9,
      Leaves (F := Ideal) (grid0.coords t) (iblk m c 0 t) (iblk m c 1 t) (iblk m c 2 t) (iblk m c 3 t) d4 d7 d8 d9 e4 e7 e8 e9
      ∧ Inv m c t.val e7 e8 e9 ∧ (t.val % 16 = 15 → e4 = outBlk m c t.val) ∧ (t.val % 16 ≠ 15 → e4 = d4) := by
  have hN : t.val < 512 := lt_of_lt_of_eq t.isLt (show cfg0.N = 512 from N_0)
  rcases cases_of t with hi | hi | hi | hi | hi | hi | hi
  all_goals
    have hc := hi
    simp only [conds0_A, conds0_B, conds0_C, conds0_D, conds0_E, conds0_F, conds0_G, hcond0_0, hcond0_1, hcond0_2, hcond0_3] at hc
    rw [Nat.mod_eq_of_lt (show t.val / 16 < 32 by omega)] at hc
  · have hs := Good.step hf t (by omega) (diag (grid0.coords t)) (.inr rfl) _ _ _
      (by rw [show 1024 * (t.val % 16) = 0 by omega]; exact Good.start _)
    exact ⟨_, _, _, _, run_A _ hi _ _ _ _ _ _ _ _, hs.inv (by omega), fun e => absurd e (by omega), fun _ => rfl⟩
  · exact ⟨_, _, _, _, run_B _ hi _ _ _ _ _ _ _ _, Inv.idle h (by omega) (by omega), fun e => absurd e (by omega), fun _ => rfl⟩
  · have hs := Inv.idle h (by omega) (by omega)
    exact ⟨_, _, _, _, run_C _ hi _ _ _ _ _ _ _ _, hs, fun _ => Good.out hf t _ (by omega) _ _ _ hs, fun e => absurd (by omega) e⟩
  · have hs := Good.step hf t (by omega) none (.inl ⟨rfl, by omega⟩) _ _ _
      (by rw [show 1024 * (t.val % 16) = 0 by omega]; exact Good.start _)
    exact ⟨_, _, _, _, run_D _ hi _ _ _ _ _ _ _ _, hs.inv (by omega), fun e => absurd e (by omega), fun _ => rfl⟩
  · have hs := Good.step hf t (by omega) (diag (grid0.coords t)) (.inr rfl) _ _ _ (Inv.active h (by omega) (by omega))
    exact ⟨_, _, _, _, run_E _ hi _ _ _ _ _ _ _ _, hs.inv (by omega), fun e => absurd e (by omega), fun _ => rfl⟩
  · have hs := Good.step hf t (by omega) none (.inl ⟨rfl, by omega⟩) _ _ _ (Inv.active h (by omega) (by omega))
    exact ⟨_, _, _, _, run_F _ hi _ _ _ _ _ _ _ _, hs.inv (by omega), fun e => absurd e (by omega), fun _ => rfl⟩
  · have hs := Good.step hf t (by omega) (diag (grid0.coords t)) (.inr rfl) _ _ _ (Inv.active h (by omega) (by omega))
    have ho := Good.out hf t _ (by omega) _ _ _ hs
    rw [headOf_arr, headOf_arr] at ho
    exact ⟨_, _, _, _, run_G _ hi _ _ _ _ _ _ _ _, hs.inv (by omega), fun _ => ho, fun e => absurd (by omega) e⟩

end Cert.KernelIdeal.Head

end
-- ==== Proof.ValueFrame.lean ====
/- The launch on real arguments leaves the differential attention in its output array. -/
module

public import proofs.«01_k».proof.Proof.Point
public import Idealize.ShloMosaic.Lib.Claim

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The scratches before point `n`: after the first point they are the heads of the point before. -/
def PhiV (c : Dev nD) (n : ℕ) : sProp 𝕄 :=
  iprop(∃ d7, ∃ d8, ∃ d9, ⌜n ≠ 0 → Inv m c (n - 1) d7 d8 d9⌝ ∗ owns (c : Thread nD τ) scM0_0 fullShare d7
    ∗ owns (c : Thread nD τ) scM0_1 fullShare d8 ∗ owns (c : Thread nD τ) scM0_2 fullShare d9 ∗ (∃ r, prngReg c r))

/-- The proof data: each input's buffer at its block, the output's at the result's block, the scratches at the heads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t.val
  Φ t := PhiV m c t.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d

theorem leaves_0 (c : Dev nD) (t : Fin cfg0.N) : (dats m 0 c).leavesExact 0 t = owns (c : Thread nD τ) (ms0_0 t) fullShare (iblk m c 0 t) := by
  rw [show iblk m c 0 t = (dats m 0 c).after 0 t from by dsimp only [dats]]
theorem leaves_1 (c : Dev nD) (t : Fin cfg0.N) : (dats m 0 c).leavesExact 1 t = owns (c : Thread nD τ) (ms0_1 t) fullShare (iblk m c 1 t) := by
  rw [show iblk m c 1 t = (dats m 0 c).after 1 t from by dsimp only [dats]]
theorem leaves_2 (c : Dev nD) (t : Fin cfg0.N) : (dats m 0 c).leavesExact 2 t = owns (c : Thread nD τ) (ms0_2 t) fullShare (iblk m c 2 t) := by
  rw [show iblk m c 2 t = (dats m 0 c).after 2 t from by dsimp only [dats]]
theorem leaves_3 (c : Dev nD) (t : Fin cfg0.N) : (dats m 0 c).leavesExact 3 t = owns (c : Thread nD τ) (ms0_3 t) fullShare (iblk m c 3 t) := by
  rw [show iblk m c 3 t = (dats m 0 c).after 3 t from by dsimp only [dats]]

theorem live_4 : ∀ t : Fin cfg0.N, t.val % 16 = 15 → cfg0.idle 4 (grid0.coords t) = false :=
  (by decide +kernel : ∀ t : Fin grid0.N, t.val % 16 = 15 → cfg0.idle 4 (grid0.coords t) = false)
theorem idle_4 : ∀ t : Fin cfg0.N, t.val % 16 ≠ 15 → cfg0.idle 4 (grid0.coords t) = true :=
  (by decide +kernel : ∀ t : Fin grid0.N, t.val % 16 ≠ 15 → cfg0.idle 4 (grid0.coords t) = true)
theorem noFlush_4 : ∀ t : Fin cfg0.N, t.val % 16 ≠ 15 → (cfg0.win 4).flush t = false :=
  (by decide +kernel : ∀ t : Fin grid0.N, t.val % 16 ≠ 15 → win0_4.flush t = false)

/-- A point that finishes a tile leaves the result's block; any other leaves the output as it was. -/
theorem leaves_4 (c : Dev nD) (t : Fin cfg0.N) (d) (e4 : Vec Ideal S512x1024 .f32) (h : t.val % 16 = 15 → e4 = outBlk m c t.val)
    (h' : t.val % 16 ≠ 15 → e4 = (dats m 0 c).before 4 t d) : owns (c : Thread nD τ) (ms0_4 t) fullShare e4 ⊢ (dats m 0 c).leavesExact 4 t := by
  by_cases ht : t.val % 16 = 15
  · rw [h ht, show outBlk m c t.val = (dats m 0 c).after 4 t from by dsimp only [dats]]
    unfold Dat.leavesExact
    rw [live_4 t ht]
  · rw [h' ht, Dat.leavesExact_idle (dats m 0 c) 4 t (idle_4 t ht) (noFlush_4 t ht)]
    iintro H
    iexists _
    iexact H

theorem body_row (t : Fin cfg0.N) : defs₀ (F := Ideal) .tc cfg0.body (cfg0.bodyArgs t (cfg0.slots t)) = bodyAt0 t := by
  unfold defs₀; rw [Defs.onTc_tc]

theorem hin (c : Dev nD) : Pipeline.ΦA spec0 c ⊢ (dats m 0 c).Φ 0 := by
  rw [show (dats m 0 c).Φ 0 = PhiV m c 0 from rfl, PhiA0_eq]
  unfold PhiV
  iintro ⟨⟨⟨%d7, H7⟩, ⟨%d8, H8⟩, ⟨%d9, H9⟩⟩, Hg⟩
  iexists d7; iexists d8; iexists d9
  isplitr
  · ipureintro; exact fun h => absurd rfl h
  isplitl [H7]; · iexact H7
  isplitl [H8]; · iexact H8
  isplitl [H9]; · iexact H9
  iexact Hg

theorem hout (c : Dev nD) : (dats m 0 c).Φ (Fin.last cfg0.N) ⊢ Pipeline.ΦA spec0 c := by
  rw [show (dats m 0 c).Φ (Fin.last cfg0.N) = PhiV m c cfg0.N from rfl, PhiA0_eq]
  unfold PhiV
  iintro ⟨%d7, %d8, %d9, -, H7, H8, H9, Hg⟩
  isplitl [H7 H8 H9]
  · isplitl [H7]
    · iexists _; iexact H7
    isplitl [H8]
    · iexists _; iexact H8
    iexists _; iexact H9
  iexact Hg

variable (hf : ∀ c : Dev nD, Finite (argQ m c) (argK m c) (argV m c) (argL m c))
include hf

/-- The body at a point. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d)))
      ⊢ wp frame (wpE (defs₀ (F := Ideal)) Variants.none c none) Set.univ (bodyAt0 t) (fun _ =>
        iprop((dats m 0 c).Φ t.succ ∗ (dats m 0 c).owesAt () t.succ
          ∗ (dats m 0 c).leavesExact 0 t
          ∗ (dats m 0 c).leavesExact 1 t
          ∗ (dats m 0 c).leavesExact 2 t
          ∗ (dats m 0 c).leavesExact 3 t
          ∗ (dats m 0 c).leavesExact 4 t)) := by
  unfold bodyAt0
  simp only [before_0, before_1, before_2, before_3, leaves_0, leaves_1, leaves_2, leaves_3]
  rw [show (dats m 0 c).owesAt () t.succ = (dats m 0 c).owesAt () t.castSucc from rfl,
    show (dats m 0 c).Φ t.castSucc = PhiV m c t.val from rfl, show (dats m 0 c).Φ t.succ = PhiV m c (t.val + 1) from rfl]
  unfold PhiV
  iintro ⟨⟨%d7, %d8, %d9, %hI, H7, H8, H9, Hg⟩, Ho, ⟨%d0, H0⟩, ⟨%d1, H1⟩, ⟨%d2, H2⟩, ⟨%d3, H3⟩, ⟨%d4, H4⟩⟩
  obtain ⟨e4, e7, e8, e9, hrun, hJ, hlast, hkeep⟩ := point (hf c) t ((dats m 0 c).before 4 t d4) d7 d8 d9 hI
  iapply (hrun c _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  iintro ⟨H0, H1, H2, H3, H4, H7, H8, H9⟩
  isplitl [H7 H8 H9 Hg]
  · iexists e7; iexists e8; iexists e9
    isplitr
    · ipureintro; exact fun _ => hJ
    isplitl [H7]; · iexact H7
    isplitl [H8]; · iexact H8
    isplitl [H9]; · iexact H9
    iexact Hg
  isplitl [Ho]; · iexact Ho
  isplitl [H0]; · iexact H0
  isplitl [H1]; · iexact H1
  isplitl [H2]; · iexact H2
  isplitl [H3]; · iexact H3
  iapply (leaves_4 m c t d4 e4 hlast hkeep)
  iexact H4

theorem body_obligation (c : Dev nD) : BodyObligation (dats m 0 c) (defs₀ (F := Ideal)) Variants.none () Set.univ := fun t => by
  rw [bigSep_W0, bigSep_W0, body_row]
  exact triple_restated (sound_body m hf c t) rfl .rfl fun _ => .rfl

omit hf in
/-- The output array, after the run, is the result. -/
theorem final_4 (c : Dev nD) : (dats m 0 c).arrAt 4 cfg0.N
    = fun y : S16384x1024.Idx => resAt (argQ m c) (argK m c) (argV m c) (argL m c) (y 0).val (y 1).val := by
  refine (dats m 0 c).arrAt_eq_of_covers 4 _ (by decide +kernel) fun t hfl y => ?_
  have e0 : win0_4.index t 0 = t.val / 16 := by rw [index_4]; rfl
  have e1 : win0_4.index t 1 = 0 := by rw [index_4]; rfl
  have b0 : (((cfg0.win 4).blk t).view.emb y 0).val = 512 * (t.val / 16) + (y 0).val :=
    (by rw [e0]; omega : win0_4.index t 0 * 512 + 1 * (y 0).val = 512 * (t.val / 16) + (y 0).val)
  have b1 : (((cfg0.win 4).blk t).view.emb y 1).val = (y 1).val :=
    (by rw [e1]; omega : win0_4.index t 1 * 1024 + 1 * (y 1).val = (y 1).val)
  show outBlk m c t.val _ = resAt _ _ _ _ (((cfg0.win 4).blk t).view.emb y 0).val (((cfg0.win 4).blk t).view.emb y 1).val
  rw [b0, b1]
  rfl

set_option backward.isDefEq.respectTransparency.types false in
/-- Every run ends with the result in the output array and the arguments as they were. -/
theorem run : θ_run defs (onTc (τ := τ) (main (F := Ideal))) ⟨m, fun _ => 0, ρ⟩ (fun r => ∀ c : Dev nD,
      r.2.mem ((c.tc : Thread nD τ).loc main_v0) = (fun y : S16384x1024.Idx => resAt (argQ m c) (argK m c) (argV m c) (argL m c) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := Pipeline.θ_run_frame_track (Q' := _) cfgs (dats m) (0 : Fin 1) launch0 defs₀ Variants.none m ρ main
    (hbody := fun c => (body_obligation m hf c).loose) (hshare := fun c => (dats m 0 c).share_full fun _ => rfl)
    (howed := fun _ _ => rfl) (V := V m) (hmain := hmain m Variants.none) (hA := A_eq m) (hin := hin m) (hout := hout m)
  exact (θ_run defs _ _).mono (fun r hr c =>
    ⟨((hr c).1 4).trans (final_4 m c),
      ((hr c).1 0).trans (((dats m 0 c).arrAt_in 0 rfl _).trans (A_eq m c 0)),
      ((hr c).1 1).trans (((dats m 0 c).arrAt_in 1 rfl _).trans (A_eq m c 1)),
      ((hr c).1 2).trans (((dats m 0 c).arrAt_in 2 rfl _).trans (A_eq m c 2)),
      ((hr c).1 3).trans (((dats m 0 c).arrAt_in 3 rfl _).trans (A_eq m c 3))⟩) h

end Cert.KernelIdeal.Head

end
-- ==== Proof.Reals.lean ====
/- The precondition makes every number of the arguments real. -/
module

public import proofs.«01_k».proof.Proof.Inputs
public import proofs.«01_k».proof.Proof.Gen.Pre_finite
public import Idealize.ShloMosaic.Lib.ReduceAll
public import Idealize.ShloMosaic.Lib.Pointwise

@[expose] public section

noncomputable section

namespace Cert.KernelIdeal.Head

open Idealize.ShloMosaic

theorem both_one : ∀ a b : BitVec 1, IntOp.andi a b = 1#1 → a = 1#1 ∧ b = 1#1 := by decide

/-- A number whose absolute value is below infinity is real. -/
theorem real_of_abs (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt := (Ideal.cmp_olt_eq_one _ _).1 h
  rw [max_lt_iff] at hlt
  exact ⟨hlt.1.ne, fun e => hlt.2.ne (by rw [e, EReal.neg_bot])⟩

theorem finite_of_pre (x0 : FVec Ideal Cert.Pre_finite.S16384x1024 .f32) (x1 x2 : FVec Ideal Cert.Pre_finite.S16384x1024 .bf16)
    (x3 : FVec Ideal Cert.Pre_finite.S1x1 .f32)
    (h : letI := Cert.Pre_finite.Gen.facts; Cert.Pre_finite.fn (F := Ideal) x0 x1 x2 x3 = fun _ => 1#1) : Finite x0 x1 x2 x3 := by
  haveI : Subsingleton Cert.Pre_finite.S_.Idx := ⟨fun a b => funext fun i => i.elim0⟩
  have h := congrFun h (fun i => i.elim0)
  unfold Cert.Pre_finite.fn Cert.Pre_finite.fn_part1 at h
  obtain ⟨h, h3⟩ := both_one _ _ h
  obtain ⟨h, h2⟩ := both_one _ _ h
  obtain ⟨h0, h1⟩ := both_one _ _ h
  exact ⟨fun y => real_of_abs _ (Host.reduce_andi_all _ _ _ _ _ h0 y), fun y => real_of_abs _ (Host.reduce_andi_all _ _ _ _ _ h1 y),
    fun y => real_of_abs _ (Host.reduce_andi_all _ _ _ _ _ h2 y), fun y => real_of_abs _ (Host.reduce_andi_all _ _ _ _ _ h3 y)⟩

end Cert.KernelIdeal.Head

end
-- ==== Proof.RefValue.lean ====
/- The reference's result at an index. -/
module

public import proofs.«01_k».proof.Proof.Inputs
public import proofs.«01_k».proof.Proof.Gen.ReferenceIdeal.Run
public import Idealize.ShloMosaic.Lib.Pointwise

@[expose] public section

set_option maxRecDepth 16384

noncomputable section

namespace Cert.ReferenceIdeal.Attend

open Idealize.ShloMosaic Idealize.ShloMosaic.TcCoe Idealize.SL.Sem Cert.Online
open Cert.ReferenceIdeal Cert.ReferenceIdeal.Gen
open Cert.KernelIdeal.Head (IsReal Finite cell attend factor resAt logit)

/-- The masked scores. -/
def masked (x0 : FVec Ideal S16384x1024 .f32) (x1 : FVec Ideal S16384x1024 .bf16) : FVec Ideal S8x2x16384x16384 .f32 :=
  select (broadcastInDim S8x2x16384x16384 ![2, 3] bcast_S16384x16384_S8x2x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    (mulf (Host.dotGeneral dot_S16384x8x2x64_S16384x8x2x64_S8x2x16384x16384_3_3_0_0_12_12 none (shapeCast _ x0 shapeCasts_S16384x1024_S16384x8x2x64) (shapeCast _ (extf .f32 x1 bitsLt_bf16_f32) shapeCasts_S16384x1024_S16384x8x2x64)) (broadcastInDim S8x2x16384x16384 ![] bcast_S_S8x2x16384x16384 (constant S_ .f32 0x3E000000#32)))
    (broadcastInDim S8x2x16384x16384 ![] bcast_S_S8x2x16384x16384 (id (constant S_ .f32 0xFF800000#32)))

/-- The largest score of each row. -/
def largest (s : FVec Ideal S8x2x16384x16384 .f32) : FVec Ideal S8x2x16384 .f32 :=
  Host.reduce FloatOps.maximumf s (constant S_ .f32 0xFF800000#32) reducesTo_S8x2x16384x16384_S8x2x16384_d3 h_S_

/-- The exponentials of the scores, each less its row's reference point. -/
def powers (s : FVec Ideal S8x2x16384x16384 .f32) (r : FVec Ideal S8x2x16384 .f32) : FVec Ideal S8x2x16384x16384 .f32 :=
  Host.exp (subf s (broadcastInDim S8x2x16384x16384 ![0, 1, 2, 3] bcast_S8x2x16384x1_S8x2x16384x16384_0_1_2_3 (broadcastInDim S8x2x16384x1 ![0, 1, 2] bcast_S8x2x16384_S8x2x16384x1_0_1_2 (maximumf (broadcastInDim S8x2x16384 ![] bcast_S_S8x2x16384 (constant S_ .f32 0xFF800000#32)) r))))

/-- The weights, from the exponentials. -/
def weights (e : FVec Ideal S8x2x16384x16384 .f32) : FVec Ideal S8x2x16384x16384 .f32 :=
  Host.divf e (broadcastInDim S8x2x16384x16384 ![0, 1, 2, 3] bcast_S8x2x16384x1_S8x2x16384x16384_0_1_2_3 (broadcastInDim S8x2x16384x1 ![0, 1, 2] bcast_S8x2x16384_S8x2x16384x1_0_1_2 (Host.reduceAdd e (constant S_ .f32 0x00000000#32) reducesTo_S8x2x16384x16384_S8x2x16384_d3 h_S_)))

/-- The difference of the two maps. -/
def differ (p : FVec Ideal S8x2x16384x16384 .f32) (x3 : FVec Ideal S1x1 .f32) : FVec Ideal S8x16384x16384 .f32 :=
  subf (shapeCast _ (extractStridedSlice S8x1x16384x16384 ![0, 0, 0, 0] p slices_S8x2x16384x16384_S8x1x16384x16384_0_0_0_0) shapeCasts_S8x1x16384x16384_S8x16384x16384)
    (mulf (broadcastInDim S8x16384x16384 ![] bcast_S_S8x16384x16384 (shapeCast _ x3 shapeCasts_S1x1_S_))
      (shapeCast _ (extractStridedSlice S8x1x16384x16384 ![0, 1, 0, 0] p slices_S8x2x16384x16384_S8x1x16384x16384_0_1_0_0) shapeCasts_S8x1x16384x16384_S8x16384x16384))

/-- The values' average. -/
def average (x2 : FVec Ideal S16384x1024 .bf16) (a : FVec Ideal S8x16384x16384 .f32) : FVec Ideal S16384x1024 .f32 :=
  shapeCast _ (transpose S16384x8x128 [2, 0, 1] (Host.dotGeneral dot_S16384x8x128_S8x16384x16384_S8x128x16384_0_2_2_1_1_0 none (shapeCast _ (extf .f32 x2 bitsLt_bf16_f32) shapeCasts_S16384x1024_S16384x8x128) a) transposes_S8x128x16384_S16384x8x128_2_0_1) shapeCasts_S16384x8x128_S16384x1024

/-- The two maps' weights. -/
def probs (x0 : FVec Ideal S16384x1024 .f32) (x1 : FVec Ideal S16384x1024 .bf16) : FVec Ideal S8x2x16384x16384 .f32 :=
  weights (powers (masked x0 x1) (largest (masked x0 x1)))

/-- The reference's result as the functions above. -/
theorem res_eq (m : (ℓ : Loc nD τ sig) → Buf (Elt Ideal) ℓ) (c : Dev nD) :
    Cert.ReferenceIdeal.Value.res_main_v36 (F := Ideal) m c
      = average (m ((c.tc : Thread nD τ).loc main_arg2))
        (differ (probs (m ((c.tc : Thread nD τ).loc main_arg0)) (m ((c.tc : Thread nD τ).loc main_arg1)))
          (m ((c.tc : Thread nD τ).loc main_arg3))) := rfl

/-- The reference's scale is one eighth. -/
theorem eighth : Ideal.ofBits .f32 0x3E000000#32 = ((1 / 8 : ℝ) : EReal) := by
  simp [Ideal.ofBits, Ideal.ieee]
  rw [← EReal.coe_mul]
  norm_num

/-- The mask's word is minus infinity. -/
theorem neg_inf : Ideal.ofBits .f32 0xFF800000#32 = (⊥ : EReal) := rfl

/-- A real entry is a cell. -/
theorem entry (x : S16384x1024.Idx → EReal) (hx : ∀ y, IsReal (x y)) (p : ℕ) (t : Fin 16384) (k : Fin 1024) (d : Fin 128)
    (hk : k.val = 128 * p + d.val) : x (ix2 t k) = (cell x p t.val d : EReal) := by
  have hkl := k.isLt
  have htl := t.isLt
  have e1 : Fin.ofNat 16384 t.val = t := Fin.ext (Nat.mod_eq_of_lt htl)
  have e2 : Fin.ofNat 1024 (128 * p + d.val) = k := Fin.ext (by show (128 * p + d.val) % 1024 = k.val; omega)
  unfold cell
  rw [e1, e2]
  exact (hx _).coe

/-- A masked score is the scaled product of query and key, and minus infinity of a later key. -/
theorem masked_apply (x0 : FVec Ideal S16384x1024 .f32) (x1 : FVec Ideal S16384x1024 .bf16) (hq : ∀ y, IsReal (x0 y)) (hk : ∀ y, IsReal (x1 y))
    (h : Fin 8) (e : Bool) (t s : Fin 16384) : masked x0 x1 (ix4 h (⟨e.toNat, by cases e <;> decide⟩ : Fin 2) t s)
      = if s.val ≤ t.val then (logit e (cell x0 h.val) (cell x1 h.val) t.val s.val : EReal) else ⊥ := by
  have ht := t.isLt
  have hs := s.isLt
  have hh := h.isLt
  have he : e.toNat < 2 := by cases e <;> decide
  pointwise [masked]
  rw [WordCmp.cmpi_sle_ofNat (by omega) (by omega), eighth]
  by_cases hst : s.val ≤ t.val
  · rw [if_pos hst, decide_eq_true hst]
    refine Eq.trans (WordCmp.select_one _ _) ?_
    unfold logit
    rw [EReal.coe_mul, coe_sum]
    congr 1
    refine Finset.sum_congr rfl fun x _ => ?_
    have hx := x.isLt
    rw [entry x0 hq h.val t _ ⟨64 * e.toNat + x.val, by omega⟩ (by show h.val * 128 + e.toNat * 64 + x.val = 128 * h.val + (64 * e.toNat + x.val); omega),
      entry x1 hk h.val s _ ⟨64 * e.toNat + x.val, by omega⟩ (by show h.val * 128 + e.toNat * 64 + x.val = 128 * h.val + (64 * e.toNat + x.val); omega), EReal.coe_mul]
  · rw [if_neg hst, decide_eq_false hst]
    exact (WordCmp.select_zero _ _).trans neg_inf

/-- A fold of the maximum over entries below infinity, one of them above minus infinity, is real. -/
theorem reduce_max_real {s t u : Shape} {axes : List (Fin s.rank)} (x : FVec Ideal s .f32) (init : FVec Ideal u .f32) (h : s.ReducesTo axes t)
    (hu : 0 < u.numel) (j : t.Idx) (hi : init (Shape.Idx.first hu) = (⊥ : EReal)) (hx : ∀ i, x i ≠ (⊤ : EReal)) (i : s.Idx) (hij : h.drop i = j)
    (h0 : x i ≠ (⊥ : EReal)) : ∃ μ : ℝ, Host.reduce FloatOps.maximumf x init h hu j = (μ : EReal) := by
  have hb : Finset.fold max (⊥ : EReal) x (Finset.univ.filter fun i => h.drop i = j) ≠ ⊥ := by
    have := (Finset.le_fold_max (s := Finset.univ.filter fun i => h.drop i = j) (f := x) (b := (⊥ : EReal)) (x i)).2
      (.inr ⟨i, Finset.mem_filter.2 ⟨Finset.mem_univ _, hij⟩, le_rfl⟩)
    intro e; rw [e] at this; exact h0 (le_bot_iff.1 this)
  have ht : Finset.fold max (⊥ : EReal) x (Finset.univ.filter fun i => h.drop i = j) ≠ ⊤ := by
    have := (Finset.fold_max_lt (s := Finset.univ.filter fun i => h.drop i = j) (f := x) (b := (⊥ : EReal)) ⊤).2
      ⟨bot_lt_top, fun c _ => lt_top_iff_ne_top.2 (hx c)⟩
    exact this.ne
  have e := Host.reduce_eq_fold (FloatOps.maximumf (F := Ideal) (φ := .f32)) x init h hu j
  rw [hi] at e
  exact ⟨(Finset.fold max (⊥ : EReal) x (Finset.univ.filter fun i => h.drop i = j)).toReal, e.trans (EReal.coe_toReal ht hb).symm⟩

/-- A row's largest score is real when the row has a finite score. -/
theorem largest_real (s : FVec Ideal S8x2x16384x16384 .f32) (hs : ∀ i, s i ≠ (⊤ : EReal)) (i : S8x2x16384x16384.Idx) (j : S8x2x16384.Idx)
    (hij : reducesTo_S8x2x16384x16384_S8x2x16384_d3.drop i = j) (h0 : s i ≠ (⊥ : EReal)) : ∃ μ : ℝ, largest s j = (μ : EReal) := by
  unfold largest
  exact reduce_max_real s (constant S_ .f32 0xFF800000#32) reducesTo_S8x2x16384x16384_S8x2x16384_d3 h_S_ j neg_inf hs i hij h0

/-- A row's entries are those that agree with it up to the key. -/
theorem drop_row (h : Fin 8) (e : Fin 2) (t j : Fin 16384) :
    reducesTo_S8x2x16384x16384_S8x2x16384_d3.drop (ix4 h e t j) = ix3 h e t :=
  funext fun a => Fin.ext (match a with | ⟨0, _⟩ => rfl | ⟨1, _⟩ => rfl | ⟨2, _⟩ => rfl)

/-- An exponential at an index. -/
theorem powers_apply (s : FVec Ideal S8x2x16384x16384 .f32) (r : FVec Ideal S8x2x16384 .f32) (h : Fin 8) (e : Fin 2) (t j : Fin 16384) :
    powers s r (ix4 h e t j) = Ideal.exp ((s (ix4 h e t j) : EReal) - r (ix3 h e t)) := by
  pointwise [powers]
  rw [neg_inf, max_eq_right bot_le]

/-- A weight is an exponential over its row's sum. -/
theorem weights_apply (s : FVec Ideal S8x2x16384x16384 .f32) (h : Fin 8) (e : Fin 2) (t j : Fin 16384) :
    weights s (ix4 h e t j) = Ideal.div (s (ix4 h e t j)) (∑ x, (s (ix4 h e t x) : EReal)) := by
  pointwise [weights]

/-- The difference of the two maps at an index. -/
theorem differ_apply (p : FVec Ideal S8x2x16384x16384 .f32) (x3 : FVec Ideal S1x1 .f32) (h : Fin 8) (t j : Fin 16384) :
    differ p x3 (ix3 h t j) = (p (ix4 h 0 t j) : EReal) - (x3 (ix2 0 0) : EReal) * p (ix4 h 1 t j) := by
  pointwise [differ]

/-- The average at an index: the sum over the keys. -/
theorem average_apply (x2 : FVec Ideal S16384x1024 .bf16) (a : FVec Ideal S8x16384x16384 .f32) (t : Fin 16384) (k : Fin 1024) :
    average x2 a (ix2 t k) = ∑ x : Fin 16384, (x2 (ix2 x k) : EReal) * a (ix3 (⟨k.val / 128, by have := k.isLt; omega⟩ : Fin 8) t x) := by
  pointwise [average]

/-- A key's weight. -/
def share (N : ℕ) (T : ℕ → ℝ) (t c : ℕ) : ℝ :=
  (if c ≤ t then Real.exp (T c) else 0) / ∑ c ∈ Finset.range N, if c ≤ t then Real.exp (T c) else 0

/-- The quotient of a row's exponentials does not see the reference point. -/
theorem share_eq (N t : ℕ) (ht : t < N) (T : ℕ → ℝ) (μ : ℝ) (e : Fin N → EReal)
    (he : ∀ j : Fin N, e j = Ideal.exp ((if j.val ≤ t then (T j.val : EReal) else ⊥) - (μ : EReal))) (j : Fin N) :
    Ideal.div (e j) (∑ x, e x) = (share N T t j.val : EReal) := by
  have hr : ∀ j : Fin N, e j = ((Real.exp (-μ) * (if j.val ≤ t then Real.exp (T j.val) else 0) : ℝ) : EReal) := fun j => by
    rw [he]
    split
    · rw [← EReal.coe_sub, Ideal.exp_coe, ← Real.exp_add, neg_add_eq_sub]
    · rw [EReal.bot_sub, Ideal.exp_bot, mul_zero, EReal.coe_zero]
  have hd : (∑ x, e x) = ((Real.exp (-μ) * ∑ c ∈ Finset.range N, if c ≤ t then Real.exp (T c) else 0 : ℝ) : EReal) := by
    rw [Finset.sum_congr rfl fun x _ => hr x, ← coe_sum, ← Finset.mul_sum, Finset.sum_range]
  have hpos := den_pos N T t ht
  have hm := Real.exp_pos (-μ)
  rw [hr, hd]
  unfold Ideal.div share
  rw [if_neg (by rw [EReal.coe_eq_zero]; exact (mul_pos hm hpos).ne'), ← EReal.coe_inv, ← EReal.coe_mul, ← div_eq_mul_inv,
    mul_div_mul_left _ _ hm.ne']

/-- The average against the difference of two maps is the difference of the averages. -/
theorem average_share (N t : ℕ) (T T' V : ℕ → ℝ) (lam : ℝ) :
    (∑ x : Fin N, (V x.val : EReal) * ((share N T t x.val : EReal) - (lam : EReal) * (share N T' t x.val : EReal)))
      = ((avg N T V t - lam * avg N T' V t : ℝ) : EReal) := by
  have hs : ∀ T : ℕ → ℝ, avg N T V t = ∑ x : Fin N, V x.val * share N T t x.val := fun T => by
    unfold avg share
    rw [Finset.sum_range, Finset.sum_div]
    refine Finset.sum_congr rfl fun x _ => ?_
    split
    · ring
    · simp
  rw [hs, hs, Finset.mul_sum, ← Finset.sum_sub_distrib, coe_sum]
  refine Finset.sum_congr rfl fun x _ => ?_
  rw [← EReal.coe_mul, ← EReal.coe_sub, ← EReal.coe_mul]
  congr 1
  ring

/-- The softmax weight of a key. -/
theorem probs_apply (x0 : FVec Ideal S16384x1024 .f32) (x1 : FVec Ideal S16384x1024 .bf16) (hq : ∀ y, IsReal (x0 y)) (hk : ∀ y, IsReal (x1 y))
    (h : Fin 8) (e : Bool) (t s : Fin 16384) : probs x0 x1 (ix4 h (⟨e.toNat, by cases e <;> decide⟩ : Fin 2) t s)
      = (share 16384 (logit e (cell x0 h.val) (cell x1 h.val) t.val) t.val s.val : EReal) := by
  have hm : ∀ i, masked x0 x1 i ≠ (⊤ : EReal) := fun i => by
    have key : ∀ (h : Fin 8) (e : Bool) (t s : Fin 16384),
        masked x0 x1 (ix4 h (⟨e.toNat, by cases e <;> decide⟩ : Fin 2) t s) ≠ (⊤ : EReal) := fun h e t s => by
      rw [masked_apply x0 x1 hq hk]
      split
      exacts [EReal.coe_ne_top _, bot_ne_top]
    have hi : i = ix4 (i 0 : Fin 8) (⟨((i 1 : Fin 2).val == 1).toNat, by cases ((i 1 : Fin 2).val == 1) <;> decide⟩ : Fin 2) (i 2 : Fin 16384) (i 3 : Fin 16384) :=
      funext fun a => match a with
        | ⟨0, _⟩ => rfl
        | ⟨1, _⟩ => (by decide : ∀ z : Fin 2, z = (⟨(z.val == 1).toNat, by cases (z.val == 1) <;> decide⟩ : Fin 2)) (i 1)
        | ⟨2, _⟩ => rfl
        | ⟨3, _⟩ => rfl
    exact (congrArg (fun i => masked x0 x1 i ≠ (⊤ : EReal)) hi).mpr (key _ _ _ _)
  have h0 : masked x0 x1 (ix4 h (⟨e.toNat, by cases e <;> decide⟩ : Fin 2) t t) ≠ (⊥ : EReal) := by
    rw [masked_apply x0 x1 hq hk, if_pos le_rfl]
    exact EReal.coe_ne_bot _
  obtain ⟨μ, hμ⟩ := largest_real (masked x0 x1) hm _ _ (drop_row h (⟨e.toNat, by cases e <;> decide⟩ : Fin 2) t t) h0
  unfold probs
  rw [weights_apply]
  have hp : ∀ j : Fin 16384, powers (masked x0 x1) (largest (masked x0 x1)) (ix4 h (⟨e.toNat, by cases e <;> decide⟩ : Fin 2) t j)
      = Ideal.exp ((if j.val ≤ t.val then (logit e (cell x0 h.val) (cell x1 h.val) t.val j.val : EReal) else ⊥) - (μ : EReal)) := fun j => by
    rw [powers_apply, hμ, masked_apply x0 x1 hq hk]
  generalize powers (masked x0 x1) (largest (masked x0 x1)) = w at hp ⊢
  exact share_eq 16384 t.val t.isLt _ μ (fun x => w (ix4 h (⟨e.toNat, by cases e <;> decide⟩ : Fin 2) t x)) hp s

/-- The reference's result is the differential attention. -/
theorem result (x0 : FVec Ideal S16384x1024 .f32) (x1 x2 : FVec Ideal S16384x1024 .bf16) (x3 : FVec Ideal S1x1 .f32)
    (hf : Finite x0 x1 x2 x3) : average x2 (differ (probs x0 x1) x3) = fun y : S16384x1024.Idx => resAt x0 x1 x2 x3 (y 0).val (y 1).val := by
  funext y
  obtain ⟨t, k, rfl⟩ : ∃ (t : Fin 16384) (k : Fin 1024), y = ix2 t k := ⟨y 0, y 1, funext fun a => match a with | ⟨0, _⟩ => rfl | ⟨1, _⟩ => rfl⟩
  have hk := k.isLt
  rw [average_apply]
  refine Eq.trans ?_ (average_share 16384 t.val (logit false (cell x0 (k.val / 128)) (cell x1 (k.val / 128)) t.val)
    (logit true (cell x0 (k.val / 128)) (cell x1 (k.val / 128)) t.val) (fun c => cell x2 (k.val / 128) c (Fin.ofNat 128 k.val)) (factor x3))
  refine Finset.sum_congr rfl fun x _ => ?_
  rw [differ_apply, entry x2 hf.v (k.val / 128) x k (Fin.ofNat 128 k.val) (by show k.val = 128 * (k.val / 128) + k.val % 128; omega)]
  have h0 := probs_apply x0 x1 hf.q hf.k (⟨k.val / 128, by omega⟩ : Fin 8) false t x
  have h1 := probs_apply x0 x1 hf.q hf.k (⟨k.val / 128, by omega⟩ : Fin 8) true t x
  have hl : x3 (ix2 0 0) = (factor x3 : EReal) := (hf.lam _).coe
  rw [hl]
  exact congrArg₂ (fun a b : EReal => _ * (a - _ * b)) h0 h1

end Cert.ReferenceIdeal.Attend

end
-- ==== Proof.Spin.lean ====
/- The shared mathematics of the projections, over any number of rows. -/
module

public import Idealize.ShloMosaic.Lib.Pointwise
public import Idealize.ShloMosaic.Lib.WordCmp
public import proofs.«01_k».proof.Defs

@[expose] public section

set_option maxRecDepth 16384

noncomputable section

namespace Cert.Spin

open Idealize.ShloMosaic Idealize.ShloMosaic.TcCoe Idealize.SL.Sem

/-- A matrix's shape. -/
abbrev Sh (n k : ℕ) : Shape := ⟨2, ![n, k]⟩

variable {n : ℕ}

/-- An index with given coordinates. -/
theorem at2 {n k : ℕ} (y : (Sh n k).Idx) (r : Fin n) (j : Fin k) (h0 : (y 0).val = r.val) (h1 : (y 1).val = j.val) : y = ix2 r j :=
  funext fun a => match a with | ⟨0, _⟩ => Fin.ext h0 | ⟨1, _⟩ => Fin.ext h1

/-- The lanes of the first half of each head. -/
def lower (hi : (Sh n 128).Iotas .tc 32 [1]) : IVec (Sh n 128) 1 :=
  cmpi .slt (andi (iota .tc (Sh n 128) 32 [1] hi) (broadcast (Sh n 128) 63#32)) (broadcast (Sh n 128) 32#32)

/-- Two heads turned by their positions. -/
def turn (hi : (Sh n 128).Iotas .tc 32 [1]) (hr : (Sh n 128).Rotates 1 none) (c s z : FVec Ideal (Sh n 128) .f32) : FVec Ideal (Sh n 128) .f32 :=
  addf (mulf z c) (mulf (select (lower hi) (dynamicRotate 1 96#32 none z hr) (dynamicRotate 1 32#32 none z hr)) s)

/-- Eight heads turned by their positions. -/
def roped (hi : (Sh n 128).Iotas .tc 32 [1]) (hr : (Sh n 128).Rotates 1 none) (h0 : (Sh n 512).Slices ![0, 0] (Sh n 128)) (h128 : (Sh n 512).Slices ![0, 128] (Sh n 128)) (h256 : (Sh n 512).Slices ![0, 256] (Sh n 128)) (h384 : (Sh n 512).Slices ![0, 384] (Sh n 128))
    (hc : Shape.Concatenates [Sh n 128, Sh n 128, Sh n 128, Sh n 128] (Sh n 512) 1) (c s : FVec Ideal (Sh n 128) .f32) (z : FVec Ideal (Sh n 512) .f32) : FVec Ideal (Sh n 512) .f32 :=
  concatenate (Sh n 512) 1 [⟨(Sh n 128), turn hi hr c s (extractStridedSlice (Sh n 128) ![0, 0] z h0)⟩,
    ⟨(Sh n 128), turn hi hr c s (extractStridedSlice (Sh n 128) ![0, 128] z h128)⟩,
    ⟨(Sh n 128), turn hi hr c s (extractStridedSlice (Sh n 128) ![0, 256] z h256)⟩,
    ⟨(Sh n 128), turn hi hr c s (extractStridedSlice (Sh n 128) ![0, 384] z h384)⟩] hc

/-- The lower lanes are those in the first 32 of each 64. -/
theorem lower_apply (hi : (Sh n 128).Iotas .tc 32 [1]) (r : Fin n) (l : Fin 128) : lower hi (ix2 r l) = BitVec.ofBool (decide (l.val % 64 < 32)) := by
  pointwise [lower]
  revert l
  decide +kernel

/-- Where a lane finds the other half of its head. -/
def mate (n : ℕ) [NeZero n] (l : ℕ) : Fin n := Fin.ofNat n (if l % 64 < 32 then l + 32 else l - 32)

/-- A turned lane. -/
theorem turn_apply (hi : (Sh n 128).Iotas .tc 32 [1]) (hr : (Sh n 128).Rotates 1 none) (c s z : FVec Ideal (Sh n 128) .f32) (r : Fin n) (l : Fin 128) :
    turn hi hr c s z (ix2 r l) = (z (ix2 r l) * c (ix2 r l) + z (ix2 r (mate 128 l.val)) * s (ix2 r l) : EReal) := by
  have hl := l.isLt
  pointwise [turn]
  rw [lower_apply]
  congr 2
  by_cases h : l.val % 64 < 32
  · rw [decide_eq_true h]
    refine (WordCmp.select_one _ _).trans (congrArg z (at2 _ _ _ rfl ?_))
    exact (by show (l.val + 128 - 96) % 128 = (if l.val % 64 < 32 then l.val + 32 else l.val - 32) % 128; rw [if_pos h]; omega)
  · rw [decide_eq_false h]
    refine (WordCmp.select_zero _ _).trans (congrArg z (at2 _ _ _ rfl ?_))
    exact (by show (l.val + 128 - 32) % 128 = (if l.val % 64 < 32 then l.val + 32 else l.val - 32) % 128; rw [if_neg h]; omega)

/-- A turned part of a group at an index. -/
theorem quarter {W : ℕ} [NeZero W] (hi : (Sh n 128).Iotas .tc 32 [1]) (hr : (Sh n 128).Rotates 1 none) (c s : FVec Ideal (Sh n 128) .f32) (z : FVec Ideal (Sh n W) .f32) (o : ℕ) (h : (Sh n W).Slices ![0, o] (Sh n 128)) (ho : o % 128 = 0) (ho' : o + 128 ≤ W)
    (r : Fin n) (j : Fin W) (l : Fin 128) (hl : j.val = o + l.val) : turn hi hr c s (extractStridedSlice (Sh n 128) ![0, o] z h) (ix2 r l)
      = (z (ix2 r j) * c (ix2 r (Fin.ofNat 128 j.val)) + z (ix2 r (mate W j.val)) * s (ix2 r (Fin.ofNat 128 j.val)) : EReal) := by
  have hll := l.isLt
  have e1 : Fin.ofNat 128 j.val = l := Fin.ext (by show j.val % 128 = l.val; omega)
  rw [turn_apply, e1]
  pointwise
  refine congrArg₂ (fun a b : EReal => a * c (ix2 r l) + b * s (ix2 r l)) (congrArg z (at2 _ _ _ (Nat.zero_add _) hl.symm)) (congrArg z (at2 _ _ _ (Nat.zero_add _) ?_))
  have hW : (if j.val % 64 < 32 then j.val + 32 else j.val - 32) < W := by split_ifs <;> omega
  show o + (if l.val % 64 < 32 then l.val + 32 else l.val - 32) % 128 = (if j.val % 64 < 32 then j.val + 32 else j.val - 32) % W
  rw [Nat.mod_eq_of_lt hW]
  split_ifs <;> omega

/-- A turned group at an index. -/
theorem roped_apply (hi : (Sh n 128).Iotas .tc 32 [1]) (hr : (Sh n 128).Rotates 1 none) (h0 : (Sh n 512).Slices ![0, 0] (Sh n 128)) (h128 : (Sh n 512).Slices ![0, 128] (Sh n 128)) (h256 : (Sh n 512).Slices ![0, 256] (Sh n 128)) (h384 : (Sh n 512).Slices ![0, 384] (Sh n 128))
    (hc : Shape.Concatenates [Sh n 128, Sh n 128, Sh n 128, Sh n 128] (Sh n 512) 1) (c s : FVec Ideal (Sh n 128) .f32) (z : FVec Ideal (Sh n 512) .f32) (r : Fin n) (j : Fin 512) :
    roped hi hr h0 h128 h256 h384 hc c s z (ix2 r j) = (z (ix2 r j) * c (ix2 r (Fin.ofNat 128 j.val)) + z (ix2 r (mate 512 j.val)) * s (ix2 r (Fin.ofNat 128 j.val)) : EReal) := by
  have hj := j.isLt
  pointwise [roped]
  by_cases h1 : j.val < 128
  · rw [dif_pos h1]
    exact (congrArg _ (at2 _ _ _ rfl rfl)).trans <| quarter hi hr c s z 0 _ rfl (by decide) r j ⟨j.val, h1⟩ (by show j.val = 0 + j.val; omega)
  rw [dif_neg h1]
  by_cases h2 : j.val - 128 < 128
  · rw [dif_pos h2]
    exact (congrArg _ (at2 _ _ _ rfl rfl)).trans <| quarter hi hr c s z 128 _ rfl (by decide) r j ⟨j.val - 128, h2⟩ (by show j.val = 128 + (j.val - 128); omega)
  rw [dif_neg h2]
  by_cases h3 : j.val - 128 - 128 < 128
  · rw [dif_pos h3]
    exact (congrArg _ (at2 _ _ _ rfl rfl)).trans <| quarter hi hr c s z 256 _ rfl (by decide) r j ⟨j.val - 128 - 128, h3⟩ (by show j.val = 256 + (j.val - 128 - 128); omega)
  rw [dif_neg h3]
  exact (congrArg _ (at2 _ _ _ rfl rfl)).trans <| quarter hi hr c s z 384 _ rfl (by decide) r j ⟨j.val - 128 - 128 - 128, by omega⟩ (by show j.val = 384 + (j.val - 128 - 128 - 128); omega)

/-- A normed row at a feature. -/
def hid (x : (Sh n 1024).Idx → EReal) (g : Fin 1024 → EReal) (t : Fin n) (k : Fin 1024) : EReal :=
  x (ix2 t k) * Ideal.rsqrt (Ideal.div (∑ i : Fin 1024, x (ix2 t i) * x (ix2 t i)) (Ideal.ofBits .f32 0x44800000#32) + Ideal.ofBits .f32 0x358637BD#32) * g k

/-- The tail: one turned head, the scaled weights of the heads, and zeros. -/
def tail (hi : (Sh n 128).Iotas .tc 32 [1]) (hr : (Sh n 128).Rotates 1 none) (c s z : FVec Ideal (Sh n 128) .f32) : FVec Ideal (Sh n 128) .f32 :=
  select (cmpi .slt (iota .tc (Sh n 128) 32 [1] hi) (broadcast (Sh n 128) 64#32)) (turn hi hr c s z) (select (cmpi .slt (iota .tc (Sh n 128) 32 [1] hi) (broadcast (Sh n 128) 72#32))
    (mulf z (broadcast (Sh n 128) (Scalar.ofBits .f32 0x3D3504F3#32))) (broadcast (Sh n 128) (Scalar.ofBits .f32 0x00000000#32)))

/-- The lanes of the turned head. -/
theorem below_64 (l : Fin 128) : IntOp.cmpi CmpIPredicate.slt (BitVec.ofNat 32 l.val) 64#32 = BitVec.ofBool (decide (l.val < 64)) := by
  revert l
  decide +kernel

/-- The lanes below the padding. -/
theorem below_72 (l : Fin 128) : IntOp.cmpi CmpIPredicate.slt (BitVec.ofNat 32 l.val) 72#32 = BitVec.ofBool (decide (l.val < 72)) := by
  revert l
  decide +kernel

/-- The tail at an index. -/
theorem tail_apply (hi : (Sh n 128).Iotas .tc 32 [1]) (hr : (Sh n 128).Rotates 1 none) (c s z : FVec Ideal (Sh n 128) .f32) (r : Fin n) (l : Fin 128) : tail hi hr c s z (ix2 r l)
    = (if l.val < 64 then z (ix2 r l) * c (ix2 r l) + z (ix2 r (mate 128 l.val)) * s (ix2 r l)
      else if l.val < 72 then z (ix2 r l) * Ideal.ofBits .f32 0x3D3504F3#32 else 0 : EReal) := by
  have hl := l.isLt
  pointwise [tail]
  rw [below_64, turn_apply, below_72]
  by_cases h : l.val < 64
  · rw [if_pos h, decide_eq_true h]
    exact WordCmp.select_one _ _
  rw [if_neg h, decide_eq_false h]
  refine (WordCmp.select_zero _ _).trans ?_
  by_cases h' : l.val < 72
  · rw [if_pos h', decide_eq_true h']
    exact WordCmp.select_one _ _
  · rw [if_neg h', decide_eq_false h']
    exact WordCmp.select_zero _ _

/-- Four tables side by side, of which the first and the third agree and the second and the fourth. -/
theorem four_apply (A B : FVec Ideal (Sh n 32) .f32) (hc : Shape.Concatenates [Sh n 32, Sh n 32, Sh n 32, Sh n 32] (Sh n 128) 1) (t : Fin n) (l : Fin 128) :
    concatenate (Sh n 128) 1 [⟨Sh n 32, A⟩, ⟨Sh n 32, B⟩, ⟨Sh n 32, A⟩, ⟨Sh n 32, B⟩] hc (ix2 t l)
      = if l.val % 64 < 32 then A (ix2 t (Fin.ofNat 32 l.val)) else B (ix2 t (Fin.ofNat 32 l.val)) := by
  have hl := l.isLt
  pointwise
  by_cases h1 : l.val < 32
  · rw [dif_pos h1, if_pos (show l.val % 64 < 32 by omega)]; exact congrArg A (at2 _ _ _ rfl (by show l.val = l.val % 32; omega))
  rw [dif_neg h1]
  by_cases h2 : l.val - 32 < 32
  · rw [dif_pos h2, if_neg (show ¬ l.val % 64 < 32 by omega)]; exact congrArg B (at2 _ _ _ rfl (by show l.val - 32 = l.val % 32; omega))
  rw [dif_neg h2]
  by_cases h3 : l.val - 32 - 32 < 32
  · rw [dif_pos h3, if_pos (show l.val % 64 < 32 by omega)]; exact congrArg A (at2 _ _ _ rfl (by show l.val - 32 - 32 = l.val % 32; omega))
  rw [dif_neg h3, if_neg (show ¬ l.val % 64 < 32 by omega)]; exact congrArg B (at2 _ _ _ rfl (by show l.val - 32 - 32 - 32 = l.val % 32; omega))

/-- A weight, and zero past the last column. -/
def wAt {N : ℕ} (w : (Sh 1024 N).Idx → EReal) (k : Fin 1024) (j : ℕ) : EReal := if h : j < N then w (ix2 k ⟨j, h⟩) else 0

/-- The projection of a row at a column. -/
def row {N : ℕ} (x : (Sh n 1024).Idx → EReal) (g : (⟨1, ![1024]⟩ : Shape).Idx → EReal) (w : (Sh 1024 N).Idx → EReal) (t : Fin n) (j : ℕ) : EReal :=
  ∑ k : Fin 1024, hid x (fun k => g (ix1 k)) t k * wAt w k j

/-- A table of 32 lanes at a column. -/
def tab (T : (Sh n 32).Idx → EReal) (t : Fin n) (j : ℕ) : EReal := T (ix2 t (Fin.ofNat 32 j))

theorem tab_128 (T : (Sh n 32).Idx → EReal) (t : Fin n) (j : ℕ) : tab T t (j % 128) = tab T t j :=
  congrArg (fun u => T (ix2 t u)) (Fin.ext (by show j % 128 % 32 = j % 32; omega))
theorem tab_32 (T : (Sh n 32).Idx → EReal) (t : Fin n) (j : ℕ) : tab T t (j % 32) = tab T t j :=
  congrArg (fun u => T (ix2 t u)) (Fin.ext (Nat.mod_mod j 32))
theorem tab_lane (T : (Sh n 32).Idx → EReal) (t : Fin n) (i : Fin 32) : T (ix2 t i) = tab T t i.val :=
  congrArg (fun u => T (ix2 t u)) (Fin.ext (Nat.mod_eq_of_lt i.isLt).symm)

/-- A row turned by cosines and sines, at a column of a group. -/
def spun (C S R : ℕ → EReal) (o j : ℕ) : EReal :=
  R (o + j) * C j + R (o + if j % 64 < 32 then j + 32 else j - 32) * (if j % 64 < 32 then -S j else S j)

/-- A group of columns as an array. -/
def plainArr {N W : ℕ} (x : (Sh n 1024).Idx → EReal) (g : (⟨1, ![1024]⟩ : Shape).Idx → EReal) (w : (Sh 1024 N).Idx → EReal) (o : ℕ) : (Sh n W).Idx → EReal :=
  fun y => row x g w (y 0) (o + (y 1).val)
/-- A turned group of columns as an array. -/
def spunArr {N W : ℕ} (co si : (Sh n 32).Idx → EReal) (x : (Sh n 1024).Idx → EReal) (g : (⟨1, ![1024]⟩ : Shape).Idx → EReal) (w : (Sh 1024 N).Idx → EReal) (o : ℕ) :
    (Sh n W).Idx → EReal :=
  fun y => spun (tab co (y 0)) (tab si (y 0)) (row x g w (y 0)) o (y 1).val
/-- The last columns at a lane: a turned head, the scaled weights of the heads, zeros. -/
def last (C S R : ℕ → EReal) (l : ℕ) : EReal :=
  if l < 64 then spun C S R 4608 l else if l < 72 then R (4608 + l) * Ideal.ofBits .f32 0x3D3504F3#32 else 0
/-- The last columns as an array. -/
def tailArr {N : ℕ} (co si : (Sh n 32).Idx → EReal) (x : (Sh n 1024).Idx → EReal) (g : (⟨1, ![1024]⟩ : Shape).Idx → EReal) (w : (Sh 1024 N).Idx → EReal) :
    (Sh n 128).Idx → EReal :=
  fun y => last (tab co (y 0)) (tab si (y 0)) (row x g w (y 0)) (y 1).val

/-- A turned group of a row. -/
theorem roped_row (hi : (Sh n 128).Iotas .tc 32 [1]) (hr : (Sh n 128).Rotates 1 none) (h0 : (Sh n 512).Slices ![0, 0] (Sh n 128)) (h128 : (Sh n 512).Slices ![0, 128] (Sh n 128)) (h256 : (Sh n 512).Slices ![0, 256] (Sh n 128)) (h384 : (Sh n 512).Slices ![0, 384] (Sh n 128))
    (hc : Shape.Concatenates [Sh n 128, Sh n 128, Sh n 128, Sh n 128] (Sh n 512) 1) (c s : FVec Ideal (Sh n 128) .f32) (z : FVec Ideal (Sh n 512) .f32) (r : Fin n) (C S R : ℕ → EReal) (o : ℕ)
    (eC : ∀ l : Fin 128, c (ix2 r l) = C l.val) (eS : ∀ l : Fin 128, s (ix2 r l) = if l.val % 64 < 32 then -S l.val else S l.val)
    (ez : ∀ j : Fin 512, z (ix2 r j) = R (o + j.val)) (mC : ∀ j, C (j % 128) = C j) (mS : ∀ j, S (j % 128) = S j) (j : Fin 512) :
    roped hi hr h0 h128 h256 h384 hc c s z (ix2 r j) = spun C S R o j.val := by
  have hj := j.isLt
  rw [roped_apply, eC, eS, ez, ez]
  have e1 : (Fin.ofNat 128 j.val).val = j.val % 128 := rfl
  have e2 : (mate 512 j.val).val = if j.val % 64 < 32 then j.val + 32 else j.val - 32 := by
    show (if j.val % 64 < 32 then j.val + 32 else j.val - 32) % 512 = _
    split_ifs <;> omega
  have e5 : j.val % 128 % 64 = j.val % 64 := by omega
  rw [e1, e2, mC, mS, e5]
  rfl

/-- The last columns of a row. -/
theorem tail_row (hi : (Sh n 128).Iotas .tc 32 [1]) (hr : (Sh n 128).Rotates 1 none) (c s z : FVec Ideal (Sh n 128) .f32) (r : Fin n) (C S R : ℕ → EReal)
    (eC : ∀ l : Fin 128, c (ix2 r l) = C l.val) (eS : ∀ l : Fin 128, s (ix2 r l) = if l.val % 64 < 32 then -S l.val else S l.val)
    (ez : ∀ l : Fin 128, z (ix2 r l) = R (4608 + l.val)) (l : Fin 128) :
    tail hi hr c s z (ix2 r l) = last C S R l.val := by
  have hl := l.isLt
  unfold last
  rw [tail_apply, eC, eS, ez, ez]
  by_cases h : l.val < 64
  · have e2 : (mate 128 l.val).val = if l.val % 64 < 32 then l.val + 32 else l.val - 32 := by
      show (if l.val % 64 < 32 then l.val + 32 else l.val - 32) % 128 = _
      split_ifs <;> omega
    rw [if_pos h, if_pos h, e2]
    rfl
  · rw [if_neg h, if_neg h]

/-- A pair of halves turned by cosines and sines. -/
def pair (R C S : ℕ → EReal) (o j : ℕ) : EReal :=
  if j % 64 < 32 then R (o + j) * C (j % 32) - R (o + (j + 32)) * S (j % 32) else R (o + j) * C (j % 32) + R (o + (j - 32)) * S (j % 32)

theorem pair_lo (R C S : ℕ → EReal) (o j : ℕ) (h : j % 64 < 32) (a b c d : ℕ) (ha : a = j) (hb : b = j + 32) (hc : c = j % 32) (hd : d = j % 32) :
    R (o + a) * C c - R (o + b) * S d = pair R C S o j := by
  rw [pair, if_pos h, ha, hb, hc, hd]

theorem pair_hi (R C S : ℕ → EReal) (o j : ℕ) (h : ¬j % 64 < 32) (a b c d : ℕ) (ha : a = j) (hb : b = j - 32) (hc : c = j % 32) (hd : d = j % 32) :
    R (o + a) * C c + R (o + b) * S d = pair R C S o j := by
  rw [pair, if_neg h, ha, hb, hc, hd]

/-- A turned row is the pair of halves turned by the position's cosines and sines. -/
theorem pair_eq (C S R : ℕ → EReal) (o j : ℕ) (mC : ∀ j, C (j % 32) = C j) (mS : ∀ j, S (j % 32) = S j) : pair R C S o j = spun C S R o j := by
  unfold pair spun
  rw [mC, mS]
  by_cases h : j % 64 < 32
  · simp only [if_pos h]
    rw [mul_neg, sub_eq_add_neg]
  · simp only [if_neg h]

end Cert.Spin
-- ==== Proof.Turn.lean ====
/- The projection's body: a normed block, its product with a group of columns, and the turned group, each at an index. -/
module

public import proofs.«01_k».proof.Proof.Spin
public import proofs.«01_k».proof.Defs
public import proofs.«01_k».proof.Proof.Gen.Kernel2Ideal.Frame
public import Idealize.ShloMosaic.Lib.Pointwise

@[expose] public section

set_option maxRecDepth 16384

noncomputable section

namespace Cert.Kernel2Ideal.Turn

open Idealize.ShloMosaic Idealize.ShloMosaic.TcCoe Idealize.SL.Sem
open Cert.Kernel2Ideal Cert.Kernel2Ideal.Gen
open Cert.Spin (hid)

/-- Eight heads turned by their positions. -/
abbrev roped (c s : FVec Ideal S256x128 .f32) (z : FVec Ideal S256x512 .f32) : FVec Ideal S256x512 .f32 :=
  Spin.roped iota_S256x128_d1_w32 rotates_S256x128_d1 slices_S256x512_o0_0_S256x128 slices_S256x512_o0_128_S256x128
    slices_S256x512_o0_256_S256x128 slices_S256x512_o0_384_S256x128 concatenates_S256x128_S256x128_S256x128_S256x128_S256x512_d1 c s z

/-- The tail: one turned head, the scaled weights of the heads, and zeros. -/
abbrev tail (c s z : FVec Ideal S256x128 .f32) : FVec Ideal S256x128 .f32 := Spin.tail iota_S256x128_d1_w32 rotates_S256x128_d1 c s z

/-- The normed block. -/
theorem pay5_apply (x : Vec Ideal S256x1024 .f32) (g : Vec Ideal S1x1024 .f32) (r : Fin 256) (k : Fin 1024) :
    k0_pay5 x g (ix2 r k) = hid x (fun k => g (ix2 0 k)) r k := by
  pointwise [k0_pay5, hid]

/-- A group of columns. -/
theorem pay6_apply (x : Vec Ideal S256x1024 .f32) (g : Vec Ideal S1x1024 .f32) (w : Vec Ideal S1024x512 .bf16) (r : Fin 256) (j : Fin 512) :
    k0_pay6 x g w (ix2 r j) = ∑ k : Fin 1024, (k0_pay5 x g (ix2 r k) * w (ix2 k j) : EReal) := by
  pointwise [k0_pay6]

/-- A block's tail columns: the product with the last columns of the weights. -/
theorem pay39_apply (h : FVec Ideal S256x1024 .bf16) (w : Vec Ideal S1024x128 .bf16) (r : Fin 256) (j : Fin 128) :
    k0_pay39 h w (ix2 r j) = ∑ k : Fin 1024, (h (ix2 r k) * w (ix2 k j) : EReal) := by
  pointwise [k0_pay39]

/-- A store through the whole of a block leaves its payload. -/
theorem whole_512 (e : EltTy) (p : S256x512.Idx → Elt Ideal e) : View.canon [⟨r0_4, p⟩] = p := by
  funext y
  have h := View.canon_cons_emb (Val := Elt Ideal) (e := e) r0_4 p [] y
  rwa [show r0_4.emb y = y from funext fun a => Fin.ext (match a with
    | ⟨0, _⟩ => (by omega : 0 + 1 * (y 0).val = (y 0).val) | ⟨1, _⟩ => (by omega : 0 + 1 * (y 1).val = (y 1).val))] at h
theorem whole_128 (e : EltTy) (p : S256x128.Idx → Elt Ideal e) : View.canon [⟨r0_0, p⟩] = p := by
  funext y
  have h := View.canon_cons_emb (Val := Elt Ideal) (e := e) r0_0 p [] y
  rwa [show r0_0.emb y = y from funext fun a => Fin.ext (match a with
    | ⟨0, _⟩ => (by omega : 0 + 1 * (y 0).val = (y 0).val) | ⟨1, _⟩ => (by omega : 0 + 1 * (y 1).val = (y 1).val))] at h

end Cert.Kernel2Ideal.Turn
-- ==== Proof.Tables.lean ====
/- What the projection's launch finds in its arrays: the tables, the padded weights and the gain. -/
module

public import proofs.«01_k».proof.Defs
public import proofs.«01_k».proof.Proof.Gen.Kernel2Ideal.Frame
public import proofs.«01_k».proof.Proof.Gen.Reference2Ideal.Run
public import Idealize.ShloMosaic.Lib.Pointwise

@[expose] public section

set_option maxRecDepth 16384

noncomputable section

namespace Cert.Kernel2Ideal.Turn

open Idealize.ShloMosaic Idealize.ShloMosaic.TcCoe Idealize.SL.Sem Idealize.ShloMosaic.StableHlo
open Cert.Kernel2Ideal Cert.Kernel2Ideal.Gen

variable (m : (ℓ : Loc nD τ sig) → Buf (Elt Ideal) ℓ)

/-- The angles of the turn: the position times the frequency. -/
def angle : FVec Ideal S16384x32 .f32 :=
  mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The table of cosines. -/
theorem V_cos (c : Dev nD) : V m c main_v19 = concatenate S16384x128 1 [⟨S16384x32, Host.cos angle⟩, ⟨S16384x32, Host.cos angle⟩, ⟨S16384x32, Host.cos angle⟩, ⟨S16384x32, Host.cos angle⟩] concatenates_S16384x32_S16384x32_S16384x32_S16384x32_S16384x128_d1 := by
  unfold V
  simp only [hostOps0, hostOps0_1, hostOps0_2, List.flatten_cons, List.flatten_nil, List.append_nil, List.cons_append, List.nil_append]
  after_results_simp
  all_goals rfl

/-- The table of sines, the first half of each head negated. -/
theorem V_sin (c : Dev nD) : V m c main_v22 = concatenate S16384x128 1 [⟨S16384x32, Host.negf (Host.sin angle)⟩, ⟨S16384x32, Host.sin angle⟩, ⟨S16384x32, Host.negf (Host.sin angle)⟩, ⟨S16384x32, Host.sin angle⟩] concatenates_S16384x32_S16384x32_S16384x32_S16384x32_S16384x128_d1 := by
  unfold V
  simp only [hostOps0, hostOps0_1, hostOps0_2, List.flatten_cons, List.flatten_nil, List.append_nil, List.cons_append, List.nil_append]
  after_results_simp
  all_goals rfl

/-- The weights, padded. -/
theorem V_w (c : Dev nD) : V m c main_v24 = (truncf .bf16 (pad S1024x4736 ![0, 0] ![0, 56] ![0, 0] (m ((c.tc : Thread nD τ).loc main_arg2) : FVec Ideal S1024x4680 .f32) (sitofp .f32 (constantI S_ 32 0#32) : FVec Ideal S_ .f32) pads_S1024x4680_S1024x4736_000_0560 h_S_) bitsLt_bf16_f32 : FVec Ideal S1024x4736 .bf16) := by
  unfold V
  simp only [hostOps0, hostOps0_1, hostOps0_2, List.flatten_cons, List.flatten_nil, List.append_nil, List.cons_append, List.nil_append]
  after_results_simp
  all_goals rfl

/-- The gain as a row. -/
theorem V_g (c : Dev nD) : V m c main_v25 = (shapeCast S1x1024 (m ((c.tc : Thread nD τ).loc main_arg1) : FVec Ideal S1024 .f32) shapeCasts_S1024_S1x1024 : FVec Ideal S1x1024 .f32) := by
  unfold V
  simp only [hostOps0, hostOps0_1, hostOps0_2, List.flatten_cons, List.flatten_nil, List.append_nil, List.cons_append, List.nil_append]
  after_results_simp
  all_goals rfl

end Cert.Kernel2Ideal.Turn
-- ==== Proof.Rows.lean ====
/- The projection's blocks over the arguments: each group of columns of a block is the same group of the whole result. -/
module

public import proofs.«01_k».proof.Proof.Turn
public import proofs.«01_k».proof.Proof.Tables

@[expose] public section

set_option maxRecDepth 16384

noncomputable section

namespace Cert.Kernel2Ideal.Turn

open Idealize.ShloMosaic Idealize.ShloMosaic.TcCoe Idealize.SL.Sem
open Cert.Kernel2Ideal Cert.Kernel2Ideal.Gen
open Cert.Spin (hid wAt row tab tab_128 spun four_apply roped_row tail_row)

/-- The cosine and the sine of a position at a column. -/
abbrev cosAt : Fin 16384 → ℕ → EReal := tab (Host.cos (F := Ideal) angle)
abbrev sinAt : Fin 16384 → ℕ → EReal := tab (Host.sin (F := Ideal) angle)

/-- A group of columns as an array. -/
abbrev plainArr (x : S16384x1024.Idx → EReal) (g : S1024.Idx → EReal) (w : S1024x4680.Idx → EReal) (o : ℕ) : S16384x512.Idx → EReal :=
  Spin.plainArr x g w o
/-- A turned group of columns as an array. -/
abbrev spunArr (x : S16384x1024.Idx → EReal) (g : S1024.Idx → EReal) (w : S1024x4680.Idx → EReal) (o : ℕ) : S16384x512.Idx → EReal :=
  Spin.spunArr (Host.cos (F := Ideal) angle) (Host.sin (F := Ideal) angle) x g w o
/-- The last columns as an array. -/
abbrev tailArr (x : S16384x1024.Idx → EReal) (g : S1024.Idx → EReal) (w : S1024x4680.Idx → EReal) : S16384x128.Idx → EReal :=
  Spin.tailArr (Host.cos (F := Ideal) angle) (Host.sin (F := Ideal) angle) x g w

variable (m : (ℓ : Loc nD τ sig) → Buf (Elt Ideal) ℓ)

/-- The three arguments. -/
abbrev argX (c : Dev nD) : S16384x1024.Idx → EReal := m ((c.tc : Thread nD τ).loc main_arg0)
abbrev argG (c : Dev nD) : S1024.Idx → EReal := m ((c.tc : Thread nD τ).loc main_arg1)
abbrev argW (c : Dev nD) : S1024x4680.Idx → EReal := m ((c.tc : Thread nD τ).loc main_arg2)

theorem index_in : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0])

/-- A row of a block in the whole array. -/
def at_ (t : Fin cfg0.N) (r : Fin 256) : Fin 16384 := Fin.ofNat 16384 (256 * t.val + r.val)

theorem at_val (t : Fin cfg0.N) (r : Fin 256) : (at_ t r).val = 256 * t.val + r.val := by
  have hN : t.val < 64 := lt_of_lt_of_eq t.isLt (show cfg0.N = 64 from N_0)
  have hr := r.isLt
  show (256 * t.val + r.val) % 16384 = _
  omega

theorem blk_x (c : Dev nD) (t : Fin cfg0.N) (r : Fin 256) (k : Fin 1024) :
    View.ld (iblk m c 0 t) r0_1 (ix2 r k) = argX m c (ix2 (at_ t r) k) := by
  have e : V m c main_arg0 = argX m c := V_main_arg0 m c
  refine Eq.trans ?_ (congrFun e (ix2 (at_ t r) k))
  refine congrArg (V m c main_arg0) (funext fun a => Fin.ext ?_)
  have hi := (index_in t).1
  match a with
  | ⟨0, _⟩ =>
    have e : win0_0.index t 0 = t.val := by rw [hi]; rfl
    exact (by rw [e, at_val]; omega : win0_0.index t 0 * 256 + 1 * (0 + 1 * r.val) = (at_ t r).val)
  | ⟨1, _⟩ =>
    have e : win0_0.index t 1 = 0 := by rw [hi]; rfl
    exact (by rw [e]; omega : win0_0.index t 1 * 1024 + 1 * (0 + 1 * k.val) = k.val)

theorem blk_g (c : Dev nD) (t : Fin cfg0.N) (k : Fin 1024) :
    View.ld (iblk m c 1 t) r0_2 (ix2 0 k) = argG m c (ix1 k) := by
  have e : V m c main_v25 (ix2 0 k) = argG m c (ix1 k) := by
    rw [V_g]
    pointwise
  refine Eq.trans ?_ e
  refine congrArg (V m c main_v25) (funext fun a => Fin.ext ?_)
  have hi := (index_in t).2.1
  match a with
  | ⟨0, _⟩ =>
    have e : win0_1.index t 0 = 0 := by rw [hi]; rfl
    exact (by rw [e] : win0_1.index t 0 * 1 + 1 * (0 + 1 * 0) = 0)
  | ⟨1, _⟩ =>
    have e : win0_1.index t 1 = 0 := by rw [hi]; rfl
    exact (by rw [e]; omega : win0_1.index t 1 * 1024 + 1 * (0 + 1 * k.val) = k.val)

theorem padded (w : FVec Ideal S1024x4680 .f32) (z : FVec Ideal S_ .f32) (hz : ∀ i, z i = (0 : EReal)) (k : Fin 1024) (j : Fin 4736) :
    pad S1024x4736 ![0, 0] ![0, 56] ![0, 0] w z pads_S1024x4680_S1024x4736_000_0560 h_S_ (ix2 k j) = wAt w k j.val := by
  have hk := k.isLt
  unfold wAt
  pointwise
  by_cases h : j.val < 4680
  · rw [dif_pos h, dif_pos h]
  · rw [dif_neg h, dif_neg h]
    exact hz _

theorem weight (c : Dev nD) (k : Fin 1024) (j : Fin 4736) : V m c main_v24 (ix2 k j) = wAt (argW m c) k j.val := by
  rw [V_w]
  refine padded (argW m c) _ (fun i => ?_) k j
  show (((0#32 : BitVec 32).toInt : ℝ) : EReal) = 0
  simp

theorem blk_w (c : Dev nD) (t : Fin cfg0.N) (o n : ℕ) (inb) (k : Fin 1024) (j : Fin n) :
    View.ld (iblk m c 2 t) (Rect.unit (s := S1024x4736) ![0, o] (⟨2, ![1024, n]⟩ : Shape).size inb) (ix2 k j) = wAt (argW m c) k (o + j.val) := by
  have hb : o + n ≤ 4736 := inb 1
  have hj := j.isLt
  refine Eq.trans ?_ (weight m c k ⟨o + j.val, by omega⟩)
  refine congrArg (V m c main_v24) (funext fun a => Fin.ext ?_)
  have hi := (index_in t).2.2.1
  match a with
  | ⟨0, _⟩ =>
    have e : win0_2.index t 0 = 0 := by rw [hi]; rfl
    exact (by rw [e]; omega : win0_2.index t 0 * 1024 + 1 * (0 + 1 * k.val) = k.val)
  | ⟨1, _⟩ =>
    have e : win0_2.index t 1 = 0 := by rw [hi]; rfl
    exact (by rw [e]; omega : win0_2.index t 1 * 4736 + 1 * (o + 1 * j.val) = o + j.val)

theorem table_cos (c : Dev nD) (t : Fin 16384) (l : Fin 128) : V m c main_v19 (ix2 t l) = cosAt t l.val := by
  rw [V_cos]
  exact (four_apply _ _ _ t l).trans (ite_self _)

theorem table_sin (c : Dev nD) (t : Fin 16384) (l : Fin 128) :
    V m c main_v22 (ix2 t l) = (if l.val % 64 < 32 then -sinAt t l.val else sinAt t l.val : EReal) := by
  rw [V_sin]
  exact four_apply _ _ _ t l

theorem blk_c (c : Dev nD) (t : Fin cfg0.N) (r : Fin 256) (l : Fin 128) :
    k0_pay3 (View.ld (iblk m c 3 t) r0_0) (ix2 r l) = cosAt (at_ t r) l.val := by
  refine Eq.trans ?_ (table_cos m c (at_ t r) l)
  pointwise [k0_pay3]
  refine congrArg (V m c main_v19) (funext fun a => Fin.ext ?_)
  have hi := (index_in t).2.2.2.1
  match a with
  | ⟨0, _⟩ =>
    have e : win0_3.index t 0 = t.val := by rw [hi]; rfl
    exact (by rw [e, at_val]; omega : win0_3.index t 0 * 256 + 1 * r.val = (at_ t r).val)
  | ⟨1, _⟩ =>
    have e : win0_3.index t 1 = 0 := by rw [hi]; rfl
    exact (by rw [e]; omega : win0_3.index t 1 * 128 + 1 * l.val = l.val)

theorem blk_s (c : Dev nD) (t : Fin cfg0.N) (r : Fin 256) (l : Fin 128) :
    k0_pay4 (View.ld (iblk m c 4 t) r0_0) (ix2 r l) = (if l.val % 64 < 32 then -sinAt (at_ t r) l.val else sinAt (at_ t r) l.val : EReal) := by
  refine Eq.trans ?_ (table_sin m c (at_ t r) l)
  pointwise [k0_pay4]
  refine congrArg (V m c main_v22) (funext fun a => Fin.ext ?_)
  have hi := (index_in t).2.2.2.2
  match a with
  | ⟨0, _⟩ =>
    have e : win0_4.index t 0 = t.val := by rw [hi]; rfl
    exact (by rw [e, at_val]; omega : win0_4.index t 0 * 256 + 1 * r.val = (at_ t r).val)
  | ⟨1, _⟩ =>
    have e : win0_4.index t 1 = 0 := by rw [hi]; rfl
    exact (by rw [e]; omega : win0_4.index t 1 * 128 + 1 * l.val = l.val)

/-- A normed block over the arguments. -/
theorem hid_block (c : Dev nD) (t : Fin cfg0.N) (r : Fin 256) (k : Fin 1024) :
    k0_pay5 (View.ld (iblk m c 0 t) r0_1) (View.ld (iblk m c 1 t) r0_2) (ix2 r k) = hid (argX m c) (fun k => argG m c (ix1 k)) (at_ t r) k := by
  refine (pay5_apply _ _ r k).trans ?_
  unfold hid
  simp only [blk_x, blk_g]

/-- A group of columns of a block. -/
theorem plain_block (c : Dev nD) (t : Fin cfg0.N) (o : ℕ) (inb) (r : Fin 256) (j : Fin 512) :
    k0_pay6 (View.ld (iblk m c 0 t) r0_1) (View.ld (iblk m c 1 t) r0_2)
      (View.ld (iblk m c 2 t) (Rect.unit (s := S1024x4736) ![0, o] S1024x512.size inb)) (ix2 r j)
      = row (argX m c) (argG m c) (argW m c) (at_ t r) (o + j.val) := by
  refine (pay6_apply _ _ _ r j).trans (Finset.sum_congr rfl fun k _ => ?_)
  rw [hid_block]
  exact congrArg _ (blk_w m c t o 512 inb k j)

/-- A turned group of columns of a block. -/
theorem spun_block (c : Dev nD) (t : Fin cfg0.N) (o : ℕ) (inb) (r : Fin 256) (j : Fin 512) :
    roped (k0_pay3 (View.ld (iblk m c 3 t) r0_0)) (k0_pay4 (View.ld (iblk m c 4 t) r0_0))
      (k0_pay6 (View.ld (iblk m c 0 t) r0_1) (View.ld (iblk m c 1 t) r0_2)
        (View.ld (iblk m c 2 t) (Rect.unit (s := S1024x4736) ![0, o] S1024x512.size inb))) (ix2 r j)
      = spun (cosAt (at_ t r)) (sinAt (at_ t r)) (row (argX m c) (argG m c) (argW m c) (at_ t r)) o j.val :=
  roped_row _ _ _ _ _ _ _ _ _ _ r _ _ _ o (blk_c m c t r) (blk_s m c t r) (plain_block m c t o inb r) (tab_128 _ _) (tab_128 _ _) j

/-- The tail of a block. -/
theorem tail_block (c : Dev nD) (t : Fin cfg0.N) (r : Fin 256) (j : Fin 128) :
    tail (k0_pay3 (View.ld (iblk m c 3 t) r0_0)) (k0_pay4 (View.ld (iblk m c 4 t) r0_0))
      (k0_pay39 (k0_pay5 (View.ld (iblk m c 0 t) r0_1) (View.ld (iblk m c 1 t) r0_2)) (View.ld (iblk m c 2 t) r0_13)) (ix2 r j)
      = tailArr (argX m c) (argG m c) (argW m c) (ix2 (at_ t r) j) := by
  have hp : ∀ j : Fin 128, k0_pay39 (k0_pay5 (View.ld (iblk m c 0 t) r0_1) (View.ld (iblk m c 1 t) r0_2)) (View.ld (iblk m c 2 t) r0_13) (ix2 r j)
      = row (argX m c) (argG m c) (argW m c) (at_ t r) (4608 + j.val) := by
    intro j
    refine (pay39_apply _ _ r j).trans (Finset.sum_congr rfl fun k _ => ?_)
    rw [hid_block]
    exact congrArg _ (blk_w m c t 4608 128 _ k j)
  exact tail_row _ _ _ _ _ r _ _ _ (blk_c m c t r) (blk_s m c t r) hp j

end Cert.Kernel2Ideal.Turn
-- ==== Proof.ProjRun.lean ====
/- The projection's launch leaves the projected groups of columns in its output arrays. -/
module

public import proofs.«01_k».proof.Proof.Rows
public import proofs.«01_k».proof.Proof.Gen.Kernel2Ideal.Value
public import Idealize.ShloMosaic.Lib.Pipeline.ValueKit

@[expose] public section

set_option maxRecDepth 16384

noncomputable section

namespace Cert.Kernel2Ideal.Turn

open Idealize.ShloMosaic Idealize.ShloMosaic.TcCoe Idealize.SL.Sem
open Cert.Kernel2Ideal Cert.Kernel2Ideal.Gen

variable (m : (ℓ : Loc nD τ sig) → Buf (Elt Ideal) ℓ)

/-- Every output's block at a point is the point's rows. -/
theorem index_out : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0] :=
  (by decide +kernel : ∀ t : Fin grid0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0])

/-- An index whose coordinates are a block's rows and its column. -/
theorem spot (t : Fin cfg0.N) (n : ℕ) (i : Fin 2 → ℕ) (hi : i = ![t.val, 0]) (r : Fin 256) (j : Fin n) (z : Shape.Idx ⟨2, ![16384, n]⟩)
    (h0 : (z 0).val = i 0 * 256 + 1 * r.val) (h1 : (z 1).val = i 1 * n + 1 * j.val) : z = ix2 (at_ t r) j := by
  have e0 : i 0 = t.val := by rw [hi]; rfl
  have e1 : i 1 = 0 := by rw [hi]; rfl
  rw [e0] at h0
  rw [e1] at h1
  funext a
  match a with
  | ⟨0, _⟩ => exact Fin.ext ((h0.trans (by omega)).trans (at_val t r).symm)
  | ⟨1, _⟩ => exact Fin.ext (h1.trans (by show 0 * n + 1 * j.val = j.val; omega))

/-- A stored group of columns is the whole array's. -/
theorem plain_spot (c : Dev nD) (t : Fin cfg0.N) (o : ℕ) (inb) (i : Fin 2 → ℕ) (hi : i = ![t.val, 0]) (y : S256x512.Idx) (z : S16384x512.Idx)
    (h0 : (z 0).val = i 0 * 256 + 1 * (y 0).val) (h1 : (z 1).val = i 1 * 512 + 1 * (y 1).val) :
    k0_pay6 (View.ld (iblk m c 0 t) r0_1) (View.ld (iblk m c 1 t) r0_2)
      (View.ld (iblk m c 2 t) (Rect.unit (s := S1024x4736) ![0, o] S1024x512.size inb)) y
      = plainArr (argX m c) (argG m c) (argW m c) o z := by
  rw [spot t 512 i hi (y 0) (y 1) z h0 h1, show y = ix2 (y 0) (y 1) from eq_ix2 y]
  exact plain_block m c t o inb (y 0) (y 1)

/-- A stored turned group of columns is the whole array's. -/
theorem spun_spot (c : Dev nD) (t : Fin cfg0.N) (o : ℕ) (inb) (i : Fin 2 → ℕ) (hi : i = ![t.val, 0]) (y : S256x512.Idx) (z : S16384x512.Idx)
    (h0 : (z 0).val = i 0 * 256 + 1 * (y 0).val) (h1 : (z 1).val = i 1 * 512 + 1 * (y 1).val) :
    roped (k0_pay3 (View.ld (iblk m c 3 t) r0_0)) (k0_pay4 (View.ld (iblk m c 4 t) r0_0))
      (k0_pay6 (View.ld (iblk m c 0 t) r0_1) (View.ld (iblk m c 1 t) r0_2)
        (View.ld (iblk m c 2 t) (Rect.unit (s := S1024x4736) ![0, o] S1024x512.size inb))) y
      = spunArr (argX m c) (argG m c) (argW m c) o z := by
  rw [spot t 512 i hi (y 0) (y 1) z h0 h1, show y = ix2 (y 0) (y 1) from eq_ix2 y]
  exact spun_block m c t o inb (y 0) (y 1)

/-- The stored tail is the whole array's. -/
theorem tail_spot (c : Dev nD) (t : Fin cfg0.N) (i : Fin 2 → ℕ) (hi : i = ![t.val, 0]) (y : S256x128.Idx) (z : S16384x128.Idx)
    (h0 : (z 0).val = i 0 * 256 + 1 * (y 0).val) (h1 : (z 1).val = i 1 * 128 + 1 * (y 1).val) :
    tail (k0_pay3 (View.ld (iblk m c 3 t) r0_0)) (k0_pay4 (View.ld (iblk m c 4 t) r0_0))
      (k0_pay39 (k0_pay5 (View.ld (iblk m c 0 t) r0_1) (View.ld (iblk m c 1 t) r0_2)) (View.ld (iblk m c 2 t) r0_13)) y
      = tailArr (argX m c) (argG m c) (argW m c) z := by
  rw [spot t 128 i hi (y 0) (y 1) z h0 h1, show y = ix2 (y 0) (y 1) from eq_ix2 y]
  exact tail_block m c t (y 0) (y 1)

theorem final_5 (c : Dev nD) : (dats m 0 c).arrAt 5 cfg0.N = spunArr (argX m c) (argG m c) (argW m c) 0 := by
  refine (dats m 0 c).arrAt_eq_of_covers 5 _ (by decide +kernel) fun t _ y => ?_
  exact (congrFun (Value.flushed5 m c t) y).trans ((congrFun (whole_512 .f32 _) y).trans (spun_spot m c t 0 _ _ (index_out t).1 y _ rfl rfl))

theorem final_6 (c : Dev nD) : (dats m 0 c).arrAt 6 cfg0.N = spunArr (argX m c) (argG m c) (argW m c) 512 := by
  refine (dats m 0 c).arrAt_eq_of_covers 6 _ (by decide +kernel) fun t _ y => ?_
  exact (congrFun (Value.flushed6 m c t) y).trans ((congrFun (whole_512 .f32 _) y).trans (spun_spot m c t 512 _ _ (index_out t).2.1 y _ rfl rfl))

theorem final_7 (c : Dev nD) : (dats m 0 c).arrAt 7 cfg0.N = spunArr (argX m c) (argG m c) (argW m c) 512 := by
  refine (dats m 0 c).arrAt_eq_of_covers 7 _ (by decide +kernel) fun t _ y => ?_
  exact (congrFun (Value.flushed7 m c t) y).trans ((congrFun (whole_512 .bf16 _) y).trans (spun_spot m c t 512 _ _ (index_out t).2.2.1 y _ rfl rfl))

theorem final_8 (c : Dev nD) : (dats m 0 c).arrAt 8 cfg0.N = plainArr (argX m c) (argG m c) (argW m c) 1024 := by
  refine (dats m 0 c).arrAt_eq_of_covers 8 _ (by decide +kernel) fun t _ y => ?_
  exact (congrFun (Value.flushed8 m c t) y).trans ((congrFun (whole_512 .f32 _) y).trans (plain_spot m c t 1024 _ _ (index_out t).2.2.2.1 y _ rfl rfl))

theorem final_9 (c : Dev nD) : (dats m 0 c).arrAt 9 cfg0.N = plainArr (argX m c) (argG m c) (argW m c) 1024 := by
  refine (dats m 0 c).arrAt_eq_of_covers 9 _ (by decide +kernel) fun t _ y => ?_
  exact (congrFun (Value.flushed9 m c t) y).trans ((congrFun (whole_512 .bf16 _) y).trans (plain_spot m c t 1024 _ _ (index_out t).2.2.2.2.1 y _ rfl rfl))

theorem final_10 (c : Dev nD) : (dats m 0 c).arrAt 10 cfg0.N = plainArr (argX m c) (argG m c) (argW m c) 1536 := by
  refine (dats m 0 c).arrAt_eq_of_covers 10 _ (by decide +kernel) fun t _ y => ?_
  exact (congrFun (Value.flushed10 m c t) y).trans ((congrFun (whole_512 .f32 _) y).trans (plain_spot m c t 1536 _ _ (index_out t).2.2.2.2.2.1 y _ rfl rfl))

theorem final_11 (c : Dev nD) : (dats m 0 c).arrAt 11 cfg0.N = spunArr (argX m c) (argG m c) (argW m c) 2048 := by
  refine (dats m 0 c).arrAt_eq_of_covers 11 _ (by decide +kernel) fun t _ y => ?_
  exact (congrFun (Value.flushed11 m c t) y).trans ((congrFun (whole_512 .f32 _) y).trans (spun_spot m c t 2048 _ _ (index_out t).2.2.2.2.2.2.1 y _ rfl rfl))

theorem final_12 (c : Dev nD) : (dats m 0 c).arrAt 12 cfg0.N = spunArr (argX m c) (argG m c) (argW m c) 2560 := by
  refine (dats m 0 c).arrAt_eq_of_covers 12 _ (by decide +kernel) fun t _ y => ?_
  exact (congrFun (Value.flushed12 m c t) y).trans ((congrFun (whole_512 .f32 _) y).trans (spun_spot m c t 2560 _ _ (index_out t).2.2.2.2.2.2.2.1 y _ rfl rfl))

theorem final_13 (c : Dev nD) : (dats m 0 c).arrAt 13 cfg0.N = spunArr (argX m c) (argG m c) (argW m c) 2560 := by
  refine (dats m 0 c).arrAt_eq_of_covers 13 _ (by decide +kernel) fun t _ y => ?_
  exact (congrFun (Value.flushed13 m c t) y).trans ((congrFun (whole_512 .bf16 _) y).trans (spun_spot m c t 2560 _ _ (index_out t).2.2.2.2.2.2.2.2.1 y _ rfl rfl))

theorem final_14 (c : Dev nD) : (dats m 0 c).arrAt 14 cfg0.N = plainArr (argX m c) (argG m c) (argW m c) 3072 := by
  refine (dats m 0 c).arrAt_eq_of_covers 14 _ (by decide +kernel) fun t _ y => ?_
  exact (congrFun (Value.flushed14 m c t) y).trans ((congrFun (whole_512 .f32 _) y).trans (plain_spot m c t 3072 _ _ (index_out t).2.2.2.2.2.2.2.2.2.1 y _ rfl rfl))

theorem final_15 (c : Dev nD) : (dats m 0 c).arrAt 15 cfg0.N = plainArr (argX m c) (argG m c) (argW m c) 3072 := by
  refine (dats m 0 c).arrAt_eq_of_covers 15 _ (by decide +kernel) fun t _ y => ?_
  exact (congrFun (Value.flushed15 m c t) y).trans ((congrFun (whole_512 .bf16 _) y).trans (plain_spot m c t 3072 _ _ (index_out t).2.2.2.2.2.2.2.2.2.2.1 y _ rfl rfl))

theorem final_16 (c : Dev nD) : (dats m 0 c).arrAt 16 cfg0.N = plainArr (argX m c) (argG m c) (argW m c) 3584 := by
  refine (dats m 0 c).arrAt_eq_of_covers 16 _ (by decide +kernel) fun t _ y => ?_
  exact (congrFun (Value.flushed16 m c t) y).trans ((congrFun (whole_512 .f32 _) y).trans (plain_spot m c t 3584 _ _ (index_out t).2.2.2.2.2.2.2.2.2.2.2.1 y _ rfl rfl))

theorem final_17 (c : Dev nD) : (dats m 0 c).arrAt 17 cfg0.N = spunArr (argX m c) (argG m c) (argW m c) 4096 := by
  refine (dats m 0 c).arrAt_eq_of_covers 17 _ (by decide +kernel) fun t _ y => ?_
  exact (congrFun (Value.flushed17 m c t) y).trans ((congrFun (whole_512 .f32 _) y).trans (spun_spot m c t 4096 _ _ (index_out t).2.2.2.2.2.2.2.2.2.2.2.2.1 y _ rfl rfl))

theorem final_18 (c : Dev nD) : (dats m 0 c).arrAt 18 cfg0.N = tailArr (argX m c) (argG m c) (argW m c) := by
  refine (dats m 0 c).arrAt_eq_of_covers 18 _ (by decide +kernel) fun t _ y => ?_
  exact (congrFun (Value.flushed18 m c t) y).trans ((congrFun (whole_128 .f32 _) y).trans (tail_spot m c t _ (index_out t).2.2.2.2.2.2.2.2.2.2.2.2.2.1 y _ rfl rfl))

theorem final_19 (c : Dev nD) : (dats m 0 c).arrAt 19 cfg0.N = tailArr (argX m c) (argG m c) (argW m c) := by
  refine (dats m 0 c).arrAt_eq_of_covers 19 _ (by decide +kernel) fun t _ y => ?_
  exact (congrFun (Value.flushed19 m c t) y).trans ((congrFun (whole_128 .bf16 _) y).trans (tail_spot m c t _ (index_out t).2.2.2.2.2.2.2.2.2.2.2.2.2.2 y _ rfl rfl))

/-- The kernel's results are the projected groups of columns of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v26_0) = spunArr (argX m c) (argG m c) (argW m c) 0
      ∧ r.2.mem ((c.tc : Thread nD τ).loc main_v26_1) = spunArr (argX m c) (argG m c) (argW m c) 512
      ∧ r.2.mem ((c.tc : Thread nD τ).loc main_v26_2) = spunArr (argX m c) (argG m c) (argW m c) 512
      ∧ r.2.mem ((c.tc : Thread nD τ).loc main_v26_3) = plainArr (argX m c) (argG m c) (argW m c) 1024
      ∧ r.2.mem ((c.tc : Thread nD τ).loc main_v26_4) = plainArr (argX m c) (argG m c) (argW m c) 1024
      ∧ r.2.mem ((c.tc : Thread nD τ).loc main_v26_5) = plainArr (argX m c) (argG m c) (argW m c) 1536
      ∧ r.2.mem ((c.tc : Thread nD τ).loc main_v26_6) = spunArr (argX m c) (argG m c) (argW m c) 2048
      ∧ r.2.mem ((c.tc : Thread nD τ).loc main_v26_7) = spunArr (argX m c) (argG m c) (argW m c) 2560
      ∧ r.2.mem ((c.tc : Thread nD τ).loc main_v26_8) = spunArr (argX m c) (argG m c) (argW m c) 2560
      ∧ r.2.mem ((c.tc : Thread nD τ).loc main_v26_9) = plainArr (argX m c) (argG m c) (argW m c) 3072
      ∧ r.2.mem ((c.tc : Thread nD τ).loc main_v26_10) = plainArr (argX m c) (argG m c) (argW m c) 3072
      ∧ r.2.mem ((c.tc : Thread nD τ).loc main_v26_11) = plainArr (argX m c) (argG m c) (argW m c) 3584
      ∧ r.2.mem ((c.tc : Thread nD τ).loc main_v26_12) = spunArr (argX m c) (argG m c) (argW m c) 4096
      ∧ r.2.mem ((c.tc : Thread nD τ).loc main_v26_13) = tailArr (argX m c) (argG m c) (argW m c)
      ∧ r.2.mem ((c.tc : Thread nD τ).loc main_v26_14) = tailArr (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9, h10, h11, h12, h13, h14, hargs⟩ := h c
    exact ⟨h0.trans (final_5 m c), h1.trans (final_6 m c), h2.trans (final_7 m c), h3.trans (final_8 m c), h4.trans (final_9 m c), h5.trans (final_10 m c), h6.trans (final_11 m c), h7.trans (final_12 m c), h8.trans (final_13 m c), h9.trans (final_14 m c), h10.trans (final_15 m c), h11.trans (final_16 m c), h12.trans (final_17 m c), h13.trans (final_18 m c), h14.trans (final_19 m c), hargs⟩)
    (Value.run_blocks m ρ)

end Cert.Kernel2Ideal.Turn
-- ==== Proof.RefProj.lean ====
/- The reference's projection at an index. -/
module

public import proofs.«01_k».proof.Proof.Rows
public import proofs.«01_k».proof.Proof.Gen.Reference2Ideal.Run

@[expose] public section

set_option maxRecDepth 16384

noncomputable section

namespace Cert.Reference2Ideal.Turn

open Idealize.ShloMosaic Idealize.ShloMosaic.TcCoe Idealize.SL.Sem
open Cert.Reference2Ideal Cert.Reference2Ideal.Gen
open Cert.Kernel2Ideal.Turn (cosAt sinAt plainArr spunArr tailArr angle)
open Cert.Spin (hid wAt row tab tab_32 tab_lane pair pair_lo pair_hi pair_eq)

/-- The projection of every row. -/
def proj (x : FVec Ideal S16384x1024 .f32) (g : FVec Ideal S1024 .f32) (w : FVec Ideal S1024x4680 .f32) : FVec Ideal S16384x4680 .f32 :=
  Host.dotGeneral dot_S16384x1024_S1024x4680_S16384x4680_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem proj_apply (x : FVec Ideal S16384x1024 .f32) (g : FVec Ideal S1024 .f32) (w : FVec Ideal S1024x4680 .f32) (t : Fin 16384) (j : Fin 4680) :
    proj x g w (ix2 t j) = row x g w t j.val := by
  have hj := j.isLt
  unfold row hid wAt
  pointwise [proj]

/-- Eight heads turned by their positions. -/
def turned (z : FVec Ideal S16384x8x64 .f32) (co si : FVec Ideal S16384x32 .f32) : FVec Ideal S16384x512 .f32 :=
  shapeCast _ (concatenate S16384x8x64 2 [⟨S16384x8x32, (subf (mulf (extractStridedSlice S16384x8x32 ![0, 0, 0] z slices_S16384x8x64_S16384x8x32_0_0_0) (broadcastInDim S16384x8x32 ![0, 1, 2] bcast_S16384x1x32_S16384x8x32_0_1_2 (broadcastInDim S16384x1x32 ![0, 2] bcast_S16384x32_S16384x1x32_0_2 co))) (mulf (extractStridedSlice S16384x8x32 ![0, 0, 32] z slices_S16384x8x64_S16384x8x32_0_0_32) (broadcastInDim S16384x8x32 ![0, 1, 2] bcast_S16384x1x32_S16384x8x32_0_1_2 (broadcastInDim S16384x1x32 ![0, 2] bcast_S16384x32_S16384x1x32_0_2 si))))⟩, ⟨S16384x8x32, (addf (mulf (extractStridedSlice S16384x8x32 ![0, 0, 32] z slices_S16384x8x64_S16384x8x32_0_0_32) (broadcastInDim S16384x8x32 ![0, 1, 2] bcast_S16384x1x32_S16384x8x32_0_1_2 (broadcastInDim S16384x1x32 ![0, 2] bcast_S16384x32_S16384x1x32_0_2 co))) (mulf (extractStridedSlice S16384x8x32 ![0, 0, 0] z slices_S16384x8x64_S16384x8x32_0_0_0) (broadcastInDim S16384x8x32 ![0, 1, 2] bcast_S16384x1x32_S16384x8x32_0_1_2 (broadcastInDim S16384x1x32 ![0, 2] bcast_S16384x32_S16384x1x32_0_2 si))))⟩] concatenates_S16384x8x32_S16384x8x32_S16384x8x64_d2) shapeCasts_S16384x8x64_S16384x512

/-- Eight turned heads at an index. -/
theorem turned_apply (z : FVec Ideal S16384x8x64 .f32) (co si : FVec Ideal S16384x32 .f32) (t : Fin 16384) (R C S : ℕ → EReal) (o : ℕ)
    (hz : ∀ (h : Fin 8) (i : Fin 64), z (ix3 t h i) = R (o + (64 * h.val + i.val)))
    (hc : ∀ i : Fin 32, co (ix2 t i) = C i.val) (hs : ∀ i : Fin 32, si (ix2 t i) = S i.val) (j : Fin 512) :
    turned z co si (ix2 t j) = pair R C S o j.val := by
  have hj := j.isLt
  pointwise [turned]
  by_cases h : j.val % 64 < 32
  · simp only [dif_pos h, hz, hc, hs]
    exact pair_lo R C S o j.val h _ _ _ _ (by omega) (by omega) (by omega) (by omega)
  · simp only [dif_neg h, hz, hc, hs]
    exact pair_hi R C S o j.val h _ _ _ _ (by omega) (by omega) (by omega) (by omega)

/-- A group of the projection's columns. -/
theorem plain_eq (x : FVec Ideal S16384x1024 .f32) (g : FVec Ideal S1024 .f32) (w : FVec Ideal S1024x4680 .f32) (o : ℕ) (h : S16384x4680.Slices ![0, o] S16384x512) :
    extractStridedSlice S16384x512 ![0, o] (proj x g w) h = plainArr x g w o := by
  funext y
  rw [eq_ix2 y]
  generalize y 0 = t, y 1 = j
  have hb : o + 512 ≤ 4680 := h.2 1
  pointwise
  exact proj_apply x g w t _

/-- A group of the projection's columns, turned. -/
theorem turned_eq (x : FVec Ideal S16384x1024 .f32) (g : FVec Ideal S1024 .f32) (w : FVec Ideal S1024x4680 .f32) (o : ℕ) (h : S16384x4680.Slices ![0, o] S16384x512) :
    turned (shapeCast _ (extractStridedSlice S16384x512 ![0, o] (proj x g w) h) shapeCasts_S16384x512_S16384x8x64) (Host.cos angle) (Host.sin angle) = spunArr x g w o := by
  funext y
  rw [eq_ix2 y]
  refine (turned_apply _ _ _ (y 0) (row x g w (y 0)) (cosAt (y 0)) (sinAt (y 0)) o (fun a i => ?_) (tab_lane _ (y 0)) (tab_lane _ (y 0)) (y 1)).trans (pair_eq _ _ _ _ _ (tab_32 _ _) (tab_32 _ _))
  rw [plain_eq]
  generalize y 0 = t
  pointwise
  exact congrArg (fun n => row x g w t (o + n)) (by show a.val * 64 + i.val = 64 * a.val + i.val; omega)

/-- One head turned by its position, the scaled weights, and zeros. -/
def tail (z : FVec Ideal S16384x1x64 .f32) (u : FVec Ideal S16384x8 .f32) (co si : FVec Ideal S16384x32 .f32) : FVec Ideal S16384x128 .f32 :=
  (concatenate S16384x128 1 [⟨S16384x64, ((shapeCast _ (concatenate S16384x1x64 2 [⟨S16384x1x32, (subf (mulf (extractStridedSlice S16384x1x32 ![0, 0, 0] z slices_S16384x1x64_S16384x1x32_0_0_0) (broadcastInDim S16384x1x32 ![0, 2] bcast_S16384x32_S16384x1x32_0_2 co)) (mulf (extractStridedSlice S16384x1x32 ![0, 0, 32] z slices_S16384x1x64_S16384x1x32_0_0_32) (broadcastInDim S16384x1x32 ![0, 2] bcast_S16384x32_S16384x1x32_0_2 si)))⟩, ⟨S16384x1x32, (addf (mulf (extractStridedSlice S16384x1x32 ![0, 0, 32] z slices_S16384x1x64_S16384x1x32_0_0_32) (broadcastInDim S16384x1x32 ![0, 2] bcast_S16384x32_S16384x1x32_0_2 co)) (mulf (extractStridedSlice S16384x1x32 ![0, 0, 0] z slices_S16384x1x64_S16384x1x32_0_0_0) (broadcastInDim S16384x1x32 ![0, 2] bcast_S16384x32_S16384x1x32_0_2 si)))⟩] concatenates_S16384x1x32_S16384x1x32_S16384x1x64_d2) shapeCasts_S16384x1x64_S16384x64) : (⟨S16384x64, .f32⟩ : BufTy).Contents (Elt Ideal))⟩, ⟨S16384x8, ((mulf u (broadcastInDim S16384x8 ![] bcast_S_S16384x8 (constant S_ .f32 0x3D3504F3#32))) : (⟨S16384x8, .f32⟩ : BufTy).Contents (Elt Ideal))⟩, ⟨S16384x56, ((broadcastInDim S16384x56 ![] bcast_S_S16384x56 (constant (F := Ideal) S_ .f32 0x00000000#32)) : (⟨S16384x56, .f32⟩ : BufTy).Contents (Elt Ideal))⟩] concatenates_S16384x64_S16384x8_S16384x56_S16384x128_d1 : (⟨S16384x128, .f32⟩ : BufTy).Contents (Elt Ideal))

theorem tail_apply (z : FVec Ideal S16384x1x64 .f32) (u : FVec Ideal S16384x8 .f32) (co si : FVec Ideal S16384x32 .f32) (t : Fin 16384) (R C S : ℕ → EReal) (o : ℕ)
    (hz : ∀ i : Fin 64, z (ix3 t (0 : Fin 1) i) = R (o + i.val)) (hu : ∀ i : Fin 8, u (ix2 t i) = R (o + (64 + i.val)))
    (hc : ∀ i : Fin 32, co (ix2 t i) = C i.val) (hs : ∀ i : Fin 32, si (ix2 t i) = S i.val) (j : Fin 128) :
    tail z u co si (ix2 t j) = if j.val < 64 then pair R C S o j.val
      else if j.val < 72 then R (o + j.val) * Ideal.ofBits .f32 0x3D3504F3#32 else 0 := by
  have hj := j.isLt
  pointwise [tail]
  by_cases h : j.val < 64
  · rw [dif_pos h, if_pos h]
    by_cases h' : j.val < 32
    · rw [dif_pos h', hz, hz, hc, hs]
      exact pair_lo R C S o j.val (by omega) _ _ _ _ (by dsimp only) (by dsimp only; omega) (by dsimp only; omega) (by dsimp only; omega)
    · rw [dif_neg h', hz, hz, hc, hs]
      exact pair_hi R C S o j.val (by omega) _ _ _ _ (by dsimp only; omega) (by dsimp only) (by dsimp only; omega) (by dsimp only; omega)
  · rw [dif_neg h, if_neg h]
    by_cases h' : j.val - 64 < 8
    · rw [dif_pos h', if_pos (show j.val < 72 by omega), hu]
      exact congrArg (fun n => R (o + n) * Ideal.ofBits .f32 0x3D3504F3#32) (by dsimp only; omega)
    · rw [dif_neg h', if_neg (show ¬j.val < 72 by omega)]

/-- The last columns of the projection: a turned head, scaled weights, zeros. -/
theorem tail_eq (x : FVec Ideal S16384x1024 .f32) (g : FVec Ideal S1024 .f32) (w : FVec Ideal S1024x4680 .f32) (h) (h') (h'') :
    tail (shapeCast _ (extractStridedSlice S16384x64 ![0, 4608] (proj x g w) h) h') (extractStridedSlice S16384x8 ![0, 4672] (proj x g w) h'') (Host.cos angle) (Host.sin angle) = tailArr x g w := by
  have key : ∀ (t : Fin 16384) (j : Fin 128), tail (shapeCast _ (extractStridedSlice S16384x64 ![0, 4608] (proj x g w) h) h') (extractStridedSlice S16384x8 ![0, 4672] (proj x g w) h'') (Host.cos angle) (Host.sin angle) (ix2 t j) = tailArr x g w (ix2 t j) := by
    intro t j
    refine (tail_apply _ _ _ _ t (row x g w t) (cosAt t) (sinAt t) 4608 (fun i => ?_) (fun i => ?_) (tab_lane _ t) (tab_lane _ t) j).trans ?_
    · pointwise
      exact proj_apply x g w t _
    · pointwise
      refine (proj_apply x g w t _).trans (congrArg (row x g w t) ?_)
      dsimp only
      omega
    · rw [pair_eq _ _ _ _ _ (tab_32 _ _) (tab_32 _ _)]
      rfl
  funext y
  rw [eq_ix2 y]
  exact key (y 0) (y 1)

/-- The arguments of the reference. -/
abbrev argX (m : (ℓ : Loc nD τ sig) → Buf (Elt Ideal) ℓ) (c : Dev nD) : FVec Ideal S16384x1024 .f32 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x4680 .f32 := m ((c.tc : Thread nD τ).loc main_arg2)

theorem proj_res (m : (ℓ : Loc nD τ sig) → Buf (Elt Ideal) ℓ) (c : Dev nD) :
    Value.res_main_v13 (F := Ideal) (StableHlo.launchContents m c) = proj (argX m c) (argG m c) (argW m c) := rfl
theorem angle_res (m : (ℓ : Loc nD τ sig) → Buf (Elt Ideal) ℓ) (c : Dev nD) :
    Value.res_main_v42 (F := Ideal) (StableHlo.launchContents m c) = angle := rfl

/-- The reference's results are the projected groups of columns of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168) = spunArr (argX m c) (argG m c) (argW m c) 0
      ∧ r.2.mem ((c.tc : Thread nD τ).loc main_v60) = spunArr (argX m c) (argG m c) (argW m c) 512
      ∧ r.2.mem ((c.tc : Thread nD τ).loc main_v169) = spunArr (argX m c) (argG m c) (argW m c) 512
      ∧ r.2.mem ((c.tc : Thread nD τ).loc main_v16) = plainArr (argX m c) (argG m c) (argW m c) 1024
      ∧ r.2.mem ((c.tc : Thread nD τ).loc main_v170) = plainArr (argX m c) (argG m c) (argW m c) 1024
      ∧ r.2.mem ((c.tc : Thread nD τ).loc main_v17) = plainArr (argX m c) (argG m c) (argW m c) 1536
      ∧ r.2.mem ((c.tc : Thread nD τ).loc main_v206) = spunArr (argX m c) (argG m c) (argW m c) 2048
      ∧ r.2.mem ((c.tc : Thread nD τ).loc main_v96) = spunArr (argX m c) (argG m c) (argW m c) 2560
      ∧ r.2.mem ((c.tc : Thread nD τ).loc main_v207) = spunArr (argX m c) (argG m c) (argW m c) 2560
      ∧ r.2.mem ((c.tc : Thread nD τ).loc main_v20) = plainArr (argX m c) (argG m c) (argW m c) 3072
      ∧ r.2.mem ((c.tc : Thread nD τ).loc main_v208) = plainArr (argX m c) (argG m c) (argW m c) 3072
      ∧ r.2.mem ((c.tc : Thread nD τ).loc main_v21) = plainArr (argX m c) (argG m c) (argW m c) 3584
      ∧ r.2.mem ((c.tc : Thread nD τ).loc main_v244) = spunArr (argX m c) (argG m c) (argW m c) 4096
      ∧ r.2.mem ((c.tc : Thread nD τ).loc main_v132) = tailArr (argX m c) (argG m c) (argW m c)
      ∧ r.2.mem ((c.tc : Thread nD τ).loc main_v245) = tailArr (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (turned_eq (argX m c) (argG m c) (argW m c) 0 _),
      (h c).2.1.trans (turned_eq (argX m c) (argG m c) (argW m c) 512 _),
      (h c).2.2.1.trans (turned_eq (argX m c) (argG m c) (argW m c) 512 _),
      (h c).2.2.2.1.trans (plain_eq (argX m c) (argG m c) (argW m c) 1024 slices_S16384x4680_S16384x512_0_1024),
      (h c).2.2.2.2.1.trans (plain_eq (argX m c) (argG m c) (argW m c) 1024 slices_S16384x4680_S16384x512_0_1024),
      (h c).2.2.2.2.2.1.trans (plain_eq (argX m c) (argG m c) (argW m c) 1536 slices_S16384x4680_S16384x512_0_1536),
      (h c).2.2.2.2.2.2.1.trans (turned_eq (argX m c) (argG m c) (argW m c) 2048 _),
      (h c).2.2.2.2.2.2.2.1.trans (turned_eq (argX m c) (argG m c) (argW m c) 2560 _),
      (h c).2.2.2.2.2.2.2.2.1.trans (turned_eq (argX m c) (argG m c) (argW m c) 2560 _),
      (h c).2.2.2.2.2.2.2.2.2.1.trans (plain_eq (argX m c) (argG m c) (argW m c) 3072 slices_S16384x4680_S16384x512_0_3072),
      (h c).2.2.2.2.2.2.2.2.2.2.1.trans (plain_eq (argX m c) (argG m c) (argW m c) 3072 slices_S16384x4680_S16384x512_0_3072),
      (h c).2.2.2.2.2.2.2.2.2.2.2.1.trans (plain_eq (argX m c) (argG m c) (argW m c) 3584 slices_S16384x4680_S16384x512_0_3584),
      (h c).2.2.2.2.2.2.2.2.2.2.2.2.1.trans (turned_eq (argX m c) (argG m c) (argW m c) 4096 _),
      (h c).2.2.2.2.2.2.2.2.2.2.2.2.2.1.trans (tail_eq (argX m c) (argG m c) (argW m c) _ _ _),
      (h c).2.2.2.2.2.2.2.2.2.2.2.2.2.2.1.trans (tail_eq (argX m c) (argG m c) (argW m c) _ _ _),
      (h c).2.2.2.2.2.2.2.2.2.2.2.2.2.2.2⟩)
    (Cert.Reference2Ideal.Value.run (F := Ideal) m ρ)

end Cert.Reference2Ideal.Turn
-- ==== Proof.Mem.lean ====
/- The projection of the memory: its launch and its reference leave the same products. -/
module

public import proofs.«01_k».proof.Proof.Turn
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import Idealize.ShloMosaic.Lib.Pipeline.ValueKit

@[expose] public section

set_option maxRecDepth 16384

noncomputable section

namespace Cert.Kernel3Ideal.Mem

open Idealize.ShloMosaic Idealize.ShloMosaic.TcCoe Idealize.SL.Sem Idealize.ShloMosaic.StableHlo
open Cert.Kernel3Ideal Cert.Kernel3Ideal.Gen

variable (m : (ℓ : Loc nD τ sig) → Buf (Elt Ideal) ℓ)

/-- The three arguments. -/
abbrev argX (c : Dev nD) : FVec Ideal S256x1024 .f32 := m ((c.tc : Thread nD τ).loc main_arg0)
abbrev argK (c : Dev nD) : FVec Ideal S1024x512 .f32 := m ((c.tc : Thread nD τ).loc main_arg1)
abbrev argV (c : Dev nD) : FVec Ideal S1024x512 .f32 := m ((c.tc : Thread nD τ).loc main_arg2)

/-- The product of the memory's rows with weights. -/
def product (x : FVec Ideal S256x1024 .f32) (w : FVec Ideal S1024x512 .f32) : S256x512.Idx → EReal :=
  fun y => ∑ k : Fin 1024, (x (ix2 (y 0) k) * w (ix2 k (y 1)) : EReal)

/-- The two weights side by side. -/
theorem V_w (c : Dev nD) : V m c main_v2 = (truncf .bf16 (concatenate S1024x1024 1 [⟨S1024x512, argK m c⟩, ⟨S1024x512, argV m c⟩] concatenates_S1024x512_S1024x512_S1024x1024_d1 : FVec Ideal S1024x1024 .f32) bitsLt_bf16_f32 : FVec Ideal S1024x1024 .bf16) := by
  unfold V
  simp only [hostOps0, List.flatten_cons, List.flatten_nil, List.append_nil, List.cons_append, List.nil_append]
  after_results_simp
  all_goals rfl

theorem weight_k (c : Dev nD) (k : Fin 1024) (j : Fin 512) : V m c main_v2 (ix2 k ⟨j.val, by omega⟩) = argK m c (ix2 k j) := by
  have hj := j.isLt
  rw [V_w]
  pointwise

theorem weight_v (c : Dev nD) (k : Fin 1024) (j : Fin 512) : V m c main_v2 (ix2 k ⟨512 + j.val, by omega⟩) = argV m c (ix2 k j) := by
  have hj := j.isLt
  rw [V_w]
  pointwise

/-- The one point's blocks are the whole arrays. -/
theorem index_0 : ∀ t : Fin cfg0.N, win0_0.index t = ![0, 0] ∧ win0_2.index t = ![0, 0] ∧ win0_3.index t = ![0, 0] ∧ win0_4.index t = ![0, 0] :=
  (by decide +kernel : ∀ t : Fin grid0.N, win0_0.index t = ![0, 0] ∧ win0_2.index t = ![0, 0] ∧ win0_3.index t = ![0, 0] ∧ win0_4.index t = ![0, 0])

theorem pay2_apply (x : Vec Ideal S256x1024 .f32) (w : Vec Ideal S1024x512 .bf16) (r : Fin 256) (j : Fin 512) :
    k0_pay2 x w (ix2 r j) = ∑ k : Fin 1024, (x (ix2 r k) * w (ix2 k j) : EReal) := by
  pointwise [k0_pay2, k0_pay1]

theorem pay3_apply (x : Vec Ideal S256x1024 .f32) (w : Vec Ideal S1024x512 .bf16) (r : Fin 256) (j : Fin 512) :
    k0_pay3 x w (ix2 r j) = ∑ k : Fin 1024, (x (ix2 r k) * w (ix2 k j) : EReal) := by
  pointwise [k0_pay3, k0_pay1]

theorem blk_x (c : Dev nD) (t : Fin cfg0.N) (r : Fin 256) (k : Fin 1024) : View.ld (iblk m c 0 t) r0_0 (ix2 r k) = argX m c (ix2 r k) := by
  have e : V m c main_arg0 = argX m c := V_main_arg0 m c
  refine Eq.trans ?_ (congrFun e (ix2 r k))
  refine congrArg (V m c main_arg0) (funext fun a => Fin.ext ?_)
  have hi := (index_0 t).1
  match a with
  | ⟨0, _⟩ =>
    have e : win0_0.index t 0 = 0 := by rw [hi]; rfl
    exact (by rw [e]; omega : win0_0.index t 0 * 256 + 1 * (0 + 1 * r.val) = r.val)
  | ⟨1, _⟩ =>
    have e : win0_0.index t 1 = 0 := by rw [hi]; rfl
    exact (by rw [e]; omega : win0_0.index t 1 * 1024 + 1 * (0 + 1 * k.val) = k.val)

theorem blk_w (c : Dev nD) (t : Fin cfg0.N) (o : ℕ) (inb) (k : Fin 1024) (j : Fin 512) (h : o + j.val < 1024) :
    View.ld (iblk m c 2 t) (Rect.unit (s := S1024x1024) ![0, o] S1024x512.size inb) (ix2 k j) = V m c main_v2 (ix2 k ⟨o + j.val, h⟩) := by
  refine congrArg (V m c main_v2) (funext fun a => Fin.ext ?_)
  have hi := (index_0 t).2.1
  match a with
  | ⟨0, _⟩ =>
    have e : win0_2.index t 0 = 0 := by rw [hi]; rfl
    exact (by rw [e]; omega : win0_2.index t 0 * 1024 + 1 * (0 + 1 * k.val) = k.val)
  | ⟨1, _⟩ =>
    have e : win0_2.index t 1 = 0 := by rw [hi]; rfl
    exact (by rw [e]; omega : win0_2.index t 1 * 1024 + 1 * (o + 1 * j.val) = o + j.val)

/-- An index whose coordinates are those of the one block. -/
theorem spot (i : Fin 2 → ℕ) (hi : i = ![0, 0]) (y z : S256x512.Idx)
    (h0 : (z 0).val = i 0 * 256 + 1 * (y 0).val) (h1 : (z 1).val = i 1 * 512 + 1 * (y 1).val) : z = y := by
  have e0 : i 0 = 0 := by rw [hi]; rfl
  have e1 : i 1 = 0 := by rw [hi]; rfl
  rw [e0] at h0
  rw [e1] at h1
  funext a
  match a with
  | ⟨0, _⟩ => exact Fin.ext (h0.trans (by show 0 * 256 + 1 * (y 0).val = (y 0).val; omega))
  | ⟨1, _⟩ => exact Fin.ext (h1.trans (by show 0 * 512 + 1 * (y 1).val = (y 1).val; omega))

/-- A stored block that agrees with an array at every index is the array. -/
theorem stored (G p : S256x512.Idx → EReal) (hp : ∀ (r : Fin 256) (j : Fin 512), p (ix2 r j) = G (ix2 r j)) (i : Fin 2 → ℕ) (hi : i = ![0, 0]) (y z : S256x512.Idx)
    (h0 : (z 0).val = i 0 * 256 + 1 * (y 0).val) (h1 : (z 1).val = i 1 * 512 + 1 * (y 1).val) : p y = G z := by
  rw [spot i hi y z h0 h1, eq_ix2 y]
  exact hp (y 0) (y 1)

theorem block_k (c : Dev nD) (t : Fin cfg0.N) (r : Fin 256) (j : Fin 512) :
    k0_pay2 (View.ld (iblk m c 0 t) r0_0) (View.ld (iblk m c 2 t) r0_1) (ix2 r j) = product (argX m c) (argK m c) (ix2 r j) := by
  refine (pay2_apply _ _ r j).trans (Finset.sum_congr rfl fun k _ => ?_)
  rw [blk_x]
  refine congrArg _ ((blk_w m c t 0 _ k j (by omega)).trans ?_)
  exact (congrArg (fun u => V m c main_v2 (ix2 k u)) (Fin.ext (Nat.zero_add _))).trans (weight_k m c k j)

theorem block_v (c : Dev nD) (t : Fin cfg0.N) (r : Fin 256) (j : Fin 512) :
    k0_pay3 (View.ld (iblk m c 0 t) r0_0) (View.ld (iblk m c 2 t) r0_3) (ix2 r j) = product (argX m c) (argV m c) (ix2 r j) := by
  refine (pay3_apply _ _ r j).trans (Finset.sum_congr rfl fun k _ => ?_)
  rw [blk_x]
  exact congrArg _ ((blk_w m c t 512 _ k j (by omega)).trans (weight_v m c k j))

theorem final_3 (c : Dev nD) : (dats m 0 c).arrAt 3 cfg0.N = product (argX m c) (argK m c) := by
  refine (dats m 0 c).arrAt_eq_of_covers 3 _ (by decide +kernel) fun t _ y => ?_
  exact (congrFun (Value.flushed3 m c t) y).trans ((congrFun (Cert.Kernel2Ideal.Turn.whole_512 .f32 _) y).trans
    (stored (product (argX m c) (argK m c)) _ (block_k m c t) _ (index_0 t).2.2.1 y _ rfl rfl))

theorem final_4 (c : Dev nD) : (dats m 0 c).arrAt 4 cfg0.N = product (argX m c) (argV m c) := by
  refine (dats m 0 c).arrAt_eq_of_covers 4 _ (by decide +kernel) fun t _ y => ?_
  exact (congrFun (Value.flushed4 m c t) y).trans ((congrFun (Cert.Kernel2Ideal.Turn.whole_512 .f32 _) y).trans
    (stored (product (argX m c) (argV m c)) _ (block_v m c t) _ (index_0 t).2.2.2 y _ rfl rfl))

/-- The kernel's results are the two products. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = product (argX m c) (argK m c)
      ∧ r.2.mem ((c.tc : Thread nD τ).loc main_v4_1) = product (argX m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final_3 m c), (h c).2.1.trans (final_4 m c), (h c).2.2⟩)
    (Value.run_blocks m ρ)

/-- The reference's product. -/
theorem dot_eq (x : FVec Ideal S256x1024 .f32) (w : FVec Ideal S1024x512 .f32) :
    Host.dotGeneral Cert.Reference3Ideal.dot_S256x1024_S1024x512_S256x512_1_0_0_1_n_n none x w = product x w := by
  have key : ∀ (r : Fin 256) (j : Fin 512), Host.dotGeneral Cert.Reference3Ideal.dot_S256x1024_S1024x512_S256x512_1_0_0_1_n_n none x w (ix2 r j) = product x w (ix2 r j) := by
    intro r j
    pointwise
    rfl
  funext y
  rw [eq_ix2 y]
  exact key (y 0) (y 1)

end Cert.Kernel3Ideal.Mem
-- ==== Proof.Sample.lean ====
/- The sample group's projection: its launch leaves the projected groups of columns of its 128 rows. -/
module

public import proofs.«01_k».proof.Proof.Spin
public import proofs.«01_k».proof.Proof.Rows
public import proofs.«01_k».proof.Proof.Gen.Kernel4Ideal.Frame
public import proofs.«01_k».proof.Proof.Gen.Kernel4Ideal.Value
public import Idealize.ShloMosaic.Lib.Pipeline.ValueKit

@[expose] public section

set_option maxRecDepth 16384

noncomputable section

namespace Cert.Kernel4Ideal.Turn

open Idealize.ShloMosaic Idealize.ShloMosaic.TcCoe Idealize.SL.Sem Idealize.ShloMosaic.StableHlo
open Cert.Kernel4Ideal Cert.Kernel4Ideal.Gen
open Cert.Spin (hid wAt row tab tab_128 spun four_apply roped_row tail_row plainArr spunArr tailArr at2)

variable (m : (ℓ : Loc nD τ sig) → Buf (Elt Ideal) ℓ)

/-- The positions of the rows: 32 sequences of four consecutive tokens. -/
def places : IVec S128 32 :=
  shapeCast S128 (broadcastInDim S32x4 ![0, 1] bcast_S1x4_S32x4_0_1 (shapeCast S1x4 (addi (broadcastInDim S4 ![] bcast_S_S4 (constantI S_ 32 16384#32)) (iotaInDim S4 32 0)) shapeCasts_S4_S1x4)) shapeCasts_S32x4_S128

/-- The angles of the turn: the position times the frequency. -/
def angle : FVec Ideal S128x32 .f32 :=
  mulf (broadcastInDim S128x32 ![0, 1] bcast_S128x1_S128x32_0_1 (broadcastInDim S128x1 ![0] bcast_S128_S128x1_0 (sitofp .f32 places))) (broadcastInDim S128x32 ![0, 1] bcast_S1x32_S128x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The tables of cosines and of sines. -/
abbrev co : FVec Ideal S128x32 .f32 := Host.cos angle
abbrev si : FVec Ideal S128x32 .f32 := Host.sin angle

/-- The three arguments. -/
abbrev argX (c : Dev nD) : S128x1024.Idx → EReal := m ((c.tc : Thread nD τ).loc main_arg0)
abbrev argG (c : Dev nD) : S1024.Idx → EReal := m ((c.tc : Thread nD τ).loc main_arg1)
abbrev argW (c : Dev nD) : S1024x4680.Idx → EReal := m ((c.tc : Thread nD τ).loc main_arg2)

theorem V_cos (c : Dev nD) : V m c main_v24 = concatenate S128x128 1 [⟨S128x32, co⟩, ⟨S128x32, co⟩, ⟨S128x32, co⟩, ⟨S128x32, co⟩] concatenates_S128x32_S128x32_S128x32_S128x32_S128x128_d1 := by
  unfold V
  simp only [hostOps0, hostOps0_1, hostOps0_2, List.flatten_cons, List.flatten_nil, List.append_nil, List.cons_append, List.nil_append]
  after_results_simp
  all_goals rfl

theorem V_sin (c : Dev nD) : V m c main_v27 = concatenate S128x128 1 [⟨S128x32, Host.negf si⟩, ⟨S128x32, si⟩, ⟨S128x32, Host.negf si⟩, ⟨S128x32, si⟩] concatenates_S128x32_S128x32_S128x32_S128x32_S128x128_d1 := by
  unfold V
  simp only [hostOps0, hostOps0_1, hostOps0_2, List.flatten_cons, List.flatten_nil, List.append_nil, List.cons_append, List.nil_append]
  after_results_simp
  all_goals rfl

theorem V_w (c : Dev nD) : V m c main_v29 = (truncf .bf16 (pad S1024x4736 ![0, 0] ![0, 56] ![0, 0] (m ((c.tc : Thread nD τ).loc main_arg2) : FVec Ideal S1024x4680 .f32) (sitofp .f32 (constantI S_ 32 0#32) : FVec Ideal S_ .f32) pads_S1024x4680_S1024x4736_000_0560 h_S_) bitsLt_bf16_f32 : FVec Ideal S1024x4736 .bf16) := by
  unfold V
  simp only [hostOps0, hostOps0_1, hostOps0_2, List.flatten_cons, List.flatten_nil, List.append_nil, List.cons_append, List.nil_append]
  after_results_simp
  all_goals rfl

theorem V_g (c : Dev nD) : V m c main_v30 = (shapeCast S1x1024 (m ((c.tc : Thread nD τ).loc main_arg1) : FVec Ideal S1024 .f32) shapeCasts_S1024_S1x1024 : FVec Ideal S1x1024 .f32) := by
  unfold V
  simp only [hostOps0, hostOps0_1, hostOps0_2, List.flatten_cons, List.flatten_nil, List.append_nil, List.cons_append, List.nil_append]
  after_results_simp
  all_goals rfl

theorem index_zero : ∀ t : Fin cfg0.N, ∀ a : Fin 2, win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0 ∧ win0_10.index t a = 0 ∧ win0_11.index t a = 0
    ∧ win0_12.index t a = 0 ∧ win0_13.index t a = 0 ∧ win0_14.index t a = 0 ∧ win0_15.index t a = 0 ∧ win0_16.index t a = 0 ∧ win0_17.index t a = 0
    ∧ win0_18.index t a = 0 ∧ win0_19.index t a = 0 :=
  (by decide +kernel : ∀ t : Fin grid0.N, ∀ a : Fin 2, win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0 ∧ win0_10.index t a = 0 ∧ win0_11.index t a = 0
    ∧ win0_12.index t a = 0 ∧ win0_13.index t a = 0 ∧ win0_14.index t a = 0 ∧ win0_15.index t a = 0 ∧ win0_16.index t a = 0 ∧ win0_17.index t a = 0
    ∧ win0_18.index t a = 0 ∧ win0_19.index t a = 0)

/-- A place in the only block of an array is the place itself. -/
theorem place (i k a b : ℕ) (h : i = 0) (e : a = b) : i * k + 1 * a = b := by
  subst h e
  omega

theorem blk_x (c : Dev nD) (t : Fin cfg0.N) (r : Fin 128) (k : Fin 1024) : View.ld (iblk m c 0 t) r0_1 (ix2 r k) = argX m c (ix2 r k) := by
  have e : V m c main_arg0 = argX m c := V_main_arg0 m c
  refine Eq.trans ?_ (congrFun e (ix2 r k))
  exact congrArg (V m c main_arg0) (at2 _ _ _ (place _ 128 (0 + 1 * r.val) _ (index_zero t 0).1 (by omega)) (place _ 1024 (0 + 1 * k.val) _ (index_zero t 1).1 (by omega)))

theorem blk_g (c : Dev nD) (t : Fin cfg0.N) (k : Fin 1024) : View.ld (iblk m c 1 t) r0_2 (ix2 0 k) = argG m c (ix1 k) := by
  have e : V m c main_v30 (ix2 0 k) = argG m c (ix1 k) := by
    rw [V_g]
    pointwise
  refine Eq.trans ?_ e
  exact congrArg (V m c main_v30) (at2 _ _ _ (place _ 1 (0 + 1 * 0) _ (index_zero t 0).2.1 rfl) (place _ 1024 (0 + 1 * k.val) _ (index_zero t 1).2.1 (by omega)))

theorem weight (c : Dev nD) (k : Fin 1024) (j : Fin 4736) : V m c main_v29 (ix2 k j) = wAt (argW m c) k j.val := by
  rw [V_w]
  refine Cert.Kernel2Ideal.Turn.padded (argW m c) _ (fun i => ?_) k j
  show (((0#32 : BitVec 32).toInt : ℝ) : EReal) = 0
  simp

theorem blk_w (c : Dev nD) (t : Fin cfg0.N) (o n : ℕ) (inb) (k : Fin 1024) (j : Fin n) :
    View.ld (iblk m c 2 t) (Rect.unit (s := S1024x4736) ![0, o] (⟨2, ![1024, n]⟩ : Shape).size inb) (ix2 k j) = wAt (argW m c) k (o + j.val) := by
  have hb : o + n ≤ 4736 := inb 1
  have hj := j.isLt
  refine Eq.trans ?_ (weight m c k ⟨o + j.val, by omega⟩)
  exact congrArg (V m c main_v29) (at2 _ _ _ (place _ 1024 (0 + 1 * k.val) _ (index_zero t 0).2.2.1 (by omega)) (place _ 4736 (o + 1 * j.val) _ (index_zero t 1).2.2.1 (by dsimp only; omega)))

theorem blk_c (c : Dev nD) (t : Fin cfg0.N) (r : Fin 128) (l : Fin 128) : k0_pay3 (View.ld (iblk m c 3 t) r0_0) (ix2 r l) = tab co r l.val := by
  have e : V m c main_v24 (ix2 r l) = tab co r l.val := by
    rw [V_cos]
    exact (four_apply _ _ _ r l).trans (ite_self _)
  refine Eq.trans ?_ e
  pointwise [k0_pay3]
  exact congrArg (V m c main_v24) (at2 _ _ _ (place _ 128 r.val _ (index_zero t 0).2.2.2.1 rfl) (place _ 128 l.val _ (index_zero t 1).2.2.2.1 rfl))

theorem blk_s (c : Dev nD) (t : Fin cfg0.N) (r : Fin 128) (l : Fin 128) :
    k0_pay4 (View.ld (iblk m c 4 t) r0_0) (ix2 r l) = (if l.val % 64 < 32 then -tab si r l.val else tab si r l.val : EReal) := by
  have e : V m c main_v27 (ix2 r l) = (if l.val % 64 < 32 then -tab si r l.val else tab si r l.val : EReal) := by
    rw [V_sin]
    exact four_apply _ _ _ r l
  refine Eq.trans ?_ e
  pointwise [k0_pay4]
  exact congrArg (V m c main_v27) (at2 _ _ _ (place _ 128 r.val _ (index_zero t 0).2.2.2.2.1 rfl) (place _ 128 l.val _ (index_zero t 1).2.2.2.2.1 rfl))

/-- The normed rows. -/
theorem hid_block (c : Dev nD) (t : Fin cfg0.N) (r : Fin 128) (k : Fin 1024) :
    k0_pay5 (View.ld (iblk m c 0 t) r0_1) (View.ld (iblk m c 1 t) r0_2) (ix2 r k) = hid (argX m c) (fun k => argG m c (ix1 k)) r k := by
  have e : ∀ (x : Vec Ideal S128x1024 .f32) (g : Vec Ideal S1x1024 .f32), k0_pay5 x g (ix2 r k) = hid x (fun k => g (ix2 0 k)) r k := by
    intro x g
    pointwise [k0_pay5, hid]
  refine (e _ _).trans ?_
  unfold hid
  simp only [blk_x, blk_g]

/-- A group of columns. -/
theorem plain_block (c : Dev nD) (t : Fin cfg0.N) (o : ℕ) (inb) (r : Fin 128) (j : Fin 512) :
    k0_pay6 (View.ld (iblk m c 0 t) r0_1) (View.ld (iblk m c 1 t) r0_2)
      (View.ld (iblk m c 2 t) (Rect.unit (s := S1024x4736) ![0, o] S1024x512.size inb)) (ix2 r j)
      = row (argX m c) (argG m c) (argW m c) r (o + j.val) := by
  have e : ∀ (x : Vec Ideal S128x1024 .f32) (g : Vec Ideal S1x1024 .f32) (w : Vec Ideal S1024x512 .bf16),
      k0_pay6 x g w (ix2 r j) = ∑ k : Fin 1024, (k0_pay5 x g (ix2 r k) * w (ix2 k j) : EReal) := by
    intro x g w
    pointwise [k0_pay6]
  refine (e _ _ _).trans (Finset.sum_congr rfl fun k _ => ?_)
  rw [hid_block]
  exact congrArg _ (blk_w m c t o 512 inb k j)

/-- The last columns. -/
theorem last_block (c : Dev nD) (t : Fin cfg0.N) (r : Fin 128) (j : Fin 128) :
    k0_pay39 (k0_pay5 (View.ld (iblk m c 0 t) r0_1) (View.ld (iblk m c 1 t) r0_2)) (View.ld (iblk m c 2 t) r0_13) (ix2 r j)
      = row (argX m c) (argG m c) (argW m c) r (4608 + j.val) := by
  have e : ∀ (h : FVec Ideal S128x1024 .bf16) (w : Vec Ideal S1024x128 .bf16),
      k0_pay39 h w (ix2 r j) = ∑ k : Fin 1024, (h (ix2 r k) * w (ix2 k j) : EReal) := by
    intro h w
    pointwise [k0_pay39]
  refine (e _ _).trans (Finset.sum_congr rfl fun k _ => ?_)
  rw [hid_block]
  exact congrArg _ (blk_w m c t 4608 128 _ k j)

/-- A stored group of columns is the array's. -/
theorem plain_spot (c : Dev nD) (t : Fin cfg0.N) (o : ℕ) (inb) (i : Fin 2 → ℕ) (hi : ∀ a, i a = 0) (y z : S128x512.Idx)
    (h0 : (z 0).val = i 0 * 128 + 1 * (y 0).val) (h1 : (z 1).val = i 1 * 512 + 1 * (y 1).val) :
    k0_pay6 (View.ld (iblk m c 0 t) r0_1) (View.ld (iblk m c 1 t) r0_2)
      (View.ld (iblk m c 2 t) (Rect.unit (s := S1024x4736) ![0, o] S1024x512.size inb)) y
      = plainArr (argX m c) (argG m c) (argW m c) o z := by
  rw [at2 z (y 0) (y 1) (h0.trans (place _ 128 _ _ (hi 0) rfl)) (h1.trans (place _ 512 _ _ (hi 1) rfl)), show y = ix2 (y 0) (y 1) from eq_ix2 y]
  exact plain_block m c t o inb (y 0) (y 1)

/-- A stored turned group of columns is the array's. -/
theorem spun_spot (c : Dev nD) (t : Fin cfg0.N) (o : ℕ) (inb) (i : Fin 2 → ℕ) (hi : ∀ a, i a = 0) (y z : S128x512.Idx)
    (h0 : (z 0).val = i 0 * 128 + 1 * (y 0).val) (h1 : (z 1).val = i 1 * 512 + 1 * (y 1).val) :
    Spin.roped iota_S128x128_d1_w32 rotates_S128x128_d1 slices_S128x512_o0_0_S128x128 slices_S128x512_o0_128_S128x128
      slices_S128x512_o0_256_S128x128 slices_S128x512_o0_384_S128x128 concatenates_S128x128_S128x128_S128x128_S128x128_S128x512_d1
      (k0_pay3 (View.ld (iblk m c 3 t) r0_0)) (k0_pay4 (View.ld (iblk m c 4 t) r0_0))
      (k0_pay6 (View.ld (iblk m c 0 t) r0_1) (View.ld (iblk m c 1 t) r0_2)
        (View.ld (iblk m c 2 t) (Rect.unit (s := S1024x4736) ![0, o] S1024x512.size inb))) y
      = spunArr co si (argX m c) (argG m c) (argW m c) o z := by
  rw [at2 z (y 0) (y 1) (h0.trans (place _ 128 _ _ (hi 0) rfl)) (h1.trans (place _ 512 _ _ (hi 1) rfl)), show y = ix2 (y 0) (y 1) from eq_ix2 y]
  exact roped_row _ _ _ _ _ _ _ _ _ _ (y 0) _ _ _ o (blk_c m c t (y 0)) (blk_s m c t (y 0)) (plain_block m c t o inb (y 0)) (tab_128 _ _) (tab_128 _ _) (y 1)

/-- The stored last columns are the array's. -/
theorem tail_spot (c : Dev nD) (t : Fin cfg0.N) (i : Fin 2 → ℕ) (hi : ∀ a, i a = 0) (y z : S128x128.Idx)
    (h0 : (z 0).val = i 0 * 128 + 1 * (y 0).val) (h1 : (z 1).val = i 1 * 128 + 1 * (y 1).val) :
    Spin.tail iota_S128x128_d1_w32 rotates_S128x128_d1 (k0_pay3 (View.ld (iblk m c 3 t) r0_0)) (k0_pay4 (View.ld (iblk m c 4 t) r0_0))
      (k0_pay39 (k0_pay5 (View.ld (iblk m c 0 t) r0_1) (View.ld (iblk m c 1 t) r0_2)) (View.ld (iblk m c 2 t) r0_13)) y
      = tailArr co si (argX m c) (argG m c) (argW m c) z := by
  rw [at2 z (y 0) (y 1) (h0.trans (place _ 128 _ _ (hi 0) rfl)) (h1.trans (place _ 128 _ _ (hi 1) rfl)), show y = ix2 (y 0) (y 1) from eq_ix2 y]
  exact tail_row _ _ _ _ _ (y 0) _ _ _ (blk_c m c t (y 0)) (blk_s m c t (y 0)) (last_block m c t (y 0)) (y 1)

/-- A store through the whole of a block leaves its payload. -/
theorem whole_512 (e : EltTy) (p : S128x512.Idx → Elt Ideal e) : View.canon [⟨r0_4, p⟩] = p := by
  funext y
  have h := View.canon_cons_emb (Val := Elt Ideal) (e := e) r0_4 p [] y
  rwa [show r0_4.emb y = y from funext fun a => Fin.ext (match a with
    | ⟨0, _⟩ => (by omega : 0 + 1 * (y 0).val = (y 0).val) | ⟨1, _⟩ => (by omega : 0 + 1 * (y 1).val = (y 1).val))] at h
theorem whole_128 (e : EltTy) (p : S128x128.Idx → Elt Ideal e) : View.canon [⟨r0_0, p⟩] = p := by
  funext y
  have h := View.canon_cons_emb (Val := Elt Ideal) (e := e) r0_0 p [] y
  rwa [show r0_0.emb y = y from funext fun a => Fin.ext (match a with
    | ⟨0, _⟩ => (by omega : 0 + 1 * (y 0).val = (y 0).val) | ⟨1, _⟩ => (by omega : 0 + 1 * (y 1).val = (y 1).val))] at h

theorem final_5 (c : Dev nD) : (dats m 0 c).arrAt 5 cfg0.N = spunArr co si (argX m c) (argG m c) (argW m c) 0 := by
  refine (dats m 0 c).arrAt_eq_of_covers 5 _ (by decide +kernel) fun t _ y => ?_
  exact (congrFun (Value.flushed5 m c t) y).trans ((congrFun (whole_512 .f32 _) y).trans (spun_spot m c t 0 _ _ (fun a => (index_zero t a).2.2.2.2.2.1) y _ rfl rfl))

theorem final_6 (c : Dev nD) : (dats m 0 c).arrAt 6 cfg0.N = spunArr co si (argX m c) (argG m c) (argW m c) 512 := by
  refine (dats m 0 c).arrAt_eq_of_covers 6 _ (by decide +kernel) fun t _ y => ?_
  exact (congrFun (Value.flushed6 m c t) y).trans ((congrFun (whole_512 .f32 _) y).trans (spun_spot m c t 512 _ _ (fun a => (index_zero t a).2.2.2.2.2.2.1) y _ rfl rfl))

theorem final_7 (c : Dev nD) : (dats m 0 c).arrAt 7 cfg0.N = spunArr co si (argX m c) (argG m c) (argW m c) 512 := by
  refine (dats m 0 c).arrAt_eq_of_covers 7 _ (by decide +kernel) fun t _ y => ?_
  exact (congrFun (Value.flushed7 m c t) y).trans ((congrFun (whole_512 .bf16 _) y).trans (spun_spot m c t 512 _ _ (fun a => (index_zero t a).2.2.2.2.2.2.2.1) y _ rfl rfl))

theorem final_8 (c : Dev nD) : (dats m 0 c).arrAt 8 cfg0.N = plainArr (argX m c) (argG m c) (argW m c) 1024 := by
  refine (dats m 0 c).arrAt_eq_of_covers 8 _ (by decide +kernel) fun t _ y => ?_
  exact (congrFun (Value.flushed8 m c t) y).trans ((congrFun (whole_512 .f32 _) y).trans (plain_spot m c t 1024 _ _ (fun a => (index_zero t a).2.2.2.2.2.2.2.2.1) y _ rfl rfl))

theorem final_9 (c : Dev nD) : (dats m 0 c).arrAt 9 cfg0.N = plainArr (argX m c) (argG m c) (argW m c) 1024 := by
  refine (dats m 0 c).arrAt_eq_of_covers 9 _ (by decide +kernel) fun t _ y => ?_
  exact (congrFun (Value.flushed9 m c t) y).trans ((congrFun (whole_512 .bf16 _) y).trans (plain_spot m c t 1024 _ _ (fun a => (index_zero t a).2.2.2.2.2.2.2.2.2.1) y _ rfl rfl))

theorem final_10 (c : Dev nD) : (dats m 0 c).arrAt 10 cfg0.N = plainArr (argX m c) (argG m c) (argW m c) 1536 := by
  refine (dats m 0 c).arrAt_eq_of_covers 10 _ (by decide +kernel) fun t _ y => ?_
  exact (congrFun (Value.flushed10 m c t) y).trans ((congrFun (whole_512 .f32 _) y).trans (plain_spot m c t 1536 _ _ (fun a => (index_zero t a).2.2.2.2.2.2.2.2.2.2.1) y _ rfl rfl))

theorem final_11 (c : Dev nD) : (dats m 0 c).arrAt 11 cfg0.N = spunArr co si (argX m c) (argG m c) (argW m c) 2048 := by
  refine (dats m 0 c).arrAt_eq_of_covers 11 _ (by decide +kernel) fun t _ y => ?_
  exact (congrFun (Value.flushed11 m c t) y).trans ((congrFun (whole_512 .f32 _) y).trans (spun_spot m c t 2048 _ _ (fun a => (index_zero t a).2.2.2.2.2.2.2.2.2.2.2.1) y _ rfl rfl))

theorem final_12 (c : Dev nD) : (dats m 0 c).arrAt 12 cfg0.N = spunArr co si (argX m c) (argG m c) (argW m c) 2560 := by
  refine (dats m 0 c).arrAt_eq_of_covers 12 _ (by decide +kernel) fun t _ y => ?_
  exact (congrFun (Value.flushed12 m c t) y).trans ((congrFun (whole_512 .f32 _) y).trans (spun_spot m c t 2560 _ _ (fun a => (index_zero t a).2.2.2.2.2.2.2.2.2.2.2.2.1) y _ rfl rfl))

theorem final_13 (c : Dev nD) : (dats m 0 c).arrAt 13 cfg0.N = spunArr co si (argX m c) (argG m c) (argW m c) 2560 := by
  refine (dats m 0 c).arrAt_eq_of_covers 13 _ (by decide +kernel) fun t _ y => ?_
  exact (congrFun (Value.flushed13 m c t) y).trans ((congrFun (whole_512 .bf16 _) y).trans (spun_spot m c t 2560 _ _ (fun a => (index_zero t a).2.2.2.2.2.2.2.2.2.2.2.2.2.1) y _ rfl rfl))

theorem final_14 (c : Dev nD) : (dats m 0 c).arrAt 14 cfg0.N = plainArr (argX m c) (argG m c) (argW m c) 3072 := by
  refine (dats m 0 c).arrAt_eq_of_covers 14 _ (by decide +kernel) fun t _ y => ?_
  exact (congrFun (Value.flushed14 m c t) y).trans ((congrFun (whole_512 .f32 _) y).trans (plain_spot m c t 3072 _ _ (fun a => (index_zero t a).2.2.2.2.2.2.2.2.2.2.2.2.2.2.1) y _ rfl rfl))

theorem final_15 (c : Dev nD) : (dats m 0 c).arrAt 15 cfg0.N = plainArr (argX m c) (argG m c) (argW m c) 3072 := by
  refine (dats m 0 c).arrAt_eq_of_covers 15 _ (by decide +kernel) fun t _ y => ?_
  exact (congrFun (Value.flushed15 m c t) y).trans ((congrFun (whole_512 .bf16 _) y).trans (plain_spot m c t 3072 _ _ (fun a => (index_zero t a).2.2.2.2.2.2.2.2.2.2.2.2.2.2.2.1) y _ rfl rfl))

theorem final_16 (c : Dev nD) : (dats m 0 c).arrAt 16 cfg0.N = plainArr (argX m c) (argG m c) (argW m c) 3584 := by
  refine (dats m 0 c).arrAt_eq_of_covers 16 _ (by decide +kernel) fun t _ y => ?_
  exact (congrFun (Value.flushed16 m c t) y).trans ((congrFun (whole_512 .f32 _) y).trans (plain_spot m c t 3584 _ _ (fun a => (index_zero t a).2.2.2.2.2.2.2.2.2.2.2.2.2.2.2.2.1) y _ rfl rfl))

theorem final_17 (c : Dev nD) : (dats m 0 c).arrAt 17 cfg0.N = spunArr co si (argX m c) (argG m c) (argW m c) 4096 := by
  refine (dats m 0 c).arrAt_eq_of_covers 17 _ (by decide +kernel) fun t _ y => ?_
  exact (congrFun (Value.flushed17 m c t) y).trans ((congrFun (whole_512 .f32 _) y).trans (spun_spot m c t 4096 _ _ (fun a => (index_zero t a).2.2.2.2.2.2.2.2.2.2.2.2.2.2.2.2.2.1) y _ rfl rfl))

theorem final_18 (c : Dev nD) : (dats m 0 c).arrAt 18 cfg0.N = tailArr co si (argX m c) (argG m c) (argW m c) := by
  refine (dats m 0 c).arrAt_eq_of_covers 18 _ (by decide +kernel) fun t _ y => ?_
  exact (congrFun (Value.flushed18 m c t) y).trans ((congrFun (whole_128 .f32 _) y).trans (tail_spot m c t _ (fun a => (index_zero t a).2.2.2.2.2.2.2.2.2.2.2.2.2.2.2.2.2.2.1) y _ rfl rfl))

theorem final_19 (c : Dev nD) : (dats m 0 c).arrAt 19 cfg0.N = tailArr co si (argX m c) (argG m c) (argW m c) := by
  refine (dats m 0 c).arrAt_eq_of_covers 19 _ (by decide +kernel) fun t _ y => ?_
  exact (congrFun (Value.flushed19 m c t) y).trans ((congrFun (whole_128 .bf16 _) y).trans (tail_spot m c t _ (fun a => (index_zero t a).2.2.2.2.2.2.2.2.2.2.2.2.2.2.2.2.2.2.2) y _ rfl rfl))

/-- The kernel's results are the projected groups of columns of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v31_0) = spunArr co si (argX m c) (argG m c) (argW m c) 0
      ∧ r.2.mem ((c.tc : Thread nD τ).loc main_v31_1) = spunArr co si (argX m c) (argG m c) (argW m c) 512
      ∧ r.2.mem ((c.tc : Thread nD τ).loc main_v31_2) = spunArr co si (argX m c) (argG m c) (argW m c) 512
      ∧ r.2.mem ((c.tc : Thread nD τ).loc main_v31_3) = plainArr (argX m c) (argG m c) (argW m c) 1024
      ∧ r.2.mem ((c.tc : Thread nD τ).loc main_v31_4) = plainArr (argX m c) (argG m c) (argW m c) 1024
      ∧ r.2.mem ((c.tc : Thread nD τ).loc main_v31_5) = plainArr (argX m c) (argG m c) (argW m c) 1536
      ∧ r.2.mem ((c.tc : Thread nD τ).loc main_v31_6) = spunArr co si (argX m c) (argG m c) (argW m c) 2048
      ∧ r.2.mem ((c.tc : Thread nD τ).loc main_v31_7) = spunArr co si (argX m c) (argG m c) (argW m c) 2560
      ∧ r.2.mem ((c.tc : Thread nD τ).loc main_v31_8) = spunArr co si (argX m c) (argG m c) (argW m c) 2560
      ∧ r.2.mem ((c.tc : Thread nD τ).loc main_v31_9) = plainArr (argX m c) (argG m c) (argW m c) 3072
      ∧ r.2.mem ((c.tc : Thread nD τ).loc main_v31_10) = plainArr (argX m c) (argG m c) (argW m c) 3072
      ∧ r.2.mem ((c.tc : Thread nD τ).loc main_v31_11) = plainArr (argX m c) (argG m c) (argW m c) 3584
      ∧ r.2.mem ((c.tc : Thread nD τ).loc main_v31_12) = spunArr co si (argX m c) (argG m c) (argW m c) 4096
      ∧ r.2.mem ((c.tc : Thread nD τ).loc main_v31_13) = tailArr co si (argX m c) (argG m c) (argW m c)
      ∧ r.2.mem ((c.tc : Thread nD τ).loc main_v31_14) = tailArr co si (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9, h10, h11, h12, h13, h14, hargs⟩ := h c
    exact ⟨h0.trans (final_5 m c), h1.trans (final_6 m c), h2.trans (final_7 m c), h3.trans (final_8 m c), h4.trans (final_9 m c), h5.trans (final_10 m c), h6.trans (final_11 m c), h7.trans (final_12 m c), h8.trans (final_13 m c), h9.trans (final_14 m c), h10.trans (final_15 m c), h11.trans (final_16 m c), h12.trans (final_17 m c), h13.trans (final_18 m c), h14.trans (final_19 m c), hargs⟩)
    (Value.run_blocks m ρ)

end Cert.Kernel4Ideal.Turn
-- ==== Proof.Wide.lean ====
/- The turn of sixteen heads, over any number of rows. -/
module

public import Idealize.ShloMosaic.Lib.Pointwise
public import Idealize.ShloMosaic.Lib.WordCmp
public import proofs.«01_k».proof.Proof.Spin

@[expose] public section

set_option maxRecDepth 16384

noncomputable section

namespace Cert.Spin

open Idealize.ShloMosaic Idealize.ShloMosaic.TcCoe Idealize.SL.Sem

variable {n : ℕ}

/-- Sixteen heads turned by their positions. -/
def roped16 (hi : (Sh n 128).Iotas .tc 32 [1]) (hr : (Sh n 128).Rotates 1 none)
    (h0 : (Sh n 1024).Slices ![0, 0] (Sh n 128)) (h128 : (Sh n 1024).Slices ![0, 128] (Sh n 128)) (h256 : (Sh n 1024).Slices ![0, 256] (Sh n 128)) (h384 : (Sh n 1024).Slices ![0, 384] (Sh n 128))
    (h512 : (Sh n 1024).Slices ![0, 512] (Sh n 128)) (h640 : (Sh n 1024).Slices ![0, 640] (Sh n 128)) (h768 : (Sh n 1024).Slices ![0, 768] (Sh n 128)) (h896 : (Sh n 1024).Slices ![0, 896] (Sh n 128))
    (hc : Shape.Concatenates [Sh n 128, Sh n 128, Sh n 128, Sh n 128, Sh n 128, Sh n 128, Sh n 128, Sh n 128] (Sh n 1024) 1) (c s : FVec Ideal (Sh n 128) .f32) (z : FVec Ideal (Sh n 1024) .f32) : FVec Ideal (Sh n 1024) .f32 :=
  concatenate (Sh n 1024) 1 [⟨Sh n 128, turn hi hr c s (extractStridedSlice (Sh n 128) ![0, 0] z h0)⟩,
    ⟨Sh n 128, turn hi hr c s (extractStridedSlice (Sh n 128) ![0, 128] z h128)⟩,
    ⟨Sh n 128, turn hi hr c s (extractStridedSlice (Sh n 128) ![0, 256] z h256)⟩,
    ⟨Sh n 128, turn hi hr c s (extractStridedSlice (Sh n 128) ![0, 384] z h384)⟩,
    ⟨Sh n 128, turn hi hr c s (extractStridedSlice (Sh n 128) ![0, 512] z h512)⟩,
    ⟨Sh n 128, turn hi hr c s (extractStridedSlice (Sh n 128) ![0, 640] z h640)⟩,
    ⟨Sh n 128, turn hi hr c s (extractStridedSlice (Sh n 128) ![0, 768] z h768)⟩,
    ⟨Sh n 128, turn hi hr c s (extractStridedSlice (Sh n 128) ![0, 896] z h896)⟩] hc

/-- A turned group of sixteen heads at an index. -/
theorem roped16_apply (hi : (Sh n 128).Iotas .tc 32 [1]) (hr : (Sh n 128).Rotates 1 none)
    (h0 : (Sh n 1024).Slices ![0, 0] (Sh n 128)) (h128 : (Sh n 1024).Slices ![0, 128] (Sh n 128)) (h256 : (Sh n 1024).Slices ![0, 256] (Sh n 128)) (h384 : (Sh n 1024).Slices ![0, 384] (Sh n 128))
    (h512 : (Sh n 1024).Slices ![0, 512] (Sh n 128)) (h640 : (Sh n 1024).Slices ![0, 640] (Sh n 128)) (h768 : (Sh n 1024).Slices ![0, 768] (Sh n 128)) (h896 : (Sh n 1024).Slices ![0, 896] (Sh n 128))
    (hc : Shape.Concatenates [Sh n 128, Sh n 128, Sh n 128, Sh n 128, Sh n 128, Sh n 128, Sh n 128, Sh n 128] (Sh n 1024) 1) (c s : FVec Ideal (Sh n 128) .f32) (z : FVec Ideal (Sh n 1024) .f32) (r : Fin n) (j : Fin 1024) :
    roped16 hi hr h0 h128 h256 h384 h512 h640 h768 h896 hc c s z (ix2 r j)
      = (z (ix2 r j) * c (ix2 r (Fin.ofNat 128 j.val)) + z (ix2 r (mate 1024 j.val)) * s (ix2 r (Fin.ofNat 128 j.val)) : EReal) := by
  have hj := j.isLt
  pointwise [roped16]
  by_cases g0 : j.val < 128
  · rw [dif_pos g0]
    exact (congrArg _ (at2 _ _ _ rfl rfl)).trans <| quarter hi hr c s z 0 _ rfl (by decide) r j ⟨j.val, by omega⟩ (by show j.val = 0 + (j.val); omega)
  rw [dif_neg g0]
  by_cases g1 : j.val - 128 < 128
  · rw [dif_pos g1]
    exact (congrArg _ (at2 _ _ _ rfl rfl)).trans <| quarter hi hr c s z 128 _ rfl (by decide) r j ⟨j.val - 128, by omega⟩ (by show j.val = 128 + (j.val - 128); omega)
  rw [dif_neg g1]
  by_cases g2 : j.val - 128 - 128 < 128
  · rw [dif_pos g2]
    exact (congrArg _ (at2 _ _ _ rfl rfl)).trans <| quarter hi hr c s z 256 _ rfl (by decide) r j ⟨j.val - 128 - 128, by omega⟩ (by show j.val = 256 + (j.val - 128 - 128); omega)
  rw [dif_neg g2]
  by_cases g3 : j.val - 128 - 128 - 128 < 128
  · rw [dif_pos g3]
    exact (congrArg _ (at2 _ _ _ rfl rfl)).trans <| quarter hi hr c s z 384 _ rfl (by decide) r j ⟨j.val - 128 - 128 - 128, by omega⟩ (by show j.val = 384 + (j.val - 128 - 128 - 128); omega)
  rw [dif_neg g3]
  by_cases g4 : j.val - 128 - 128 - 128 - 128 < 128
  · rw [dif_pos g4]
    exact (congrArg _ (at2 _ _ _ rfl rfl)).trans <| quarter hi hr c s z 512 _ rfl (by decide) r j ⟨j.val - 128 - 128 - 128 - 128, by omega⟩ (by show j.val = 512 + (j.val - 128 - 128 - 128 - 128); omega)
  rw [dif_neg g4]
  by_cases g5 : j.val - 128 - 128 - 128 - 128 - 128 < 128
  · rw [dif_pos g5]
    exact (congrArg _ (at2 _ _ _ rfl rfl)).trans <| quarter hi hr c s z 640 _ rfl (by decide) r j ⟨j.val - 128 - 128 - 128 - 128 - 128, by omega⟩ (by show j.val = 640 + (j.val - 128 - 128 - 128 - 128 - 128); omega)
  rw [dif_neg g5]
  by_cases g6 : j.val - 128 - 128 - 128 - 128 - 128 - 128 < 128
  · rw [dif_pos g6]
    exact (congrArg _ (at2 _ _ _ rfl rfl)).trans <| quarter hi hr c s z 768 _ rfl (by decide) r j ⟨j.val - 128 - 128 - 128 - 128 - 128 - 128, by omega⟩ (by show j.val = 768 + (j.val - 128 - 128 - 128 - 128 - 128 - 128); omega)
  rw [dif_neg g6]
  exact (congrArg _ (at2 _ _ _ rfl rfl)).trans <| quarter hi hr c s z 896 _ rfl (by decide) r j ⟨j.val - 128 - 128 - 128 - 128 - 128 - 128 - 128, by omega⟩ (by show j.val = 896 + (j.val - 128 - 128 - 128 - 128 - 128 - 128 - 128); omega)

/-- A turned group of sixteen heads of a row. -/
theorem roped16_row (hi : (Sh n 128).Iotas .tc 32 [1]) (hr : (Sh n 128).Rotates 1 none)
    (h0 : (Sh n 1024).Slices ![0, 0] (Sh n 128)) (h128 : (Sh n 1024).Slices ![0, 128] (Sh n 128)) (h256 : (Sh n 1024).Slices ![0, 256] (Sh n 128)) (h384 : (Sh n 1024).Slices ![0, 384] (Sh n 128))
    (h512 : (Sh n 1024).Slices ![0, 512] (Sh n 128)) (h640 : (Sh n 1024).Slices ![0, 640] (Sh n 128)) (h768 : (Sh n 1024).Slices ![0, 768] (Sh n 128)) (h896 : (Sh n 1024).Slices ![0, 896] (Sh n 128))
    (hc : Shape.Concatenates [Sh n 128, Sh n 128, Sh n 128, Sh n 128, Sh n 128, Sh n 128, Sh n 128, Sh n 128] (Sh n 1024) 1) (c s : FVec Ideal (Sh n 128) .f32) (z : FVec Ideal (Sh n 1024) .f32) (r : Fin n) (C S R : ℕ → EReal) (o : ℕ)
    (eC : ∀ l : Fin 128, c (ix2 r l) = C l.val) (eS : ∀ l : Fin 128, s (ix2 r l) = if l.val % 64 < 32 then -S l.val else S l.val)
    (ez : ∀ j : Fin 1024, z (ix2 r j) = R (o + j.val)) (mC : ∀ j, C (j % 128) = C j) (mS : ∀ j, S (j % 128) = S j) (j : Fin 1024) :
    roped16 hi hr h0 h128 h256 h384 h512 h640 h768 h896 hc c s z (ix2 r j) = spun C S R o j.val := by
  have hj := j.isLt
  rw [roped16_apply, eC, eS, ez, ez]
  have e1 : (Fin.ofNat 128 j.val).val = j.val % 128 := rfl
  have e2 : (mate 1024 j.val).val = if j.val % 64 < 32 then j.val + 32 else j.val - 32 := by
    show (if j.val % 64 < 32 then j.val + 32 else j.val - 32) % 1024 = _
    split_ifs <;> omega
  have e5 : j.val % 128 % 64 = j.val % 64 := by omega
  rw [e1, e2, mC, mS, e5]
  rfl

end Cert.Spin
-- ==== Proof.Odd.lean ====
/- The prompt's projection in layer 1: its launch leaves the projected groups of columns of its rows. -/
module

public import proofs.«01_k».proof.Proof.Wide
public import proofs.«01_k».proof.Proof.Rows
public import proofs.«01_k».proof.Proof.Gen.Kernel5Ideal.Frame
public import proofs.«01_k».proof.Proof.Gen.Kernel5Ideal.Value
public import Idealize.ShloMosaic.Lib.Pipeline.ValueKit

@[expose] public section

set_option maxRecDepth 16384

noncomputable section

namespace Cert.Kernel5Ideal.Turn

open Idealize.ShloMosaic Idealize.ShloMosaic.TcCoe Idealize.SL.Sem Idealize.ShloMosaic.StableHlo
open Cert.Kernel5Ideal Cert.Kernel5Ideal.Gen
open Cert.Kernel2Ideal.Turn (angle cosAt sinAt)
open Cert.Spin (hid wAt row tab_128 four_apply roped16_row)

/-- A group of columns as an array. -/
abbrev plainArr (x : S16384x1024.Idx → EReal) (g : S1024.Idx → EReal) (w : S1024x4096.Idx → EReal) (o : ℕ) : S16384x1024.Idx → EReal :=
  Spin.plainArr x g w o
/-- A turned group of columns as an array. -/
abbrev spunArr (x : S16384x1024.Idx → EReal) (g : S1024.Idx → EReal) (w : S1024x4096.Idx → EReal) (o : ℕ) : S16384x1024.Idx → EReal :=
  Spin.spunArr (Host.cos (F := Ideal) angle) (Host.sin (F := Ideal) angle) x g w o

variable (m : (ℓ : Loc nD τ sig) → Buf (Elt Ideal) ℓ)

/-- The three arguments. -/
abbrev argX (c : Dev nD) : S16384x1024.Idx → EReal := m ((c.tc : Thread nD τ).loc main_arg0)
abbrev argG (c : Dev nD) : S1024.Idx → EReal := m ((c.tc : Thread nD τ).loc main_arg1)
abbrev argW (c : Dev nD) : S1024x4096.Idx → EReal := m ((c.tc : Thread nD τ).loc main_arg2)

/-- The table of cosines. -/
theorem V_cos (c : Dev nD) : V m c main_v19 = concatenate S16384x128 1 [⟨S16384x32, Host.cos angle⟩, ⟨S16384x32, Host.cos angle⟩, ⟨S16384x32, Host.cos angle⟩, ⟨S16384x32, Host.cos angle⟩] concatenates_S16384x32_S16384x32_S16384x32_S16384x32_S16384x128_d1 := by
  unfold V
  simp only [hostOps0]
  after_results_simp
  all_goals rfl

/-- The table of sines, the first half of each head negated. -/
theorem V_sin (c : Dev nD) : V m c main_v22 = concatenate S16384x128 1 [⟨S16384x32, Host.negf (Host.sin angle)⟩, ⟨S16384x32, Host.sin angle⟩, ⟨S16384x32, Host.negf (Host.sin angle)⟩, ⟨S16384x32, Host.sin angle⟩] concatenates_S16384x32_S16384x32_S16384x32_S16384x32_S16384x128_d1 := by
  unfold V
  simp only [hostOps0]
  after_results_simp
  all_goals rfl

/-- The weights. -/
theorem V_w (c : Dev nD) : V m c main_v23 = (truncf .bf16 (m ((c.tc : Thread nD τ).loc main_arg2) : FVec Ideal S1024x4096 .f32) bitsLt_bf16_f32 : FVec Ideal S1024x4096 .bf16) := by
  unfold V
  simp only [hostOps0]
  after_results_simp
  all_goals rfl

/-- The gain as a row. -/
theorem V_g (c : Dev nD) : V m c main_v24 = (shapeCast S1x1024 (m ((c.tc : Thread nD τ).loc main_arg1) : FVec Ideal S1024 .f32) shapeCasts_S1024_S1x1024 : FVec Ideal S1x1024 .f32) := by
  unfold V
  simp only [hostOps0]
  after_results_simp
  all_goals rfl

theorem index_in : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0])

/-- A row of a block in the whole array. -/
def at_ (t : Fin cfg0.N) (r : Fin 256) : Fin 16384 := Fin.ofNat 16384 (256 * t.val + r.val)

theorem at_val (t : Fin cfg0.N) (r : Fin 256) : (at_ t r).val = 256 * t.val + r.val := by
  have hN : t.val < 64 := lt_of_lt_of_eq t.isLt (show cfg0.N = 64 from N_0)
  have hr := r.isLt
  show (256 * t.val + r.val) % 16384 = _
  omega

theorem blk_x (c : Dev nD) (t : Fin cfg0.N) (r : Fin 256) (k : Fin 1024) :
    View.ld (iblk m c 0 t) r0_1 (ix2 r k) = argX m c (ix2 (at_ t r) k) := by
  have e : V m c main_arg0 = argX m c := V_main_arg0 m c
  refine Eq.trans ?_ (congrFun e (ix2 (at_ t r) k))
  refine congrArg (V m c main_arg0) (funext fun a => Fin.ext ?_)
  have hi := (index_in t).1
  match a with
  | ⟨0, _⟩ =>
    have e : win0_0.index t 0 = t.val := by rw [hi]; rfl
    exact (by rw [e, at_val]; omega : win0_0.index t 0 * 256 + 1 * (0 + 1 * r.val) = (at_ t r).val)
  | ⟨1, _⟩ =>
    have e : win0_0.index t 1 = 0 := by rw [hi]; rfl
    exact (by rw [e]; omega : win0_0.index t 1 * 1024 + 1 * (0 + 1 * k.val) = k.val)

theorem blk_g (c : Dev nD) (t : Fin cfg0.N) (k : Fin 1024) :
    View.ld (iblk m c 1 t) r0_2 (ix2 0 k) = argG m c (ix1 k) := by
  have e : V m c main_v24 (ix2 0 k) = argG m c (ix1 k) := by
    rw [V_g]
    pointwise
  refine Eq.trans ?_ e
  refine congrArg (V m c main_v24) (funext fun a => Fin.ext ?_)
  have hi := (index_in t).2.1
  match a with
  | ⟨0, _⟩ =>
    have e : win0_1.index t 0 = 0 := by rw [hi]; rfl
    exact (by rw [e] : win0_1.index t 0 * 1 + 1 * (0 + 1 * 0) = 0)
  | ⟨1, _⟩ =>
    have e : win0_1.index t 1 = 0 := by rw [hi]; rfl
    exact (by rw [e]; omega : win0_1.index t 1 * 1024 + 1 * (0 + 1 * k.val) = k.val)

theorem weight (c : Dev nD) (k : Fin 1024) (j : Fin 4096) : V m c main_v23 (ix2 k j) = wAt (argW m c) k j.val := by
  rw [V_w]
  unfold wAt
  rw [dif_pos j.isLt]
  rfl

theorem blk_w (c : Dev nD) (t : Fin cfg0.N) (o n : ℕ) (inb) (k : Fin 1024) (j : Fin n) :
    View.ld (iblk m c 2 t) (Rect.unit (s := S1024x4096) ![0, o] (⟨2, ![1024, n]⟩ : Shape).size inb) (ix2 k j) = wAt (argW m c) k (o + j.val) := by
  have hb : o + n ≤ 4096 := inb 1
  have hj := j.isLt
  refine Eq.trans ?_ (weight m c k ⟨o + j.val, by omega⟩)
  refine congrArg (V m c main_v23) (funext fun a => Fin.ext ?_)
  have hi := (index_in t).2.2.1
  match a with
  | ⟨0, _⟩ =>
    have e : win0_2.index t 0 = 0 := by rw [hi]; rfl
    exact (by rw [e]; omega : win0_2.index t 0 * 1024 + 1 * (0 + 1 * k.val) = k.val)
  | ⟨1, _⟩ =>
    have e : win0_2.index t 1 = 0 := by rw [hi]; rfl
    exact (by rw [e]; omega : win0_2.index t 1 * 4096 + 1 * (o + 1 * j.val) = o + j.val)

theorem table_cos (c : Dev nD) (t : Fin 16384) (l : Fin 128) : V m c main_v19 (ix2 t l) = cosAt t l.val := by
  rw [V_cos]
  exact (four_apply _ _ _ t l).trans (ite_self _)

theorem table_sin (c : Dev nD) (t : Fin 16384) (l : Fin 128) :
    V m c main_v22 (ix2 t l) = (if l.val % 64 < 32 then -sinAt t l.val else sinAt t l.val : EReal) := by
  rw [V_sin]
  exact four_apply _ _ _ t l

theorem blk_c (c : Dev nD) (t : Fin cfg0.N) (r : Fin 256) (l : Fin 128) :
    k0_pay6 (View.ld (iblk m c 3 t) r0_0) (ix2 r l) = cosAt (at_ t r) l.val := by
  refine Eq.trans ?_ (table_cos m c (at_ t r) l)
  pointwise [k0_pay6]
  refine congrArg (V m c main_v19) (funext fun a => Fin.ext ?_)
  have hi := (index_in t).2.2.2.1
  match a with
  | ⟨0, _⟩ =>
    have e : win0_3.index t 0 = t.val := by rw [hi]; rfl
    exact (by rw [e, at_val]; omega : win0_3.index t 0 * 256 + 1 * r.val = (at_ t r).val)
  | ⟨1, _⟩ =>
    have e : win0_3.index t 1 = 0 := by rw [hi]; rfl
    exact (by rw [e]; omega : win0_3.index t 1 * 128 + 1 * l.val = l.val)

theorem blk_s (c : Dev nD) (t : Fin cfg0.N) (r : Fin 256) (l : Fin 128) :
    k0_pay7 (View.ld (iblk m c 4 t) r0_0) (ix2 r l) = (if l.val % 64 < 32 then -sinAt (at_ t r) l.val else sinAt (at_ t r) l.val : EReal) := by
  refine Eq.trans ?_ (table_sin m c (at_ t r) l)
  pointwise [k0_pay7]
  refine congrArg (V m c main_v22) (funext fun a => Fin.ext ?_)
  have hi := (index_in t).2.2.2.2
  match a with
  | ⟨0, _⟩ =>
    have e : win0_4.index t 0 = t.val := by rw [hi]; rfl
    exact (by rw [e, at_val]; omega : win0_4.index t 0 * 256 + 1 * r.val = (at_ t r).val)
  | ⟨1, _⟩ =>
    have e : win0_4.index t 1 = 0 := by rw [hi]; rfl
    exact (by rw [e]; omega : win0_4.index t 1 * 128 + 1 * l.val = l.val)

/-- The normed rows of a block. -/
theorem hid_block (c : Dev nD) (t : Fin cfg0.N) (r : Fin 256) (k : Fin 1024) :
    k0_pay8 (View.ld (iblk m c 0 t) r0_1) (View.ld (iblk m c 1 t) r0_2) (ix2 r k) = hid (argX m c) (fun k => argG m c (ix1 k)) (at_ t r) k := by
  have e : ∀ (x : Vec Ideal S256x1024 .f32) (g : Vec Ideal S1x1024 .f32), k0_pay8 x g (ix2 r k) = hid x (fun k => g (ix2 0 k)) r k := by
    intro x g
    pointwise [k0_pay8, hid]
  refine (e _ _).trans ?_
  unfold hid
  simp only [blk_x, blk_g]

/-- A group of columns of a block. -/
theorem plain_block (c : Dev nD) (t : Fin cfg0.N) (o : ℕ) (inb) (r : Fin 256) (j : Fin 1024) :
    k0_pay3 (k0_pay8 (View.ld (iblk m c 0 t) r0_1) (View.ld (iblk m c 1 t) r0_2))
      (View.ld (iblk m c 2 t) (Rect.unit (s := S1024x4096) ![0, o] S1024x1024.size inb)) (ix2 r j)
      = row (argX m c) (argG m c) (argW m c) (at_ t r) (o + j.val) := by
  have e : ∀ (h : FVec Ideal S256x1024 .bf16) (w : Vec Ideal S1024x1024 .bf16),
      k0_pay3 h w (ix2 r j) = ∑ k : Fin 1024, (h (ix2 r k) * w (ix2 k j) : EReal) := by
    intro h w
    pointwise [k0_pay3]
  refine (e _ _).trans (Finset.sum_congr rfl fun k _ => ?_)
  rw [hid_block]
  exact congrArg _ (blk_w m c t o 1024 inb k j)

/-- Every output's block at a point is the point's rows. -/
theorem index_out : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0])

/-- An index whose coordinates are a block's rows and its column. -/
theorem spot (t : Fin cfg0.N) (n : ℕ) (i : Fin 2 → ℕ) (hi : i = ![t.val, 0]) (r : Fin 256) (j : Fin n) (z : Shape.Idx ⟨2, ![16384, n]⟩)
    (h0 : (z 0).val = i 0 * 256 + 1 * r.val) (h1 : (z 1).val = i 1 * n + 1 * j.val) : z = ix2 (at_ t r) j := by
  have e0 : i 0 = t.val := by rw [hi]; rfl
  have e1 : i 1 = 0 := by rw [hi]; rfl
  rw [e0] at h0
  rw [e1] at h1
  funext a
  match a with
  | ⟨0, _⟩ => exact Fin.ext ((h0.trans (by omega)).trans (at_val t r).symm)
  | ⟨1, _⟩ => exact Fin.ext (h1.trans (by show 0 * n + 1 * j.val = j.val; omega))

/-- A stored group of columns is the whole array's. -/
theorem plain_spot (c : Dev nD) (t : Fin cfg0.N) (o : ℕ) (inb) (i : Fin 2 → ℕ) (hi : i = ![t.val, 0]) (y : S256x1024.Idx) (z : S16384x1024.Idx)
    (h0 : (z 0).val = i 0 * 256 + 1 * (y 0).val) (h1 : (z 1).val = i 1 * 1024 + 1 * (y 1).val) :
    k0_pay3 (k0_pay8 (View.ld (iblk m c 0 t) r0_1) (View.ld (iblk m c 1 t) r0_2))
      (View.ld (iblk m c 2 t) (Rect.unit (s := S1024x4096) ![0, o] S1024x1024.size inb)) y
      = plainArr (argX m c) (argG m c) (argW m c) o z := by
  rw [spot t 1024 i hi (y 0) (y 1) z h0 h1, show y = ix2 (y 0) (y 1) from eq_ix2 y]
  exact plain_block m c t o inb (y 0) (y 1)

/-- A stored turned group of columns is the whole array's. -/
theorem spun_spot (c : Dev nD) (t : Fin cfg0.N) (o : ℕ) (inb) (i : Fin 2 → ℕ) (hi : i = ![t.val, 0]) (y : S256x1024.Idx) (z : S16384x1024.Idx)
    (h0 : (z 0).val = i 0 * 256 + 1 * (y 0).val) (h1 : (z 1).val = i 1 * 1024 + 1 * (y 1).val) :
    Spin.roped16 iota_S256x128_d1_w32 rotates_S256x128_d1 slices_S256x1024_o0_0_S256x128 slices_S256x1024_o0_128_S256x128 slices_S256x1024_o0_256_S256x128 slices_S256x1024_o0_384_S256x128 slices_S256x1024_o0_512_S256x128 slices_S256x1024_o0_640_S256x128 slices_S256x1024_o0_768_S256x128 slices_S256x1024_o0_896_S256x128
      concatenates_S256x128_S256x128_S256x128_S256x128_S256x128_S256x128_S256x128_S256x128_S256x1024_d1
      (k0_pay6 (View.ld (iblk m c 3 t) r0_0)) (k0_pay7 (View.ld (iblk m c 4 t) r0_0))
      (k0_pay3 (k0_pay8 (View.ld (iblk m c 0 t) r0_1) (View.ld (iblk m c 1 t) r0_2))
        (View.ld (iblk m c 2 t) (Rect.unit (s := S1024x4096) ![0, o] S1024x1024.size inb))) y
      = spunArr (argX m c) (argG m c) (argW m c) o z := by
  rw [spot t 1024 i hi (y 0) (y 1) z h0 h1, show y = ix2 (y 0) (y 1) from eq_ix2 y]
  exact roped16_row _ _ _ _ _ _ _ _ _ _ _ _ _ _ (y 0) _ _ _ o (blk_c m c t (y 0)) (blk_s m c t (y 0)) (plain_block m c t o inb (y 0)) (tab_128 _ _) (tab_128 _ _) (y 1)

/-- A store through the whole of a block leaves its payload. -/
theorem whole (e : EltTy) (p : S256x1024.Idx → Elt Ideal e) : View.canon [⟨r0_1, p⟩] = p := by
  funext y
  have h := View.canon_cons_emb (Val := Elt Ideal) (e := e) r0_1 p [] y
  rwa [show r0_1.emb y = y from funext fun a => Fin.ext (match a with
    | ⟨0, _⟩ => (by omega : 0 + 1 * (y 0).val = (y 0).val) | ⟨1, _⟩ => (by omega : 0 + 1 * (y 1).val = (y 1).val))] at h

theorem final_5 (c : Dev nD) : (dats m 0 c).arrAt 5 cfg0.N = spunArr (argX m c) (argG m c) (argW m c) 0 := by
  refine (dats m 0 c).arrAt_eq_of_covers 5 _ (by decide +kernel) fun t _ y => ?_
  exact (congrFun (Value.flushed5 m c t) y).trans ((congrFun (whole .f32 _) y).trans (spun_spot m c t 0 _ _ (index_out t).1 y _ rfl rfl))

theorem final_6 (c : Dev nD) : (dats m 0 c).arrAt 6 cfg0.N = spunArr (argX m c) (argG m c) (argW m c) 1024 := by
  refine (dats m 0 c).arrAt_eq_of_covers 6 _ (by decide +kernel) fun t _ y => ?_
  exact (congrFun (Value.flushed6 m c t) y).trans ((congrFun (whole .f32 _) y).trans (spun_spot m c t 1024 _ _ (index_out t).2.1 y _ rfl rfl))

theorem final_7 (c : Dev nD) : (dats m 0 c).arrAt 7 cfg0.N = spunArr (argX m c) (argG m c) (argW m c) 1024 := by
  refine (dats m 0 c).arrAt_eq_of_covers 7 _ (by decide +kernel) fun t _ y => ?_
  exact (congrFun (Value.flushed7 m c t) y).trans ((congrFun (whole .bf16 _) y).trans (spun_spot m c t 1024 _ _ (index_out t).2.2.1 y _ rfl rfl))

theorem final_8 (c : Dev nD) : (dats m 0 c).arrAt 8 cfg0.N = plainArr (argX m c) (argG m c) (argW m c) 2048 := by
  refine (dats m 0 c).arrAt_eq_of_covers 8 _ (by decide +kernel) fun t _ y => ?_
  exact (congrFun (Value.flushed8 m c t) y).trans ((congrFun (whole .f32 _) y).trans (plain_spot m c t 2048 _ _ (index_out t).2.2.2.1 y _ rfl rfl))

theorem final_9 (c : Dev nD) : (dats m 0 c).arrAt 9 cfg0.N = plainArr (argX m c) (argG m c) (argW m c) 2048 := by
  refine (dats m 0 c).arrAt_eq_of_covers 9 _ (by decide +kernel) fun t _ y => ?_
  exact (congrFun (Value.flushed9 m c t) y).trans ((congrFun (whole .bf16 _) y).trans (plain_spot m c t 2048 _ _ (index_out t).2.2.2.2.1 y _ rfl rfl))

theorem final_10 (c : Dev nD) : (dats m 0 c).arrAt 10 cfg0.N = plainArr (argX m c) (argG m c) (argW m c) 3072 := by
  refine (dats m 0 c).arrAt_eq_of_covers 10 _ (by decide +kernel) fun t _ y => ?_
  exact (congrFun (Value.flushed10 m c t) y).trans ((congrFun (whole .f32 _) y).trans (plain_spot m c t 3072 _ _ (index_out t).2.2.2.2.2 y _ rfl rfl))

/-- The kernel's results are the projected groups of columns of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v25_0) = spunArr (argX m c) (argG m c) (argW m c) 0
      ∧ r.2.mem ((c.tc : Thread nD τ).loc main_v25_1) = spunArr (argX m c) (argG m c) (argW m c) 1024
      ∧ r.2.mem ((c.tc : Thread nD τ).loc main_v25_2) = spunArr (argX m c) (argG m c) (argW m c) 1024
      ∧ r.2.mem ((c.tc : Thread nD τ).loc main_v25_3) = plainArr (argX m c) (argG m c) (argW m c) 2048
      ∧ r.2.mem ((c.tc : Thread nD τ).loc main_v25_4) = plainArr (argX m c) (argG m c) (argW m c) 2048
      ∧ r.2.mem ((c.tc : Thread nD τ).loc main_v25_5) = plainArr (argX m c) (argG m c) (argW m c) 3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, hargs⟩ := h c
    exact ⟨h0.trans (final_5 m c), h1.trans (final_6 m c), h2.trans (final_7 m c), h3.trans (final_8 m c), h4.trans (final_9 m c), h5.trans (final_10 m c), hargs⟩)
    (Value.run_blocks m ρ)

end Cert.Kernel5Ideal.Turn
-- ==== Proof.OddRef.lean ====
/- The reference's projection in layer 1 at an index. -/
module

public import proofs.«01_k».proof.Proof.Odd
public import proofs.«01_k».proof.Proof.Gen.Reference5Ideal.Run

@[expose] public section

set_option maxRecDepth 16384

noncomputable section

namespace Cert.Reference5Ideal.Turn

open Idealize.ShloMosaic Idealize.ShloMosaic.TcCoe Idealize.SL.Sem
open Cert.Reference5Ideal Cert.Reference5Ideal.Gen
open Cert.Kernel2Ideal.Turn (cosAt sinAt angle)
open Cert.Kernel5Ideal.Turn (plainArr spunArr)
open Cert.Spin (hid wAt row tab tab_32 tab_lane pair pair_lo pair_hi pair_eq)

/-- The projection of every row. -/
def proj (x : FVec Ideal S16384x1024 .f32) (g : FVec Ideal S1024 .f32) (w : FVec Ideal S1024x4096 .f32) : FVec Ideal S16384x4096 .f32 :=
  Host.dotGeneral dot_S16384x1024_S1024x4096_S16384x4096_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem proj_apply (x : FVec Ideal S16384x1024 .f32) (g : FVec Ideal S1024 .f32) (w : FVec Ideal S1024x4096 .f32) (t : Fin 16384) (j : Fin 4096) :
    proj x g w (ix2 t j) = row x g w t j.val := by
  have hj := j.isLt
  unfold row hid wAt
  pointwise [proj]

/-- Sixteen heads turned by their positions. -/
def turned (z : FVec Ideal S16384x16x64 .f32) (co si : FVec Ideal S16384x32 .f32) : FVec Ideal S16384x1024 .f32 :=
  shapeCast _ (concatenate S16384x16x64 2 [⟨S16384x16x32, (subf (mulf (extractStridedSlice S16384x16x32 ![0, 0, 0] z slices_S16384x16x64_S16384x16x32_0_0_0) (broadcastInDim S16384x16x32 ![0, 1, 2] bcast_S16384x1x32_S16384x16x32_0_1_2 (broadcastInDim S16384x1x32 ![0, 2] bcast_S16384x32_S16384x1x32_0_2 co))) (mulf (extractStridedSlice S16384x16x32 ![0, 0, 32] z slices_S16384x16x64_S16384x16x32_0_0_32) (broadcastInDim S16384x16x32 ![0, 1, 2] bcast_S16384x1x32_S16384x16x32_0_1_2 (broadcastInDim S16384x1x32 ![0, 2] bcast_S16384x32_S16384x1x32_0_2 si))))⟩, ⟨S16384x16x32, (addf (mulf (extractStridedSlice S16384x16x32 ![0, 0, 32] z slices_S16384x16x64_S16384x16x32_0_0_32) (broadcastInDim S16384x16x32 ![0, 1, 2] bcast_S16384x1x32_S16384x16x32_0_1_2 (broadcastInDim S16384x1x32 ![0, 2] bcast_S16384x32_S16384x1x32_0_2 co))) (mulf (extractStridedSlice S16384x16x32 ![0, 0, 0] z slices_S16384x16x64_S16384x16x32_0_0_0) (broadcastInDim S16384x16x32 ![0, 1, 2] bcast_S16384x1x32_S16384x16x32_0_1_2 (broadcastInDim S16384x1x32 ![0, 2] bcast_S16384x32_S16384x1x32_0_2 si))))⟩] concatenates_S16384x16x32_S16384x16x32_S16384x16x64_d2) shapeCasts_S16384x16x64_S16384x1024

/-- Sixteen turned heads at an index. -/
theorem turned_apply (z : FVec Ideal S16384x16x64 .f32) (co si : FVec Ideal S16384x32 .f32) (t : Fin 16384) (R C S : ℕ → EReal) (o : ℕ)
    (hz : ∀ (h : Fin 16) (i : Fin 64), z (ix3 t h i) = R (o + (64 * h.val + i.val)))
    (hc : ∀ i : Fin 32, co (ix2 t i) = C i.val) (hs : ∀ i : Fin 32, si (ix2 t i) = S i.val) (j : Fin 1024) :
    turned z co si (ix2 t j) = pair R C S o j.val := by
  have hj := j.isLt
  pointwise [turned]
  by_cases h : j.val % 64 < 32
  · simp only [dif_pos h, hz, hc, hs]
    exact pair_lo R C S o j.val h _ _ _ _ (by omega) (by omega) (by omega) (by omega)
  · simp only [dif_neg h, hz, hc, hs]
    exact pair_hi R C S o j.val h _ _ _ _ (by omega) (by omega) (by omega) (by omega)

/-- A group of the projection's columns. -/
theorem plain_eq (x : FVec Ideal S16384x1024 .f32) (g : FVec Ideal S1024 .f32) (w : FVec Ideal S1024x4096 .f32) (o : ℕ) (h : S16384x4096.Slices ![0, o] S16384x1024) :
    extractStridedSlice S16384x1024 ![0, o] (proj x g w) h = plainArr x g w o := by
  funext y
  rw [eq_ix2 y]
  generalize y 0 = t, y 1 = j
  have hb : o + 1024 ≤ 4096 := h.2 1
  pointwise
  exact proj_apply x g w t _

/-- A group of the projection's columns, turned. -/
theorem turned_eq (x : FVec Ideal S16384x1024 .f32) (g : FVec Ideal S1024 .f32) (w : FVec Ideal S1024x4096 .f32) (o : ℕ) (h : S16384x4096.Slices ![0, o] S16384x1024) :
    turned (shapeCast _ (extractStridedSlice S16384x1024 ![0, o] (proj x g w) h) shapeCasts_S16384x1024_S16384x16x64) (Host.cos angle) (Host.sin angle) = spunArr x g w o := by
  funext y
  rw [eq_ix2 y]
  refine (turned_apply _ _ _ (y 0) (row x g w (y 0)) (cosAt (y 0)) (sinAt (y 0)) o (fun a i => ?_) (tab_lane _ (y 0)) (tab_lane _ (y 0)) (y 1)).trans (pair_eq _ _ _ _ _ (tab_32 _ _) (tab_32 _ _))
  rw [plain_eq]
  generalize y 0 = t
  pointwise
  exact congrArg (fun n => row x g w t (o + n)) (by show a.val * 64 + i.val = 64 * a.val + i.val; omega)

/-- The arguments of the reference. -/
abbrev argX (m : (ℓ : Loc nD τ sig) → Buf (Elt Ideal) ℓ) (c : Dev nD) : FVec Ideal S16384x1024 .f32 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x4096 .f32 := m ((c.tc : Thread nD τ).loc main_arg2)

/-- The reference's results are the projected groups of columns of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = spunArr (argX m c) (argG m c) (argW m c) 0
      ∧ r.2.mem ((c.tc : Thread nD τ).loc main_v53) = spunArr (argX m c) (argG m c) (argW m c) 1024
      ∧ r.2.mem ((c.tc : Thread nD τ).loc main_v90) = spunArr (argX m c) (argG m c) (argW m c) 1024
      ∧ r.2.mem ((c.tc : Thread nD τ).loc main_v16) = plainArr (argX m c) (argG m c) (argW m c) 2048
      ∧ r.2.mem ((c.tc : Thread nD τ).loc main_v91) = plainArr (argX m c) (argG m c) (argW m c) 2048
      ∧ r.2.mem ((c.tc : Thread nD τ).loc main_v17) = plainArr (argX m c) (argG m c) (argW m c) 3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (turned_eq (argX m c) (argG m c) (argW m c) 0 slices_S16384x4096_S16384x1024_0_0),
      (h c).2.1.trans (turned_eq (argX m c) (argG m c) (argW m c) 1024 slices_S16384x4096_S16384x1024_0_1024),
      (h c).2.2.1.trans (turned_eq (argX m c) (argG m c) (argW m c) 1024 slices_S16384x4096_S16384x1024_0_1024),
      (h c).2.2.2.1.trans (plain_eq (argX m c) (argG m c) (argW m c) 2048 slices_S16384x4096_S16384x1024_0_2048),
      (h c).2.2.2.2.1.trans (plain_eq (argX m c) (argG m c) (argW m c) 2048 slices_S16384x4096_S16384x1024_0_2048),
      (h c).2.2.2.2.2.1.trans (plain_eq (argX m c) (argG m c) (argW m c) 3072 slices_S16384x4096_S16384x1024_0_3072),
      (h c).2.2.2.2.2.2⟩)
    (Cert.Reference5Ideal.Value.run (F := Ideal) m ρ)

end Cert.Reference5Ideal.Turn
-- ==== Proof.OddSample.lean ====
/- The sample group's projection in layer 1: its launch leaves the projected groups of columns of its rows. -/
module

public import proofs.«01_k».proof.Proof.Wide
public import proofs.«01_k».proof.Proof.Sample
public import proofs.«01_k».proof.Proof.Gen.Kernel6Ideal.Frame
public import proofs.«01_k».proof.Proof.Gen.Kernel6Ideal.Value
public import Idealize.ShloMosaic.Lib.Pipeline.ValueKit

@[expose] public section

set_option maxRecDepth 16384

noncomputable section

namespace Cert.Kernel6Ideal.Turn

open Idealize.ShloMosaic Idealize.ShloMosaic.TcCoe Idealize.SL.Sem Idealize.ShloMosaic.StableHlo
open Cert.Kernel6Ideal Cert.Kernel6Ideal.Gen
open Cert.Kernel4Ideal.Turn (angle co si place)
open Cert.Spin (hid wAt row tab tab_128 four_apply roped16_row plainArr spunArr at2)

variable (m : (ℓ : Loc nD τ sig) → Buf (Elt Ideal) ℓ)

/-- The three arguments. -/
abbrev argX (c : Dev nD) : S128x1024.Idx → EReal := m ((c.tc : Thread nD τ).loc main_arg0)
abbrev argG (c : Dev nD) : S1024.Idx → EReal := m ((c.tc : Thread nD τ).loc main_arg1)
abbrev argW (c : Dev nD) : S1024x4096.Idx → EReal := m ((c.tc : Thread nD τ).loc main_arg2)

theorem V_cos (c : Dev nD) : V m c main_v24 = concatenate S128x128 1 [⟨S128x32, co⟩, ⟨S128x32, co⟩, ⟨S128x32, co⟩, ⟨S128x32, co⟩] concatenates_S128x32_S128x32_S128x32_S128x32_S128x128_d1 := by
  unfold V
  simp only [hostOps0]
  after_results_simp
  all_goals rfl

theorem V_sin (c : Dev nD) : V m c main_v27 = concatenate S128x128 1 [⟨S128x32, Host.negf si⟩, ⟨S128x32, si⟩, ⟨S128x32, Host.negf si⟩, ⟨S128x32, si⟩] concatenates_S128x32_S128x32_S128x32_S128x32_S128x128_d1 := by
  unfold V
  simp only [hostOps0]
  after_results_simp
  all_goals rfl

theorem V_w (c : Dev nD) : V m c main_v28 = (truncf .bf16 (m ((c.tc : Thread nD τ).loc main_arg2) : FVec Ideal S1024x4096 .f32) bitsLt_bf16_f32 : FVec Ideal S1024x4096 .bf16) := by
  unfold V
  simp only [hostOps0]
  after_results_simp
  all_goals rfl

theorem V_g (c : Dev nD) : V m c main_v29 = (shapeCast S1x1024 (m ((c.tc : Thread nD τ).loc main_arg1) : FVec Ideal S1024 .f32) shapeCasts_S1024_S1x1024 : FVec Ideal S1x1024 .f32) := by
  unfold V
  simp only [hostOps0]
  after_results_simp
  all_goals rfl

theorem index_zero : ∀ t : Fin cfg0.N, ∀ a : Fin 2, win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0 ∧ win0_10.index t a = 0 :=
  (by decide +kernel : ∀ t : Fin grid0.N, ∀ a : Fin 2, win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0 ∧ win0_10.index t a = 0)

theorem blk_x (c : Dev nD) (t : Fin cfg0.N) (r : Fin 128) (k : Fin 1024) : View.ld (iblk m c 0 t) r0_1 (ix2 r k) = argX m c (ix2 r k) := by
  have e : V m c main_arg0 = argX m c := V_main_arg0 m c
  refine Eq.trans ?_ (congrFun e (ix2 r k))
  exact congrArg (V m c main_arg0) (at2 _ _ _ (place _ 128 (0 + 1 * r.val) _ (index_zero t 0).1 (by omega)) (place _ 1024 (0 + 1 * k.val) _ (index_zero t 1).1 (by omega)))

theorem blk_g (c : Dev nD) (t : Fin cfg0.N) (k : Fin 1024) : View.ld (iblk m c 1 t) r0_2 (ix2 0 k) = argG m c (ix1 k) := by
  have e : V m c main_v29 (ix2 0 k) = argG m c (ix1 k) := by
    rw [V_g]
    pointwise
  refine Eq.trans ?_ e
  exact congrArg (V m c main_v29) (at2 _ _ _ (place _ 1 (0 + 1 * 0) _ (index_zero t 0).2.1 rfl) (place _ 1024 (0 + 1 * k.val) _ (index_zero t 1).2.1 (by omega)))

theorem weight (c : Dev nD) (k : Fin 1024) (j : Fin 4096) : V m c main_v28 (ix2 k j) = wAt (argW m c) k j.val := by
  rw [V_w]
  unfold wAt
  rw [dif_pos j.isLt]
  rfl

theorem blk_w (c : Dev nD) (t : Fin cfg0.N) (o n : ℕ) (inb) (k : Fin 1024) (j : Fin n) :
    View.ld (iblk m c 2 t) (Rect.unit (s := S1024x4096) ![0, o] (⟨2, ![1024, n]⟩ : Shape).size inb) (ix2 k j) = wAt (argW m c) k (o + j.val) := by
  have hb : o + n ≤ 4096 := inb 1
  have hj := j.isLt
  refine Eq.trans ?_ (weight m c k ⟨o + j.val, by omega⟩)
  exact congrArg (V m c main_v28) (at2 _ _ _ (place _ 1024 (0 + 1 * k.val) _ (index_zero t 0).2.2.1 (by omega)) (place _ 4096 (o + 1 * j.val) _ (index_zero t 1).2.2.1 (by dsimp only; omega)))

theorem blk_c (c : Dev nD) (t : Fin cfg0.N) (r : Fin 128) (l : Fin 128) : k0_pay6 (View.ld (iblk m c 3 t) r0_0) (ix2 r l) = tab co r l.val := by
  have e : V m c main_v24 (ix2 r l) = tab co r l.val := by
    rw [V_cos]
    exact (four_apply _ _ _ r l).trans (ite_self _)
  refine Eq.trans ?_ e
  pointwise [k0_pay6]
  exact congrArg (V m c main_v24) (at2 _ _ _ (place _ 128 r.val _ (index_zero t 0).2.2.2.1 rfl) (place _ 128 l.val _ (index_zero t 1).2.2.2.1 rfl))

theorem blk_s (c : Dev nD) (t : Fin cfg0.N) (r : Fin 128) (l : Fin 128) :
    k0_pay7 (View.ld (iblk m c 4 t) r0_0) (ix2 r l) = (if l.val % 64 < 32 then -tab si r l.val else tab si r l.val : EReal) := by
  have e : V m c main_v27 (ix2 r l) = (if l.val % 64 < 32 then -tab si r l.val else tab si r l.val : EReal) := by
    rw [V_sin]
    exact four_apply _ _ _ r l
  refine Eq.trans ?_ e
  pointwise [k0_pay7]
  exact congrArg (V m c main_v27) (at2 _ _ _ (place _ 128 r.val _ (index_zero t 0).2.2.2.2.1 rfl) (place _ 128 l.val _ (index_zero t 1).2.2.2.2.1 rfl))

/-- The normed rows of a block. -/
theorem hid_block (c : Dev nD) (t : Fin cfg0.N) (r : Fin 128) (k : Fin 1024) :
    k0_pay8 (View.ld (iblk m c 0 t) r0_1) (View.ld (iblk m c 1 t) r0_2) (ix2 r k) = hid (argX m c) (fun k => argG m c (ix1 k)) r k := by
  have e : ∀ (x : Vec Ideal S128x1024 .f32) (g : Vec Ideal S1x1024 .f32), k0_pay8 x g (ix2 r k) = hid x (fun k => g (ix2 0 k)) r k := by
    intro x g
    pointwise [k0_pay8, hid]
  refine (e _ _).trans ?_
  unfold hid
  simp only [blk_x, blk_g]

/-- A group of columns of a block. -/
theorem plain_block (c : Dev nD) (t : Fin cfg0.N) (o : ℕ) (inb) (r : Fin 128) (j : Fin 1024) :
    k0_pay3 (k0_pay8 (View.ld (iblk m c 0 t) r0_1) (View.ld (iblk m c 1 t) r0_2))
      (View.ld (iblk m c 2 t) (Rect.unit (s := S1024x4096) ![0, o] S1024x1024.size inb)) (ix2 r j)
      = row (argX m c) (argG m c) (argW m c) r (o + j.val) := by
  have e : ∀ (h : FVec Ideal S128x1024 .bf16) (w : Vec Ideal S1024x1024 .bf16),
      k0_pay3 h w (ix2 r j) = ∑ k : Fin 1024, (h (ix2 r k) * w (ix2 k j) : EReal) := by
    intro h w
    pointwise [k0_pay3]
  refine (e _ _).trans (Finset.sum_congr rfl fun k _ => ?_)
  rw [hid_block]
  exact congrArg _ (blk_w m c t o 1024 inb k j)

/-- A stored group of columns is the array's. -/
theorem plain_spot (c : Dev nD) (t : Fin cfg0.N) (o : ℕ) (inb) (i : Fin 2 → ℕ) (hi : ∀ a, i a = 0) (y : S128x1024.Idx) (z : S128x1024.Idx)
    (h0 : (z 0).val = i 0 * 128 + 1 * (y 0).val) (h1 : (z 1).val = i 1 * 1024 + 1 * (y 1).val) :
    k0_pay3 (k0_pay8 (View.ld (iblk m c 0 t) r0_1) (View.ld (iblk m c 1 t) r0_2))
      (View.ld (iblk m c 2 t) (Rect.unit (s := S1024x4096) ![0, o] S1024x1024.size inb)) y
      = plainArr (argX m c) (argG m c) (argW m c) o z := by
  rw [at2 z (y 0) (y 1) (h0.trans (place _ 128 _ _ (hi 0) rfl)) (h1.trans (place _ 1024 _ _ (hi 1) rfl)), show y = ix2 (y 0) (y 1) from eq_ix2 y]
  exact plain_block m c t o inb (y 0) (y 1)

/-- A stored turned group of columns is the array's. -/
theorem spun_spot (c : Dev nD) (t : Fin cfg0.N) (o : ℕ) (inb) (i : Fin 2 → ℕ) (hi : ∀ a, i a = 0) (y : S128x1024.Idx) (z : S128x1024.Idx)
    (h0 : (z 0).val = i 0 * 128 + 1 * (y 0).val) (h1 : (z 1).val = i 1 * 1024 + 1 * (y 1).val) :
    Spin.roped16 iota_S128x128_d1_w32 rotates_S128x128_d1 slices_S128x1024_o0_0_S128x128 slices_S128x1024_o0_128_S128x128 slices_S128x1024_o0_256_S128x128 slices_S128x1024_o0_384_S128x128 slices_S128x1024_o0_512_S128x128 slices_S128x1024_o0_640_S128x128 slices_S128x1024_o0_768_S128x128 slices_S128x1024_o0_896_S128x128
      concatenates_S128x128_S128x128_S128x128_S128x128_S128x128_S128x128_S128x128_S128x128_S128x1024_d1
      (k0_pay6 (View.ld (iblk m c 3 t) r0_0)) (k0_pay7 (View.ld (iblk m c 4 t) r0_0))
      (k0_pay3 (k0_pay8 (View.ld (iblk m c 0 t) r0_1) (View.ld (iblk m c 1 t) r0_2))
        (View.ld (iblk m c 2 t) (Rect.unit (s := S1024x4096) ![0, o] S1024x1024.size inb))) y
      = spunArr co si (argX m c) (argG m c) (argW m c) o z := by
  rw [at2 z (y 0) (y 1) (h0.trans (place _ 128 _ _ (hi 0) rfl)) (h1.trans (place _ 1024 _ _ (hi 1) rfl)), show y = ix2 (y 0) (y 1) from eq_ix2 y]
  exact roped16_row _ _ _ _ _ _ _ _ _ _ _ _ _ _ (y 0) _ _ _ o (blk_c m c t (y 0)) (blk_s m c t (y 0)) (plain_block m c t o inb (y 0)) (tab_128 _ _) (tab_128 _ _) (y 1)

/-- A store through the whole of a block leaves its payload. -/
theorem whole (e : EltTy) (p : S128x1024.Idx → Elt Ideal e) : View.canon [⟨r0_1, p⟩] = p := by
  funext y
  have h := View.canon_cons_emb (Val := Elt Ideal) (e := e) r0_1 p [] y
  rwa [show r0_1.emb y = y from funext fun a => Fin.ext (match a with
    | ⟨0, _⟩ => (by omega : 0 + 1 * (y 0).val = (y 0).val) | ⟨1, _⟩ => (by omega : 0 + 1 * (y 1).val = (y 1).val))] at h

theorem final_5 (c : Dev nD) : (dats m 0 c).arrAt 5 cfg0.N = spunArr co si (argX m c) (argG m c) (argW m c) 0 := by
  refine (dats m 0 c).arrAt_eq_of_covers 5 _ (by decide +kernel) fun t _ y => ?_
  exact (congrFun (Value.flushed5 m c t) y).trans ((congrFun (whole .f32 _) y).trans (spun_spot m c t 0 _ _ (fun a => (index_zero t a).2.2.2.2.2.1) y _ rfl rfl))

theorem final_6 (c : Dev nD) : (dats m 0 c).arrAt 6 cfg0.N = spunArr co si (argX m c) (argG m c) (argW m c) 1024 := by
  refine (dats m 0 c).arrAt_eq_of_covers 6 _ (by decide +kernel) fun t _ y => ?_
  exact (congrFun (Value.flushed6 m c t) y).trans ((congrFun (whole .f32 _) y).trans (spun_spot m c t 1024 _ _ (fun a => (index_zero t a).2.2.2.2.2.2.1) y _ rfl rfl))

theorem final_7 (c : Dev nD) : (dats m 0 c).arrAt 7 cfg0.N = spunArr co si (argX m c) (argG m c) (argW m c) 1024 := by
  refine (dats m 0 c).arrAt_eq_of_covers 7 _ (by decide +kernel) fun t _ y => ?_
  exact (congrFun (Value.flushed7 m c t) y).trans ((congrFun (whole .bf16 _) y).trans (spun_spot m c t 1024 _ _ (fun a => (index_zero t a).2.2.2.2.2.2.2.1) y _ rfl rfl))

theorem final_8 (c : Dev nD) : (dats m 0 c).arrAt 8 cfg0.N = plainArr (argX m c) (argG m c) (argW m c) 2048 := by
  refine (dats m 0 c).arrAt_eq_of_covers 8 _ (by decide +kernel) fun t _ y => ?_
  exact (congrFun (Value.flushed8 m c t) y).trans ((congrFun (whole .f32 _) y).trans (plain_spot m c t 2048 _ _ (fun a => (index_zero t a).2.2.2.2.2.2.2.2.1) y _ rfl rfl))

theorem final_9 (c : Dev nD) : (dats m 0 c).arrAt 9 cfg0.N = plainArr (argX m c) (argG m c) (argW m c) 2048 := by
  refine (dats m 0 c).arrAt_eq_of_covers 9 _ (by decide +kernel) fun t _ y => ?_
  exact (congrFun (Value.flushed9 m c t) y).trans ((congrFun (whole .bf16 _) y).trans (plain_spot m c t 2048 _ _ (fun a => (index_zero t a).2.2.2.2.2.2.2.2.2.1) y _ rfl rfl))

theorem final_10 (c : Dev nD) : (dats m 0 c).arrAt 10 cfg0.N = plainArr (argX m c) (argG m c) (argW m c) 3072 := by
  refine (dats m 0 c).arrAt_eq_of_covers 10 _ (by decide +kernel) fun t _ y => ?_
  exact (congrFun (Value.flushed10 m c t) y).trans ((congrFun (whole .f32 _) y).trans (plain_spot m c t 3072 _ _ (fun a => (index_zero t a).2.2.2.2.2.2.2.2.2.2) y _ rfl rfl))

/-- The kernel's results are the projected groups of columns of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v30_0) = spunArr co si (argX m c) (argG m c) (argW m c) 0
      ∧ r.2.mem ((c.tc : Thread nD τ).loc main_v30_1) = spunArr co si (argX m c) (argG m c) (argW m c) 1024
      ∧ r.2.mem ((c.tc : Thread nD τ).loc main_v30_2) = spunArr co si (argX m c) (argG m c) (argW m c) 1024
      ∧ r.2.mem ((c.tc : Thread nD τ).loc main_v30_3) = plainArr (argX m c) (argG m c) (argW m c) 2048
      ∧ r.2.mem ((c.tc : Thread nD τ).loc main_v30_4) = plainArr (argX m c) (argG m c) (argW m c) 2048
      ∧ r.2.mem ((c.tc : Thread nD τ).loc main_v30_5) = plainArr (argX m c) (argG m c) (argW m c) 3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, hargs⟩ := h c
    exact ⟨h0.trans (final_5 m c), h1.trans (final_6 m c), h2.trans (final_7 m c), h3.trans (final_8 m c), h4.trans (final_9 m c), h5.trans (final_10 m c), hargs⟩)
    (Value.run_blocks m ρ)

end Cert.Kernel6Ideal.Turn
-- ==== Proof.OddSampleRef.lean ====
/- The sample group's reference in layer 1: its projection at an index. -/
module

public import proofs.«01_k».proof.Proof.OddSample
public import proofs.«01_k».proof.Proof.Gen.Reference6Ideal.Run

@[expose] public section

set_option maxRecDepth 16384

noncomputable section

namespace Cert.Reference6Ideal.Turn

open Idealize.ShloMosaic Idealize.ShloMosaic.TcCoe Idealize.SL.Sem
open Cert.Reference6Ideal Cert.Reference6Ideal.Gen
open Cert.Kernel4Ideal.Turn (angle)
open Cert.Spin (hid wAt row tab tab_32 tab_lane pair pair_lo pair_hi pair_eq plainArr spunArr)

/-- The projection of every row. -/
def proj (x : FVec Ideal S128x1024 .f32) (g : FVec Ideal S1024 .f32) (w : FVec Ideal S1024x4096 .f32) : FVec Ideal S128x4096 .f32 :=
  Host.dotGeneral dot_S128x1024_S1024x4096_S128x4096_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) w

theorem proj_apply (x : FVec Ideal S128x1024 .f32) (g : FVec Ideal S1024 .f32) (w : FVec Ideal S1024x4096 .f32) (t : Fin 128) (j : Fin 4096) :
    proj x g w (ix2 t j) = row x g w t j.val := by
  have hj := j.isLt
  unfold row hid wAt
  pointwise [proj]

/-- Sixteen heads turned by their positions. -/
def turned (z : FVec Ideal S128x16x64 .f32) (co si : FVec Ideal S128x32 .f32) : FVec Ideal S128x1024 .f32 :=
  shapeCast _ (concatenate S128x16x64 2 [⟨S128x16x32, (subf (mulf (extractStridedSlice S128x16x32 ![0, 0, 0] z slices_S128x16x64_S128x16x32_0_0_0) (broadcastInDim S128x16x32 ![0, 1, 2] bcast_S128x1x32_S128x16x32_0_1_2 (broadcastInDim S128x1x32 ![0, 2] bcast_S128x32_S128x1x32_0_2 co))) (mulf (extractStridedSlice S128x16x32 ![0, 0, 32] z slices_S128x16x64_S128x16x32_0_0_32) (broadcastInDim S128x16x32 ![0, 1, 2] bcast_S128x1x32_S128x16x32_0_1_2 (broadcastInDim S128x1x32 ![0, 2] bcast_S128x32_S128x1x32_0_2 si))))⟩, ⟨S128x16x32, (addf (mulf (extractStridedSlice S128x16x32 ![0, 0, 32] z slices_S128x16x64_S128x16x32_0_0_32) (broadcastInDim S128x16x32 ![0, 1, 2] bcast_S128x1x32_S128x16x32_0_1_2 (broadcastInDim S128x1x32 ![0, 2] bcast_S128x32_S128x1x32_0_2 co))) (mulf (extractStridedSlice S128x16x32 ![0, 0, 0] z slices_S128x16x64_S128x16x32_0_0_0) (broadcastInDim S128x16x32 ![0, 1, 2] bcast_S128x1x32_S128x16x32_0_1_2 (broadcastInDim S128x1x32 ![0, 2] bcast_S128x32_S128x1x32_0_2 si))))⟩] concatenates_S128x16x32_S128x16x32_S128x16x64_d2) shapeCasts_S128x16x64_S128x1024

/-- Sixteen turned heads at an index. -/
theorem turned_apply (z : FVec Ideal S128x16x64 .f32) (co si : FVec Ideal S128x32 .f32) (t : Fin 128) (R C S : ℕ → EReal) (o : ℕ)
    (hz : ∀ (h : Fin 16) (i : Fin 64), z (ix3 t h i) = R (o + (64 * h.val + i.val)))
    (hc : ∀ i : Fin 32, co (ix2 t i) = C i.val) (hs : ∀ i : Fin 32, si (ix2 t i) = S i.val) (j : Fin 1024) :
    turned z co si (ix2 t j) = pair R C S o j.val := by
  have hj := j.isLt
  pointwise [turned]
  by_cases h : j.val % 64 < 32
  · simp only [dif_pos h, hz, hc, hs]
    exact pair_lo R C S o j.val h _ _ _ _ (by omega) (by omega) (by omega) (by omega)
  · simp only [dif_neg h, hz, hc, hs]
    exact pair_hi R C S o j.val h _ _ _ _ (by omega) (by omega) (by omega) (by omega)

/-- A group of the projection's columns. -/
theorem plain_eq (x : FVec Ideal S128x1024 .f32) (g : FVec Ideal S1024 .f32) (w : FVec Ideal S1024x4096 .f32) (o : ℕ) (h : S128x4096.Slices ![0, o] S128x1024) :
    extractStridedSlice S128x1024 ![0, o] (proj x g w) h = plainArr x g w o := by
  funext y
  rw [eq_ix2 y]
  generalize y 0 = t, y 1 = j
  have hb : o + 1024 ≤ 4096 := h.2 1
  pointwise
  exact proj_apply x g w t _

/-- A group of the projection's columns, turned. -/
theorem turned_eq (x : FVec Ideal S128x1024 .f32) (g : FVec Ideal S1024 .f32) (w : FVec Ideal S1024x4096 .f32) (o : ℕ) (h : S128x4096.Slices ![0, o] S128x1024) :
    turned (shapeCast _ (extractStridedSlice S128x1024 ![0, o] (proj x g w) h) shapeCasts_S128x1024_S128x16x64) (Host.cos angle) (Host.sin angle) = spunArr (Host.cos angle) (Host.sin angle) x g w o := by
  funext y
  rw [eq_ix2 y]
  refine (turned_apply _ _ _ (y 0) (row x g w (y 0)) (tab (Host.cos angle) (y 0)) (tab (Host.sin angle) (y 0)) o (fun a i => ?_) (tab_lane _ (y 0)) (tab_lane _ (y 0)) (y 1)).trans (pair_eq _ _ _ _ _ (tab_32 _ _) (tab_32 _ _))
  rw [plain_eq]
  generalize y 0 = t
  pointwise
  exact congrArg (fun n => row x g w t (o + n)) (by show a.val * 64 + i.val = 64 * a.val + i.val; omega)

/-- The arguments of the reference. -/
abbrev argX (m : (ℓ : Loc nD τ sig) → Buf (Elt Ideal) ℓ) (c : Dev nD) : FVec Ideal S128x1024 .f32 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x4096 .f32 := m ((c.tc : Thread nD τ).loc main_arg2)

/-- The reference's results are the projected groups of columns of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = spunArr (Host.cos angle) (Host.sin angle) (argX m c) (argG m c) (argW m c) 0
      ∧ r.2.mem ((c.tc : Thread nD τ).loc main_v58) = spunArr (Host.cos angle) (Host.sin angle) (argX m c) (argG m c) (argW m c) 1024
      ∧ r.2.mem ((c.tc : Thread nD τ).loc main_v100) = spunArr (Host.cos angle) (Host.sin angle) (argX m c) (argG m c) (argW m c) 1024
      ∧ r.2.mem ((c.tc : Thread nD τ).loc main_v16) = plainArr (argX m c) (argG m c) (argW m c) 2048
      ∧ r.2.mem ((c.tc : Thread nD τ).loc main_v101) = plainArr (argX m c) (argG m c) (argW m c) 2048
      ∧ r.2.mem ((c.tc : Thread nD τ).loc main_v17) = plainArr (argX m c) (argG m c) (argW m c) 3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (turned_eq (argX m c) (argG m c) (argW m c) 0 slices_S128x4096_S128x1024_0_0),
      (h c).2.1.trans (turned_eq (argX m c) (argG m c) (argW m c) 1024 slices_S128x4096_S128x1024_0_1024),
      (h c).2.2.1.trans (turned_eq (argX m c) (argG m c) (argW m c) 1024 slices_S128x4096_S128x1024_0_1024),
      (h c).2.2.2.1.trans (plain_eq (argX m c) (argG m c) (argW m c) 2048 slices_S128x4096_S128x1024_0_2048),
      (h c).2.2.2.2.1.trans (plain_eq (argX m c) (argG m c) (argW m c) 2048 slices_S128x4096_S128x1024_0_2048),
      (h c).2.2.2.2.2.1.trans (plain_eq (argX m c) (argG m c) (argW m c) 3072 slices_S128x4096_S128x1024_0_3072),
      (h c).2.2.2.2.2.2⟩)
    (Cert.Reference6Ideal.Value.run (F := Ideal) m ρ)

end Cert.Reference6Ideal.Turn
-- ==== Proof.MemQuery.lean ====
/- The projection of the memory attention's queries: the kernel's and the reference's two groups of columns of the prompt's rows. -/
module

public import proofs.«01_k».proof.Proof.Spin
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Kernel7Ideal.Ask

open Idealize.ShloMosaic Idealize.ShloMosaic.TcCoe Idealize.SL.Sem Idealize.ShloMosaic.StableHlo
open Cert.Kernel7Ideal Cert.Kernel7Ideal.Gen
open Cert.Spin (hid wAt row plainArr)

variable (m : (ℓ : Loc nD τ sig) → Buf (Elt Ideal) ℓ)

/-- The three arguments. -/
abbrev argX (c : Dev nD) : S16384x1024.Idx → EReal := m ((c.tc : Thread nD τ).loc main_arg0)
abbrev argG (c : Dev nD) : S1024.Idx → EReal := m ((c.tc : Thread nD τ).loc main_arg1)
abbrev argW (c : Dev nD) : S1024x1024.Idx → EReal := m ((c.tc : Thread nD τ).loc main_arg2)

/-- The weights. -/
theorem V_w (c : Dev nD) : V m c main_v0 = (truncf .bf16 (m ((c.tc : Thread nD τ).loc main_arg2) : FVec Ideal S1024x1024 .f32) bitsLt_bf16_f32 : FVec Ideal S1024x1024 .bf16) := by
  unfold V
  simp only [hostOps0]
  after_results_simp
  all_goals rfl

/-- The gain as a row. -/
theorem V_g (c : Dev nD) : V m c main_v1 = (shapeCast S1x1024 (m ((c.tc : Thread nD τ).loc main_arg1) : FVec Ideal S1024 .f32) shapeCasts_S1024_S1x1024 : FVec Ideal S1x1024 .f32) := by
  unfold V
  simp only [hostOps0]
  after_results_simp
  all_goals rfl

theorem index_in : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0])

/-- A row of a block in the whole array. -/
def at_ (t : Fin cfg0.N) (r : Fin 256) : Fin 16384 := Fin.ofNat 16384 (256 * t.val + r.val)

theorem at_val (t : Fin cfg0.N) (r : Fin 256) : (at_ t r).val = 256 * t.val + r.val := by
  have hN : t.val < 64 := lt_of_lt_of_eq t.isLt (show cfg0.N = 64 from N_0)
  have hr := r.isLt
  show (256 * t.val + r.val) % 16384 = _
  omega

theorem blk_x (c : Dev nD) (t : Fin cfg0.N) (r : Fin 256) (k : Fin 1024) :
    View.ld (iblk m c 0 t) r0_0 (ix2 r k) = argX m c (ix2 (at_ t r) k) := by
  have e : V m c main_arg0 = argX m c := V_main_arg0 m c
  refine Eq.trans ?_ (congrFun e (ix2 (at_ t r) k))
  refine congrArg (V m c main_arg0) (funext fun a => Fin.ext ?_)
  have hi := (index_in t).1
  match a with
  | ⟨0, _⟩ =>
    have e : win0_0.index t 0 = t.val := by rw [hi]; rfl
    exact (by rw [e, at_val]; omega : win0_0.index t 0 * 256 + 1 * (0 + 1 * r.val) = (at_ t r).val)
  | ⟨1, _⟩ =>
    have e : win0_0.index t 1 = 0 := by rw [hi]; rfl
    exact (by rw [e]; omega : win0_0.index t 1 * 1024 + 1 * (0 + 1 * k.val) = k.val)

theorem blk_g (c : Dev nD) (t : Fin cfg0.N) (k : Fin 1024) :
    View.ld (iblk m c 1 t) r0_1 (ix2 0 k) = argG m c (ix1 k) := by
  have e : V m c main_v1 (ix2 0 k) = argG m c (ix1 k) := by
    rw [V_g]
    pointwise
  refine Eq.trans ?_ e
  refine congrArg (V m c main_v1) (funext fun a => Fin.ext ?_)
  have hi := (index_in t).2.1
  match a with
  | ⟨0, _⟩ =>
    have e : win0_1.index t 0 = 0 := by rw [hi]; rfl
    exact (by rw [e] : win0_1.index t 0 * 1 + 1 * (0 + 1 * 0) = 0)
  | ⟨1, _⟩ =>
    have e : win0_1.index t 1 = 0 := by rw [hi]; rfl
    exact (by rw [e]; omega : win0_1.index t 1 * 1024 + 1 * (0 + 1 * k.val) = k.val)

theorem weight (c : Dev nD) (k : Fin 1024) (j : Fin 1024) : V m c main_v0 (ix2 k j) = wAt (argW m c) k j.val := by
  rw [V_w]
  unfold wAt
  rw [dif_pos j.isLt]
  rfl

theorem blk_w (c : Dev nD) (t : Fin cfg0.N) (o n : ℕ) (inb) (k : Fin 1024) (j : Fin n) :
    View.ld (iblk m c 2 t) (Rect.unit (s := S1024x1024) ![0, o] (⟨2, ![1024, n]⟩ : Shape).size inb) (ix2 k j) = wAt (argW m c) k (o + j.val) := by
  have hb : o + n ≤ 1024 := inb 1
  have hj := j.isLt
  refine Eq.trans ?_ (weight m c k ⟨o + j.val, by omega⟩)
  refine congrArg (V m c main_v0) (funext fun a => Fin.ext ?_)
  have hi := (index_in t).2.2.1
  match a with
  | ⟨0, _⟩ =>
    have e : win0_2.index t 0 = 0 := by rw [hi]; rfl
    exact (by rw [e]; omega : win0_2.index t 0 * 1024 + 1 * (0 + 1 * k.val) = k.val)
  | ⟨1, _⟩ =>
    have e : win0_2.index t 1 = 0 := by rw [hi]; rfl
    exact (by rw [e]; omega : win0_2.index t 1 * 1024 + 1 * (o + 1 * j.val) = o + j.val)

/-- The normed rows of a block. -/
theorem hid_block (c : Dev nD) (t : Fin cfg0.N) (r : Fin 256) (k : Fin 1024) :
    k0_pay1 (View.ld (iblk m c 0 t) r0_0) (View.ld (iblk m c 1 t) r0_1) (ix2 r k) = hid (argX m c) (fun k => argG m c (ix1 k)) (at_ t r) k := by
  have e : ∀ (x : Vec Ideal S256x1024 .f32) (g : Vec Ideal S1x1024 .f32), k0_pay1 x g (ix2 r k) = hid x (fun k => g (ix2 0 k)) r k := by
    intro x g
    pointwise [k0_pay1, hid]
  refine (e _ _).trans ?_
  unfold hid
  simp only [blk_x, blk_g]

/-- A group of columns of a block. -/
theorem plain_block (c : Dev nD) (t : Fin cfg0.N) (o : ℕ) (inb) (r : Fin 256) (j : Fin 512) :
    k0_pay2 (View.ld (iblk m c 0 t) r0_0) (View.ld (iblk m c 1 t) r0_1)
      (View.ld (iblk m c 2 t) (Rect.unit (s := S1024x1024) ![0, o] S1024x512.size inb)) (ix2 r j)
      = row (argX m c) (argG m c) (argW m c) (at_ t r) (o + j.val) := by
  have e : ∀ (x : Vec Ideal S256x1024 .f32) (g : Vec Ideal S1x1024 .f32) (w : Vec Ideal S1024x512 .bf16),
      k0_pay2 x g w (ix2 r j) = ∑ k : Fin 1024, (k0_pay1 x g (ix2 r k) * w (ix2 k j) : EReal) := by
    intro x g w
    pointwise [k0_pay2]
  refine (e _ _ _).trans (Finset.sum_congr rfl fun k _ => ?_)
  rw [hid_block]
  exact congrArg _ (blk_w m c t o 512 inb k j)

/-- An index whose coordinates are a block's rows and its column. -/
theorem spot (t : Fin cfg0.N) (n : ℕ) (i : Fin 2 → ℕ) (hi : i = ![t.val, 0]) (r : Fin 256) (j : Fin n) (z : Shape.Idx ⟨2, ![16384, n]⟩)
    (h0 : (z 0).val = i 0 * 256 + 1 * r.val) (h1 : (z 1).val = i 1 * n + 1 * j.val) : z = ix2 (at_ t r) j := by
  have e0 : i 0 = t.val := by rw [hi]; rfl
  have e1 : i 1 = 0 := by rw [hi]; rfl
  rw [e0] at h0
  rw [e1] at h1
  funext a
  match a with
  | ⟨0, _⟩ => exact Fin.ext ((h0.trans (by omega)).trans (at_val t r).symm)
  | ⟨1, _⟩ => exact Fin.ext (h1.trans (by show 0 * n + 1 * j.val = j.val; omega))

/-- A stored group of columns is the whole array's. -/
theorem plain_spot (c : Dev nD) (t : Fin cfg0.N) (o : ℕ) (inb) (i : Fin 2 → ℕ) (hi : i = ![t.val, 0]) (y : S256x512.Idx) (z : S16384x512.Idx)
    (h0 : (z 0).val = i 0 * 256 + 1 * (y 0).val) (h1 : (z 1).val = i 1 * 512 + 1 * (y 1).val) :
    k0_pay2 (View.ld (iblk m c 0 t) r0_0) (View.ld (iblk m c 1 t) r0_1)
      (View.ld (iblk m c 2 t) (Rect.unit (s := S1024x1024) ![0, o] S1024x512.size inb)) y
      = plainArr (argX m c) (argG m c) (argW m c) o z := by
  rw [spot t 512 i hi (y 0) (y 1) z h0 h1, show y = ix2 (y 0) (y 1) from eq_ix2 y]
  exact plain_block m c t o inb (y 0) (y 1)

/-- A store through the whole of a block leaves its payload. -/
theorem whole (e : EltTy) (p : S256x512.Idx → Elt Ideal e) : View.canon [⟨r0_3, p⟩] = p := by
  funext y
  have h := View.canon_cons_emb (Val := Elt Ideal) (e := e) r0_3 p [] y
  rwa [show r0_3.emb y = y from funext fun a => Fin.ext (match a with
    | ⟨0, _⟩ => (by omega : 0 + 1 * (y 0).val = (y 0).val) | ⟨1, _⟩ => (by omega : 0 + 1 * (y 1).val = (y 1).val))] at h

theorem final_3 (c : Dev nD) : (dats m 0 c).arrAt 3 cfg0.N = plainArr (argX m c) (argG m c) (argW m c) 0 := by
  refine (dats m 0 c).arrAt_eq_of_covers 3 _ (by decide +kernel) fun t _ y => ?_
  exact (congrFun (Value.flushed3 m c t) y).trans ((congrFun (whole .f32 _) y).trans (plain_spot m c t 0 _ _ (index_in t).2.2.2.1 y _ rfl rfl))

theorem final_4 (c : Dev nD) : (dats m 0 c).arrAt 4 cfg0.N = plainArr (argX m c) (argG m c) (argW m c) 512 := by
  refine (dats m 0 c).arrAt_eq_of_covers 4 _ (by decide +kernel) fun t _ y => ?_
  exact (congrFun (Value.flushed4 m c t) y).trans ((congrFun (whole .f32 _) y).trans (plain_spot m c t 512 _ _ (index_in t).2.2.2.2 y _ rfl rfl))

/-- The kernel's results are the two groups of columns of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v2_0) = plainArr (argX m c) (argG m c) (argW m c) 0
      ∧ r.2.mem ((c.tc : Thread nD τ).loc main_v2_1) = plainArr (argX m c) (argG m c) (argW m c) 512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final_3 m c), (h c).2.1.trans (final_4 m c), (h c).2.2⟩)
    (Value.run_blocks m ρ)

end Cert.Kernel7Ideal.Ask

namespace Cert.Reference7Ideal.Ask

open Idealize.ShloMosaic Idealize.ShloMosaic.TcCoe Idealize.SL.Sem
open Cert.Reference7Ideal Cert.Reference7Ideal.Gen
open Cert.Spin (hid wAt row plainArr)

/-- The projection of every row. -/
def proj (x : FVec Ideal S16384x1024 .f32) (g : FVec Ideal S1024 .f32) (w : FVec Ideal S1024x1024 .f32) : FVec Ideal S16384x1024 .f32 :=
  Host.dotGeneral dot_S16384x1024_S1024x1024_S16384x1024_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem proj_apply (x : FVec Ideal S16384x1024 .f32) (g : FVec Ideal S1024 .f32) (w : FVec Ideal S1024x1024 .f32) (t : Fin 16384) (j : Fin 1024) :
    proj x g w (ix2 t j) = row x g w t j.val := by
  have hj := j.isLt
  unfold row hid wAt
  pointwise [proj]

/-- A group of the projection's columns. -/
theorem plain_eq (x : FVec Ideal S16384x1024 .f32) (g : FVec Ideal S1024 .f32) (w : FVec Ideal S1024x1024 .f32) (o : ℕ) (h : S16384x1024.Slices ![0, o] S16384x512) :
    extractStridedSlice S16384x512 ![0, o] (proj x g w) h = plainArr x g w o := by
  funext y
  rw [eq_ix2 y]
  generalize y 0 = t, y 1 = j
  have hb : o + 512 ≤ 1024 := h.2 1
  pointwise
  exact proj_apply x g w t _

/-- The arguments of the reference. -/
abbrev argX (m : (ℓ : Loc nD τ sig) → Buf (Elt Ideal) ℓ) (c : Dev nD) : FVec Ideal S16384x1024 .f32 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x1024 .f32 := m ((c.tc : Thread nD τ).loc main_arg2)

/-- The reference's results are the two groups of columns of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = plainArr (argX m c) (argG m c) (argW m c) 0
      ∧ r.2.mem ((c.tc : Thread nD τ).loc main_v15) = plainArr (argX m c) (argG m c) (argW m c) 512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (plain_eq (argX m c) (argG m c) (argW m c) 0 slices_S16384x1024_S16384x512_0_0),
      (h c).2.1.trans (plain_eq (argX m c) (argG m c) (argW m c) 512 slices_S16384x1024_S16384x512_0_512), (h c).2.2⟩)
    (Cert.Reference7Ideal.Value.run (F := Ideal) m ρ)

end Cert.Reference7Ideal.Ask
-- ==== Proof.SampleRef.lean ====
/- The sample group's reference: its projection at an index. -/
module

public import proofs.«01_k».proof.Proof.Sample
public import proofs.«01_k».proof.Proof.Gen.Reference4Ideal.Run

@[expose] public section

set_option maxRecDepth 16384

noncomputable section

namespace Cert.Reference4Ideal.Turn

open Idealize.ShloMosaic Idealize.ShloMosaic.TcCoe Idealize.SL.Sem
open Cert.Reference4Ideal Cert.Reference4Ideal.Gen
open Cert.Kernel4Ideal.Turn (angle)
open Cert.Spin (hid wAt row tab tab_32 tab_lane pair pair_lo pair_hi pair_eq plainArr spunArr tailArr)

/-- The projection of every row. -/
def proj (x : FVec Ideal S128x1024 .f32) (g : FVec Ideal S1024 .f32) (w : FVec Ideal S1024x4680 .f32) : FVec Ideal S128x4680 .f32 :=
  Host.dotGeneral dot_S128x1024_S1024x4680_S128x4680_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) w

theorem proj_apply (x : FVec Ideal S128x1024 .f32) (g : FVec Ideal S1024 .f32) (w : FVec Ideal S1024x4680 .f32) (t : Fin 128) (j : Fin 4680) :
    proj x g w (ix2 t j) = row x g w t j.val := by
  have hj := j.isLt
  unfold row hid wAt
  pointwise [proj]

/-- Eight heads turned by their positions. -/
def turned (z : FVec Ideal S128x8x64 .f32) (co si : FVec Ideal S128x32 .f32) : FVec Ideal S128x512 .f32 :=
  shapeCast _ (concatenate S128x8x64 2 [⟨S128x8x32, (subf (mulf (extractStridedSlice S128x8x32 ![0, 0, 0] z slices_S128x8x64_S128x8x32_0_0_0) (broadcastInDim S128x8x32 ![0, 1, 2] bcast_S128x1x32_S128x8x32_0_1_2 (broadcastInDim S128x1x32 ![0, 2] bcast_S128x32_S128x1x32_0_2 co))) (mulf (extractStridedSlice S128x8x32 ![0, 0, 32] z slices_S128x8x64_S128x8x32_0_0_32) (broadcastInDim S128x8x32 ![0, 1, 2] bcast_S128x1x32_S128x8x32_0_1_2 (broadcastInDim S128x1x32 ![0, 2] bcast_S128x32_S128x1x32_0_2 si))))⟩, ⟨S128x8x32, (addf (mulf (extractStridedSlice S128x8x32 ![0, 0, 32] z slices_S128x8x64_S128x8x32_0_0_32) (broadcastInDim S128x8x32 ![0, 1, 2] bcast_S128x1x32_S128x8x32_0_1_2 (broadcastInDim S128x1x32 ![0, 2] bcast_S128x32_S128x1x32_0_2 co))) (mulf (extractStridedSlice S128x8x32 ![0, 0, 0] z slices_S128x8x64_S128x8x32_0_0_0) (broadcastInDim S128x8x32 ![0, 1, 2] bcast_S128x1x32_S128x8x32_0_1_2 (broadcastInDim S128x1x32 ![0, 2] bcast_S128x32_S128x1x32_0_2 si))))⟩] concatenates_S128x8x32_S128x8x32_S128x8x64_d2) shapeCasts_S128x8x64_S128x512

/-- Eight turned heads at an index. -/
theorem turned_apply (z : FVec Ideal S128x8x64 .f32) (co si : FVec Ideal S128x32 .f32) (t : Fin 128) (R C S : ℕ → EReal) (o : ℕ)
    (hz : ∀ (h : Fin 8) (i : Fin 64), z (ix3 t h i) = R (o + (64 * h.val + i.val)))
    (hc : ∀ i : Fin 32, co (ix2 t i) = C i.val) (hs : ∀ i : Fin 32, si (ix2 t i) = S i.val) (j : Fin 512) :
    turned z co si (ix2 t j) = pair R C S o j.val := by
  have hj := j.isLt
  pointwise [turned]
  by_cases h : j.val % 64 < 32
  · simp only [dif_pos h, hz, hc, hs]
    exact pair_lo R C S o j.val h _ _ _ _ (by omega) (by omega) (by omega) (by omega)
  · simp only [dif_neg h, hz, hc, hs]
    exact pair_hi R C S o j.val h _ _ _ _ (by omega) (by omega) (by omega) (by omega)

/-- A group of the projection's columns. -/
theorem plain_eq (x : FVec Ideal S128x1024 .f32) (g : FVec Ideal S1024 .f32) (w : FVec Ideal S1024x4680 .f32) (o : ℕ) (h : S128x4680.Slices ![0, o] S128x512) :
    extractStridedSlice S128x512 ![0, o] (proj x g w) h = plainArr x g w o := by
  funext y
  rw [eq_ix2 y]
  generalize y 0 = t, y 1 = j
  have hb : o + 512 ≤ 4680 := h.2 1
  pointwise
  exact proj_apply x g w t _

/-- A group of the projection's columns, turned. -/
theorem turned_eq (x : FVec Ideal S128x1024 .f32) (g : FVec Ideal S1024 .f32) (w : FVec Ideal S1024x4680 .f32) (o : ℕ) (h : S128x4680.Slices ![0, o] S128x512) :
    turned (shapeCast _ (extractStridedSlice S128x512 ![0, o] (proj x g w) h) shapeCasts_S128x512_S128x8x64) (Host.cos angle) (Host.sin angle) = spunArr (Host.cos angle) (Host.sin angle) x g w o := by
  funext y
  rw [eq_ix2 y]
  refine (turned_apply _ _ _ (y 0) (row x g w (y 0)) (tab (Host.cos angle) (y 0)) (tab (Host.sin angle) (y 0)) o (fun a i => ?_) (tab_lane _ (y 0)) (tab_lane _ (y 0)) (y 1)).trans (pair_eq _ _ _ _ _ (tab_32 _ _) (tab_32 _ _))
  rw [plain_eq]
  generalize y 0 = t
  pointwise
  exact congrArg (fun n => row x g w t (o + n)) (by show a.val * 64 + i.val = 64 * a.val + i.val; omega)

/-- One head turned by its position, the scaled weights, and zeros. -/
def tail (z : FVec Ideal S128x1x64 .f32) (u : FVec Ideal S128x8 .f32) (co si : FVec Ideal S128x32 .f32) : FVec Ideal S128x128 .f32 :=
  (concatenate S128x128 1 [⟨S128x64, ((shapeCast _ (concatenate S128x1x64 2 [⟨S128x1x32, (subf (mulf (extractStridedSlice S128x1x32 ![0, 0, 0] z slices_S128x1x64_S128x1x32_0_0_0) (broadcastInDim S128x1x32 ![0, 2] bcast_S128x32_S128x1x32_0_2 co)) (mulf (extractStridedSlice S128x1x32 ![0, 0, 32] z slices_S128x1x64_S128x1x32_0_0_32) (broadcastInDim S128x1x32 ![0, 2] bcast_S128x32_S128x1x32_0_2 si)))⟩, ⟨S128x1x32, (addf (mulf (extractStridedSlice S128x1x32 ![0, 0, 32] z slices_S128x1x64_S128x1x32_0_0_32) (broadcastInDim S128x1x32 ![0, 2] bcast_S128x32_S128x1x32_0_2 co)) (mulf (extractStridedSlice S128x1x32 ![0, 0, 0] z slices_S128x1x64_S128x1x32_0_0_0) (broadcastInDim S128x1x32 ![0, 2] bcast_S128x32_S128x1x32_0_2 si)))⟩] concatenates_S128x1x32_S128x1x32_S128x1x64_d2) shapeCasts_S128x1x64_S128x64) : (⟨S128x64, .f32⟩ : BufTy).Contents (Elt Ideal))⟩, ⟨S128x8, ((mulf u (broadcastInDim S128x8 ![] bcast_S_S128x8 (constant S_ .f32 0x3D3504F3#32))) : (⟨S128x8, .f32⟩ : BufTy).Contents (Elt Ideal))⟩, ⟨S128x56, ((broadcastInDim S128x56 ![] bcast_S_S128x56 (constant (F := Ideal) S_ .f32 0x00000000#32)) : (⟨S128x56, .f32⟩ : BufTy).Contents (Elt Ideal))⟩] concatenates_S128x64_S128x8_S128x56_S128x128_d1 : (⟨S128x128, .f32⟩ : BufTy).Contents (Elt Ideal))

theorem tail_apply (z : FVec Ideal S128x1x64 .f32) (u : FVec Ideal S128x8 .f32) (co si : FVec Ideal S128x32 .f32) (t : Fin 128) (R C S : ℕ → EReal) (o : ℕ)
    (hz : ∀ i : Fin 64, z (ix3 t (0 : Fin 1) i) = R (o + i.val)) (hu : ∀ i : Fin 8, u (ix2 t i) = R (o + (64 + i.val)))
    (hc : ∀ i : Fin 32, co (ix2 t i) = C i.val) (hs : ∀ i : Fin 32, si (ix2 t i) = S i.val) (j : Fin 128) :
    tail z u co si (ix2 t j) = if j.val < 64 then pair R C S o j.val
      else if j.val < 72 then R (o + j.val) * Ideal.ofBits .f32 0x3D3504F3#32 else 0 := by
  have hj := j.isLt
  pointwise [tail]
  by_cases h : j.val < 64
  · rw [dif_pos h, if_pos h]
    by_cases h' : j.val < 32
    · rw [dif_pos h', hz, hz, hc, hs]
      exact pair_lo R C S o j.val (by omega) _ _ _ _ (by dsimp only) (by dsimp only; omega) (by dsimp only; omega) (by dsimp only; omega)
    · rw [dif_neg h', hz, hz, hc, hs]
      exact pair_hi R C S o j.val (by omega) _ _ _ _ (by dsimp only; omega) (by dsimp only) (by dsimp only; omega) (by dsimp only; omega)
  · rw [dif_neg h, if_neg h]
    by_cases h' : j.val - 64 < 8
    · rw [dif_pos h', if_pos (show j.val < 72 by omega), hu]
      exact congrArg (fun n => R (o + n) * Ideal.ofBits .f32 0x3D3504F3#32) (by dsimp only; omega)
    · rw [dif_neg h', if_neg (show ¬j.val < 72 by omega)]

/-- The last columns of the projection: a turned head, scaled weights, zeros. -/
theorem tail_eq (x : FVec Ideal S128x1024 .f32) (g : FVec Ideal S1024 .f32) (w : FVec Ideal S1024x4680 .f32) (h) (h') (h'') :
    tail (shapeCast _ (extractStridedSlice S128x64 ![0, 4608] (proj x g w) h) h') (extractStridedSlice S128x8 ![0, 4672] (proj x g w) h'') (Host.cos angle) (Host.sin angle) = tailArr (Host.cos angle) (Host.sin angle) x g w := by
  have key : ∀ (t : Fin 128) (j : Fin 128), tail (shapeCast _ (extractStridedSlice S128x64 ![0, 4608] (proj x g w) h) h') (extractStridedSlice S128x8 ![0, 4672] (proj x g w) h'') (Host.cos angle) (Host.sin angle) (ix2 t j) = tailArr (Host.cos angle) (Host.sin angle) x g w (ix2 t j) := by
    intro t j
    refine (tail_apply _ _ _ _ t (row x g w t) (tab (Host.cos angle) t) (tab (Host.sin angle) t) 4608 (fun i => ?_) (fun i => ?_) (tab_lane _ t) (tab_lane _ t) j).trans ?_
    · pointwise
      exact proj_apply x g w t _
    · pointwise
      refine (proj_apply x g w t _).trans (congrArg (row x g w t) ?_)
      dsimp only
      omega
    · rw [pair_eq _ _ _ _ _ (tab_32 _ _) (tab_32 _ _)]
      rfl
  funext y
  rw [eq_ix2 y]
  exact key (y 0) (y 1)

/-- The arguments of the reference. -/
abbrev argX (m : (ℓ : Loc nD τ sig) → Buf (Elt Ideal) ℓ) (c : Dev nD) : FVec Ideal S128x1024 .f32 := m ((c.tc : Thread nD τ).loc main_arg0)
abbrev argG (m : (ℓ : Loc nD τ sig) → Buf (Elt Ideal) ℓ) (c : Dev nD) : FVec Ideal S1024 .f32 := m ((c.tc : Thread nD τ).loc main_arg1)
abbrev argW (m : (ℓ : Loc nD τ sig) → Buf (Elt Ideal) ℓ) (c : Dev nD) : FVec Ideal S1024x4680 .f32 := m ((c.tc : Thread nD τ).loc main_arg2)

theorem proj_res (m : (ℓ : Loc nD τ sig) → Buf (Elt Ideal) ℓ) (c : Dev nD) :
    Value.res_main_v13 (F := Ideal) (StableHlo.launchContents m c) = proj (argX m c) (argG m c) (argW m c) := rfl
theorem angle_res (m : (ℓ : Loc nD τ sig) → Buf (Elt Ideal) ℓ) (c : Dev nD) :
    Value.res_main_v47 (F := Ideal) (StableHlo.launchContents m c) = angle := rfl

/-- The reference's results are the projected groups of columns of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v188) = spunArr (Host.cos angle) (Host.sin angle) (argX m c) (argG m c) (argW m c) 0
      ∧ r.2.mem ((c.tc : Thread nD τ).loc main_v65) = spunArr (Host.cos angle) (Host.sin angle) (argX m c) (argG m c) (argW m c) 512
      ∧ r.2.mem ((c.tc : Thread nD τ).loc main_v189) = spunArr (Host.cos angle) (Host.sin angle) (argX m c) (argG m c) (argW m c) 512
      ∧ r.2.mem ((c.tc : Thread nD τ).loc main_v16) = plainArr (argX m c) (argG m c) (argW m c) 1024
      ∧ r.2.mem ((c.tc : Thread nD τ).loc main_v190) = plainArr (argX m c) (argG m c) (argW m c) 1024
      ∧ r.2.mem ((c.tc : Thread nD τ).loc main_v17) = plainArr (argX m c) (argG m c) (argW m c) 1536
      ∧ r.2.mem ((c.tc : Thread nD τ).loc main_v231) = spunArr (Host.cos angle) (Host.sin angle) (argX m c) (argG m c) (argW m c) 2048
      ∧ r.2.mem ((c.tc : Thread nD τ).loc main_v106) = spunArr (Host.cos angle) (Host.sin angle) (argX m c) (argG m c) (argW m c) 2560
      ∧ r.2.mem ((c.tc : Thread nD τ).loc main_v232) = spunArr (Host.cos angle) (Host.sin angle) (argX m c) (argG m c) (argW m c) 2560
      ∧ r.2.mem ((c.tc : Thread nD τ).loc main_v20) = plainArr (argX m c) (argG m c) (argW m c) 3072
      ∧ r.2.mem ((c.tc : Thread nD τ).loc main_v233) = plainArr (argX m c) (argG m c) (argW m c) 3072
      ∧ r.2.mem ((c.tc : Thread nD τ).loc main_v21) = plainArr (argX m c) (argG m c) (argW m c) 3584
      ∧ r.2.mem ((c.tc : Thread nD τ).loc main_v274) = spunArr (Host.cos angle) (Host.sin angle) (argX m c) (argG m c) (argW m c) 4096
      ∧ r.2.mem ((c.tc : Thread nD τ).loc main_v147) = tailArr (Host.cos angle) (Host.sin angle) (argX m c) (argG m c) (argW m c)
      ∧ r.2.mem ((c.tc : Thread nD τ).loc main_v275) = tailArr (Host.cos angle) (Host.sin angle) (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (turned_eq (argX m c) (argG m c) (argW m c) 0 _),
      (h c).2.1.trans (turned_eq (argX m c) (argG m c) (argW m c) 512 _),
      (h c).2.2.1.trans (turned_eq (argX m c) (argG m c) (argW m c) 512 _),
      (h c).2.2.2.1.trans (plain_eq (argX m c) (argG m c) (argW m c) 1024 slices_S128x4680_S128x512_0_1024),
      (h c).2.2.2.2.1.trans (plain_eq (argX m c) (argG m c) (argW m c) 1024 slices_S128x4680_S128x512_0_1024),
      (h c).2.2.2.2.2.1.trans (plain_eq (argX m c) (argG m c) (argW m c) 1536 slices_S128x4680_S128x512_0_1536),
      (h c).2.2.2.2.2.2.1.trans (turned_eq (argX m c) (argG m c) (argW m c) 2048 _),
      (h c).2.2.2.2.2.2.2.1.trans (turned_eq (argX m c) (argG m c) (argW m c) 2560 _),
      (h c).2.2.2.2.2.2.2.2.1.trans (turned_eq (argX m c) (argG m c) (argW m c) 2560 _),
      (h c).2.2.2.2.2.2.2.2.2.1.trans (plain_eq (argX m c) (argG m c) (argW m c) 3072 slices_S128x4680_S128x512_0_3072),
      (h c).2.2.2.2.2.2.2.2.2.2.1.trans (plain_eq (argX m c) (argG m c) (argW m c) 3072 slices_S128x4680_S128x512_0_3072),
      (h c).2.2.2.2.2.2.2.2.2.2.2.1.trans (plain_eq (argX m c) (argG m c) (argW m c) 3584 slices_S128x4680_S128x512_0_3584),
      (h c).2.2.2.2.2.2.2.2.2.2.2.2.1.trans (turned_eq (argX m c) (argG m c) (argW m c) 4096 _),
      (h c).2.2.2.2.2.2.2.2.2.2.2.2.2.1.trans (tail_eq (argX m c) (argG m c) (argW m c) _ _ _),
      (h c).2.2.2.2.2.2.2.2.2.2.2.2.2.2.1.trans (tail_eq (argX m c) (argG m c) (argW m c) _ _ _),
      (h c).2.2.2.2.2.2.2.2.2.2.2.2.2.2.2⟩)
    (Cert.Reference4Ideal.Value.run (F := Ideal) m ρ)

end Cert.Reference4Ideal.Turn
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import proofs.«01_k».proof.Proof.Gen.Pre_finite
public import proofs.«01_k».proof.Proof.Kept
public import proofs.«01_k».proof.Proof.KeptIdeal
public import proofs.«01_k».proof.Proof.ValueFrame
public import proofs.«01_k».proof.Proof.Reals
public import proofs.«01_k».proof.Proof.RefValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.ProjRun
public import proofs.«01_k».proof.Proof.RefProj
public import proofs.«01_k».proof.Proof.Mem
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Sample
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Odd
public import proofs.«01_k».proof.Proof.OddRef
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.OddSample
public import proofs.«01_k».proof.Proof.OddSampleRef
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.MemQuery
public import proofs.«01_k».proof.Proof.SampleRef
public import Idealize.ShloMosaic.Lib.Quiescent
public import Idealize.ShloMosaic.Adequacy
public import Idealize.ShloMosaic.Init

@[expose] public section

noncomputable section

namespace Cert.Proof

open Idealize.ShloMosaic Idealize.SL.Sem

/-- The reference keeps its arguments and ends with every counter at zero. -/
theorem reference_frame : letI := Cert.ReferenceIdeal.Gen.facts; Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are the words they stand for. -/
theorem named : letI := Cert.Kernel.Gen.facts; letI := Cert.KernelIdeal.Gen.facts; Cert.preserves_Kernel_KernelIdeal :=
  ⟨IdealRules.named_const.statement Cert.KernelIdeal.κ "mask" .f32 0xF149F2CA#32 ⊥ rfl,
    IdealRules.named_const.statement Cert.KernelIdeal.κ "q_scale" .f32 0x3E38AA3B#32 (((Real.log 2)⁻¹ * (Real.sqrt 64)⁻¹ : ℝ) : EReal) rfl⟩

/-- At finite arguments the kernel and the reference leave the same result. -/
theorem agree : letI := Cert.KernelIdeal.Gen.facts; letI := Cert.ReferenceIdeal.Gen.facts; letI := Cert.Pre_finite.Gen.facts
    Cert.algebraic_KernelIdeal_ReferenceIdeal_pre_finite := by
  intro m ρ m' ρ' hfin hagree
  have hf := fun c => Cert.KernelIdeal.Head.finite_of_pre _ _ _ _ (hfin c)
  refine ⟨_, Cert.KernelIdeal.Head.run m ρ hf, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.ReferenceIdeal.Attend.res_eq, h0, h1, h2, h3]
  exact Cert.ReferenceIdeal.Attend.result _ _ _ _ (hf c)

/-- The projection's reference keeps its arguments and ends with every counter at zero. -/
theorem reference2_frame : letI := Cert.Reference2Ideal.Gen.facts; Cert.quiescent_Reference2Ideal := fun m ρ _ =>
  (θ_run Cert.Reference2Ideal.defs _ _).mono (fun r h => ⟨fun c => (h c).2.2.2.2.2.2.2.2.2.2.2.2.2.2.2, sem_eq_zero_of_no_sems (by decide) r.2⟩)
    (Cert.Reference2Ideal.Value.run (F := Ideal) m ρ)

/-- At every argument the projection and its reference leave the same results. -/
theorem agree2 : letI := Cert.Kernel2Ideal.Gen.facts; letI := Cert.Reference2Ideal.Gen.facts
    Cert.algebraic_Kernel2Ideal_Reference2Ideal := by
  intro m ρ m' ρ' _ hagree
  have hx : ∀ c, Cert.Reference2Ideal.Turn.argX m' c = Cert.Kernel2Ideal.Turn.argX m c := fun c => (hagree c).1
  have hg : ∀ c, Cert.Reference2Ideal.Turn.argG m' c = Cert.Kernel2Ideal.Turn.argG m c := fun c => (hagree c).2.1
  have hw : ∀ c, Cert.Reference2Ideal.Turn.argW m' c = Cert.Kernel2Ideal.Turn.argW m c := fun c => (hagree c).2.2
  have hs := fun c o => congr (congr (congrArg Cert.Kernel2Ideal.Turn.spunArr (hx c)) (hg c)) (hw c) |> fun e => congrFun e o
  have hp := fun c o => congr (congr (congrArg Cert.Kernel2Ideal.Turn.plainArr (hx c)) (hg c)) (hw c) |> fun e => congrFun e o
  have ht := fun c => congr (congr (congrArg Cert.Kernel2Ideal.Turn.tailArr (hx c)) (hg c)) (hw c)
  refine ⟨_, _, _, _, _, _, _, _, _, _, _, _, _, _, _, Cert.Kernel2Ideal.Turn.run m ρ, ?_⟩
  exact (θ_run Cert.Reference2Ideal.defs _ _).mono (fun r h c => ⟨(h c).1.trans (hs c 0),
      (h c).2.1.trans (hs c 512),
      (h c).2.2.1.trans (hs c 512),
      (h c).2.2.2.1.trans (hp c 1024),
      (h c).2.2.2.2.1.trans (hp c 1024),
      (h c).2.2.2.2.2.1.trans (hp c 1536),
      (h c).2.2.2.2.2.2.1.trans (hs c 2048),
      (h c).2.2.2.2.2.2.2.1.trans (hs c 2560),
      (h c).2.2.2.2.2.2.2.2.1.trans (hs c 2560),
      (h c).2.2.2.2.2.2.2.2.2.1.trans (hp c 3072),
      (h c).2.2.2.2.2.2.2.2.2.2.1.trans (hp c 3072),
      (h c).2.2.2.2.2.2.2.2.2.2.2.1.trans (hp c 3584),
      (h c).2.2.2.2.2.2.2.2.2.2.2.2.1.trans (hs c 4096),
      (h c).2.2.2.2.2.2.2.2.2.2.2.2.2.1.trans (ht c),
      (h c).2.2.2.2.2.2.2.2.2.2.2.2.2.2.1.trans (ht c),
      (h c).2.2.2.2.2.2.2.2.2.2.2.2.2.2.2⟩)
    (Cert.Reference2Ideal.Turn.run m' ρ')

/-- The memory's reference keeps its arguments and ends with every counter at zero. -/
theorem reference3_frame : letI := Cert.Reference3Ideal.Gen.facts; Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- At every argument the memory's projection and its reference leave the same results. -/
theorem agree3 : letI := Cert.Kernel3Ideal.Gen.facts; letI := Cert.Reference3Ideal.Gen.facts
    Cert.algebraic_Kernel3Ideal_Reference3Ideal := by
  intro m ρ m' ρ' _ hagree
  refine ⟨_, _, Cert.Kernel3Ideal.Mem.run m ρ, ?_⟩
  refine (θ_run Cert.Reference3Ideal.defs _ _).mono (fun r h c => ⟨(h c).1.trans ?_, (h c).2.1.trans ?_, (h c).2.2⟩)
    (Cert.Reference3Ideal.Value.run (F := Ideal) m' ρ')
  · obtain ⟨h0, h1, h2⟩ := hagree c
    rw [h0, h1]
    exact Cert.Kernel3Ideal.Mem.dot_eq _ _
  · obtain ⟨h0, h1, h2⟩ := hagree c
    rw [h0, h2]
    exact Cert.Kernel3Ideal.Mem.dot_eq _ _

/-- The sample group's reference keeps its arguments and ends with every counter at zero. -/
theorem reference4_frame : letI := Cert.Reference4Ideal.Gen.facts; Cert.quiescent_Reference4Ideal := fun m ρ _ =>
  (θ_run Cert.Reference4Ideal.defs _ _).mono (fun r h => ⟨fun c => (h c).2.2.2.2.2.2.2.2.2.2.2.2.2.2.2, sem_eq_zero_of_no_sems (by decide) r.2⟩)
    (Cert.Reference4Ideal.Value.run (F := Ideal) m ρ)

/-- At every argument the sample group's projection and its reference leave the same results. -/
theorem agree4 : letI := Cert.Kernel4Ideal.Gen.facts; letI := Cert.Reference4Ideal.Gen.facts
    Cert.algebraic_Kernel4Ideal_Reference4Ideal := by
  intro m ρ m' ρ' _ hagree
  have hx : ∀ c, Cert.Reference4Ideal.Turn.argX m' c = Cert.Kernel4Ideal.Turn.argX m c := fun c => (hagree c).1
  have hg : ∀ c, Cert.Reference4Ideal.Turn.argG m' c = Cert.Kernel4Ideal.Turn.argG m c := fun c => (hagree c).2.1
  have hw : ∀ c, Cert.Reference4Ideal.Turn.argW m' c = Cert.Kernel4Ideal.Turn.argW m c := fun c => (hagree c).2.2
  have hs := fun c o => congr (congr (congrArg (Cert.Spin.spunArr (W := 512) Cert.Kernel4Ideal.Turn.co Cert.Kernel4Ideal.Turn.si) (hx c)) (hg c)) (hw c) |> fun e => congrFun e o
  have hp := fun c o => congr (congr (congrArg (Cert.Spin.plainArr (W := 512)) (hx c)) (hg c)) (hw c) |> fun e => congrFun e o
  have ht := fun c => congr (congr (congrArg (Cert.Spin.tailArr Cert.Kernel4Ideal.Turn.co Cert.Kernel4Ideal.Turn.si) (hx c)) (hg c)) (hw c)
  refine ⟨_, _, _, _, _, _, _, _, _, _, _, _, _, _, _, Cert.Kernel4Ideal.Turn.run m ρ, ?_⟩
  exact (θ_run Cert.Reference4Ideal.defs _ _).mono (fun r h c => ⟨(h c).1.trans (hs c 0),
      (h c).2.1.trans (hs c 512),
      (h c).2.2.1.trans (hs c 512),
      (h c).2.2.2.1.trans (hp c 1024),
      (h c).2.2.2.2.1.trans (hp c 1024),
      (h c).2.2.2.2.2.1.trans (hp c 1536),
      (h c).2.2.2.2.2.2.1.trans (hs c 2048),
      (h c).2.2.2.2.2.2.2.1.trans (hs c 2560),
      (h c).2.2.2.2.2.2.2.2.1.trans (hs c 2560),
      (h c).2.2.2.2.2.2.2.2.2.1.trans (hp c 3072),
      (h c).2.2.2.2.2.2.2.2.2.2.1.trans (hp c 3072),
      (h c).2.2.2.2.2.2.2.2.2.2.2.1.trans (hp c 3584),
      (h c).2.2.2.2.2.2.2.2.2.2.2.2.1.trans (hs c 4096),
      (h c).2.2.2.2.2.2.2.2.2.2.2.2.2.1.trans (ht c),
      (h c).2.2.2.2.2.2.2.2.2.2.2.2.2.2.1.trans (ht c),
      (h c).2.2.2.2.2.2.2.2.2.2.2.2.2.2.2⟩)
    (Cert.Reference4Ideal.Turn.run m' ρ')

/-- The layer-1 reference keeps its arguments and ends with every counter at zero. -/
theorem reference5_frame : letI := Cert.Reference5Ideal.Gen.facts; Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- At every argument the projection of layer 1 and its reference leave the same results. -/
theorem agree5 : letI := Cert.Kernel5Ideal.Gen.facts; letI := Cert.Reference5Ideal.Gen.facts
    Cert.algebraic_Kernel5Ideal_Reference5Ideal := by
  intro m ρ m' ρ' _ hagree
  have hx : ∀ c, Cert.Reference5Ideal.Turn.argX m' c = Cert.Kernel5Ideal.Turn.argX m c := fun c => (hagree c).1
  have hg : ∀ c, Cert.Reference5Ideal.Turn.argG m' c = Cert.Kernel5Ideal.Turn.argG m c := fun c => (hagree c).2.1
  have hw : ∀ c, Cert.Reference5Ideal.Turn.argW m' c = Cert.Kernel5Ideal.Turn.argW m c := fun c => (hagree c).2.2
  have hs := fun c o => congr (congr (congrArg Cert.Kernel5Ideal.Turn.spunArr (hx c)) (hg c)) (hw c) |> fun e => congrFun e o
  have hp := fun c o => congr (congr (congrArg Cert.Kernel5Ideal.Turn.plainArr (hx c)) (hg c)) (hw c) |> fun e => congrFun e o
  refine ⟨_, _, _, _, _, _, Cert.Kernel5Ideal.Turn.run m ρ, ?_⟩
  exact (θ_run Cert.Reference5Ideal.defs _ _).mono (fun r h c => ⟨(h c).1.trans (hs c 0),
      (h c).2.1.trans (hs c 1024),
      (h c).2.2.1.trans (hs c 1024),
      (h c).2.2.2.1.trans (hp c 2048),
      (h c).2.2.2.2.1.trans (hp c 2048),
      (h c).2.2.2.2.2.1.trans (hp c 3072),
      (h c).2.2.2.2.2.2⟩)
    (Cert.Reference5Ideal.Turn.run m' ρ')

/-- The sample group's layer-1 reference keeps its arguments and ends with every counter at zero. -/
theorem reference6_frame : letI := Cert.Reference6Ideal.Gen.facts; Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- At every argument the sample group's projection of layer 1 and its reference leave the same results. -/
theorem agree6 : letI := Cert.Kernel6Ideal.Gen.facts; letI := Cert.Reference6Ideal.Gen.facts
    Cert.algebraic_Kernel6Ideal_Reference6Ideal := by
  intro m ρ m' ρ' _ hagree
  have hx : ∀ c, Cert.Reference6Ideal.Turn.argX m' c = Cert.Kernel6Ideal.Turn.argX m c := fun c => (hagree c).1
  have hg : ∀ c, Cert.Reference6Ideal.Turn.argG m' c = Cert.Kernel6Ideal.Turn.argG m c := fun c => (hagree c).2.1
  have hw : ∀ c, Cert.Reference6Ideal.Turn.argW m' c = Cert.Kernel6Ideal.Turn.argW m c := fun c => (hagree c).2.2
  have hs := fun c o => congr (congr (congrArg (Cert.Spin.spunArr (W := 1024) Cert.Kernel4Ideal.Turn.co Cert.Kernel4Ideal.Turn.si) (hx c)) (hg c)) (hw c) |> fun e => congrFun e o
  have hp := fun c o => congr (congr (congrArg (Cert.Spin.plainArr (W := 1024)) (hx c)) (hg c)) (hw c) |> fun e => congrFun e o
  refine ⟨_, _, _, _, _, _, Cert.Kernel6Ideal.Turn.run m ρ, ?_⟩
  exact (θ_run Cert.Reference6Ideal.defs _ _).mono (fun r h c => ⟨(h c).1.trans (hs c 0),
      (h c).2.1.trans (hs c 1024),
      (h c).2.2.1.trans (hs c 1024),
      (h c).2.2.2.1.trans (hp c 2048),
      (h c).2.2.2.2.1.trans (hp c 2048),
      (h c).2.2.2.2.2.1.trans (hp c 3072),
      (h c).2.2.2.2.2.2⟩)
    (Cert.Reference6Ideal.Turn.run m' ρ')

/-- The reference of the memory's queries keeps its arguments and ends with every counter at zero. -/
theorem reference7_frame : letI := Cert.Reference7Ideal.Gen.facts; Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- At every argument the projection of the memory's queries and its reference leave the same results. -/
theorem agree7 : letI := Cert.Kernel7Ideal.Gen.facts; letI := Cert.Reference7Ideal.Gen.facts
    Cert.algebraic_Kernel7Ideal_Reference7Ideal := by
  intro m ρ m' ρ' _ hagree
  have hx : ∀ c, Cert.Reference7Ideal.Ask.argX m' c = Cert.Kernel7Ideal.Ask.argX m c := fun c => (hagree c).1
  have hg : ∀ c, Cert.Reference7Ideal.Ask.argG m' c = Cert.Kernel7Ideal.Ask.argG m c := fun c => (hagree c).2.1
  have hw : ∀ c, Cert.Reference7Ideal.Ask.argW m' c = Cert.Kernel7Ideal.Ask.argW m c := fun c => (hagree c).2.2
  have hp := fun c o => congr (congr (congrArg (Cert.Spin.plainArr (W := 512)) (hx c)) (hg c)) (hw c) |> fun e => congrFun e o
  refine ⟨_, _, Cert.Kernel7Ideal.Ask.run m ρ, ?_⟩
  exact (θ_run Cert.Reference7Ideal.defs _ _).mono (fun r h c => ⟨(h c).1.trans (hp c 0), (h c).2.1.trans (hp c 512), (h c).2.2⟩)
    (Cert.Reference7Ideal.Ask.run m' ρ')

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  fun m ρ _ => Cert.Kernel.Kept.frame m ρ, fun m ρ _ => Cert.KernelIdeal.Kept.frame m ρ, fun m ρ _ => Cert.KernelIdeal.Kept.frame m ρ,
  reference_frame, fun m ρ _ => reference_frame m ρ trivial, fun m ρ _ => Cert.Kernel2.Gen.frame m ρ, fun m ρ _ => Cert.Kernel2Ideal.Gen.frame m ρ,
  reference2_frame, fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  named, agree, trivial, agree2, trivial, agree3, trivial, agree4, trivial, agree5, trivial, agree6, trivial, agree7⟩

end Cert.Proof

end
